-- ==== Defs.lean ====
def Pre_Kernel [hPre_rows_in_table : Cert.Pre_rows_in_table.Facts] (m : (ℓ : Loc Cert.Kernel.nD Cert.Kernel.τ Cert.Kernel.sig) → Buf (Elt Bits) ℓ) : Prop :=
  ∀ c : Dev Cert.Kernel.nD,
    (Cert.Pre_rows_in_table.fn (F := Bits) (m ((c.tc : Thread Cert.Kernel.nD Cert.Kernel.τ).loc Cert.Kernel.main_arg0))) = (fun _ => 1#1)

def Pre_KernelIdeal [hPre_rows_in_table : Cert.Pre_rows_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_table.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_in_table [hPre_rows_in_table : Cert.Pre_rows_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_in_table.fn (F := Ideal) (m ((c.tc : Thread Cert.ReferenceIdeal.nD Cert.ReferenceIdeal.τ).loc Cert.ReferenceIdeal.main_arg0))) = (fun _ => 1#1)

def Pre_Reference [hPre_rows_in_table : Cert.Pre_rows_in_table.Facts] (m : (ℓ : Loc Cert.Reference.nD Cert.Reference.τ Cert.Reference.sig) → Buf (Elt Bits) ℓ) : Prop :=
  ∀ c : Dev Cert.Reference.nD,
    (Cert.Pre_rows_in_table.fn (F := Bits) (m ((c.tc : Thread Cert.Reference.nD Cert.Reference.τ).loc Cert.Reference.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_experts_exist : Cert.Pre_experts_exist.Facts] (m : (ℓ : Loc Cert.Kernel3.nD Cert.Kernel3.τ Cert.Kernel3.sig) → Buf (Elt Bits) ℓ) : Prop :=
  ∀ c : Dev Cert.Kernel3.nD,
    (Cert.Pre_experts_exist.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5))) = (fun _ => 1#1)

def Pre_Kernel3Ideal [hPre_experts_exist : Cert.Pre_experts_exist.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_experts_exist.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_experts_exist [hPre_experts_exist : Cert.Pre_experts_exist.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_experts_exist.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] [hPre_rows_in_table : Cert.Pre_rows_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] [hPre_rows_in_table : Cert.Pre_rows_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_rows_in_table [hReferenceIdeal : Cert.ReferenceIdeal.Facts] [hPre_rows_in_table : Cert.Pre_rows_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] [hPre_rows_in_table : Cert.Pre_rows_in_table.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15)
      ∧ r.2.mem ((c.tc : Thread Cert.Kernel2.nD Cert.Kernel2.τ).loc Cert.Kernel2.main_arg16) = m ((c.tc : Thread Cert.Kernel2.nD Cert.Kernel2.τ).loc Cert.Kernel2.main_arg16))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16))
      ∧ r.2.sem = fun _ => 0)

def quiescent_Kernel3 [hKernel3 : Cert.Kernel3.Facts] [hPre_experts_exist : Cert.Pre_experts_exist.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] [hPre_experts_exist : Cert.Pre_experts_exist.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_experts_exist [hReference3Ideal : Cert.Reference3Ideal.Facts] [hPre_experts_exist : Cert.Pre_experts_exist.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_experts_exist m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11))
      ∧ r.2.sem = fun _ => 0)

def preserves_Kernel_KernelIdeal : Prop :=
  True

def bitexact_Kernel_Reference [hKernel : Cert.Kernel.Facts] [hReference : Cert.Reference.Facts] [hPre_rows_in_table : Cert.Pre_rows_in_table.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v2)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v10) = v0 c
          ∧ r.2.mem ((c.tc : Thread Cert.Reference.nD Cert.Reference.τ).loc Cert.Reference.main_arg0) = m' ((c.tc : Thread Cert.Reference.nD Cert.Reference.τ).loc Cert.Reference.main_arg0))

def algebraic_KernelIdeal_ReferenceIdeal [hKernelIdeal : Cert.KernelIdeal.Facts] [hReferenceIdeal : Cert.ReferenceIdeal.Facts] [hPre_rows_in_table : Cert.Pre_rows_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)
      ∧ m' ((c.tc : Thread Cert.Reference2Ideal.nD Cert.Reference2Ideal.τ).loc Cert.Reference2Ideal.main_arg16) = m ((c.tc : Thread Cert.Kernel2Ideal.nD Cert.Kernel2Ideal.τ).loc Cert.Kernel2Ideal.main_arg16)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)) (v2 : (c : Dev Cert.Kernel2Ideal.nD) → Buf (Elt Ideal) ((c.tc : Thread Cert.Kernel2Ideal.nD Cert.Kernel2Ideal.τ).loc Cert.Kernel2Ideal.main_v3_2)) (v3 : (c : Dev Cert.Kernel2Ideal.nD) → Buf (Elt Ideal) ((c.tc : Thread Cert.Kernel2Ideal.nD Cert.Kernel2Ideal.τ).loc Cert.Kernel2Ideal.main_v3_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_v3_2) = v2 c
          ∧ r.2.mem ((c.tc : Thread Cert.Kernel2Ideal.nD Cert.Kernel2Ideal.τ).loc Cert.Kernel2Ideal.main_v3_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
          ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v84) = v0 c
          ∧ r.2.mem ((c.tc : Thread Cert.Reference2Ideal.nD Cert.Reference2Ideal.τ).loc Cert.Reference2Ideal.main_v85) = v1 c
          ∧ r.2.mem ((c.tc : Thread Cert.Reference2Ideal.nD Cert.Reference2Ideal.τ).loc Cert.Reference2Ideal.main_v86) = v2 c
          ∧ r.2.mem ((c.tc : Thread Cert.Reference2Ideal.nD Cert.Reference2Ideal.τ).loc Cert.Reference2Ideal.main_v87) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15)
          ∧ r.2.mem ((c.tc : Thread Cert.Reference2Ideal.nD Cert.Reference2Ideal.τ).loc Cert.Reference2Ideal.main_arg16) = m' ((c.tc : Thread Cert.Reference2Ideal.nD Cert.Reference2Ideal.τ).loc Cert.Reference2Ideal.main_arg16))

def preserves_Kernel3_Kernel3Ideal : Prop :=
  True

def algebraic_Kernel3Ideal_Reference3Ideal [hKernel3Ideal : Cert.Kernel3Ideal.Facts] [hReference3Ideal : Cert.Reference3Ideal.Facts] [hPre_experts_exist : Cert.Pre_experts_exist.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v44) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v35) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v4_0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v108) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)) →
    ∃ (v0 : (c : Dev Cert.Kernel6Ideal.nD) → Buf (Elt Ideal) ((c.tc : Thread Cert.Kernel6Ideal.nD Cert.Kernel6Ideal.τ).loc Cert.Kernel6Ideal.main_v5_0)) (v1 : (c : Dev Cert.Kernel6Ideal.nD) → Buf (Elt Ideal) ((c.tc : Thread Cert.Kernel6Ideal.nD Cert.Kernel6Ideal.τ).loc Cert.Kernel6Ideal.main_v5_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5_0) = v0 c
          ∧ r.2.mem ((c.tc : Thread Cert.Kernel6Ideal.nD Cert.Kernel6Ideal.τ).loc Cert.Kernel6Ideal.main_v5_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v38) = v0 c
          ∧ r.2.mem ((c.tc : Thread Cert.Reference6Ideal.nD Cert.Reference6Ideal.τ).loc Cert.Reference6Ideal.main_v60) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_rows_in_table : Cert.Pre_rows_in_table.Facts) (hPre_experts_exist : Cert.Pre_experts_exist.Facts),
    quiescent_Kernel (hKernel := hKernel) (hPre_rows_in_table := hPre_rows_in_table)
    ∧ quiescent_KernelIdeal (hKernelIdeal := hKernelIdeal) (hPre_rows_in_table := hPre_rows_in_table)
    ∧ quiescent_ReferenceIdeal (hReferenceIdeal := hReferenceIdeal)
    ∧ quiescent_ReferenceIdeal_pre_rows_in_table (hReferenceIdeal := hReferenceIdeal) (hPre_rows_in_table := hPre_rows_in_table)
    ∧ quiescent_Reference (hReference := hReference) (hPre_rows_in_table := hPre_rows_in_table)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_experts_exist := hPre_experts_exist)
    ∧ quiescent_Kernel3Ideal (hKernel3Ideal := hKernel3Ideal) (hPre_experts_exist := hPre_experts_exist)
    ∧ quiescent_Reference3Ideal (hReference3Ideal := hReference3Ideal)
    ∧ quiescent_Reference3Ideal_pre_experts_exist (hReference3Ideal := hReference3Ideal) (hPre_experts_exist := hPre_experts_exist)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ bitexact_Kernel_Reference (hKernel := hKernel) (hReference := hReference) (hPre_rows_in_table := hPre_rows_in_table)
    ∧ algebraic_KernelIdeal_ReferenceIdeal (hKernelIdeal := hKernelIdeal) (hReferenceIdeal := hReferenceIdeal) (hPre_rows_in_table := hPre_rows_in_table)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_experts_exist := hPre_experts_exist)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_experts_exist.lean ====
abbrev S69632x512 : Shape := ⟨2, ![69632, 512]⟩
abbrev S136 : Shape := ⟨1, ![136]⟩
abbrev S1 : Shape := ⟨1, ![1]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S136 : S_.BroadcastsInDim S136 (![] : Fin 0 → Fin S136.rank)

variable [Facts]

def fn {F : FTy → Type} [FloatOps F] (main_arg0 : IVec S69632x512 32) (main_arg1 : IVec S136 32) (main_arg2 : IVec S1 32) (main_arg3 : FVec F S8x1024x3584 .bf16) (main_arg4 : FVec F S8x1024x3584 .bf16) (main_arg5 : FVec F S8x3584x1024 .bf16) : IVec S136 1 :=
  let main_c : IVec S_ 32 := constantI S_ 32 0#32
  let main_v0 : IVec S136 32 := broadcastInDim S136 ![] bcast_S_S136 main_c
  let main_v1 : IVec S136 1 := cmpi .sge main_arg1 main_v0
  let main_c_0 : IVec S_ 32 := constantI S_ 32 8#32
  let main_v2 : IVec S136 32 := broadcastInDim S136 ![] bcast_S_S136 main_c_0
  let main_v3 : IVec S136 1 := cmpi .slt main_arg1 main_v2
  let main_v4 : IVec S136 1 := andi main_v1 main_v3
  main_v4
-- ==== Pre_rows_in_table.lean ====
abbrev S65536 : Shape := ⟨1, ![65536]⟩
abbrev S_ : Shape := ⟨0, ![]⟩

class Facts : Prop where
  bcast_S_S65536 : S_.BroadcastsInDim S65536 (![] : Fin 0 → Fin S65536.rank)

variable [Facts]

def fn {F : FTy → Type} [FloatOps F] (main_arg0 : IVec S65536 32) : IVec S65536 1 :=
  let main_c : IVec S_ 32 := constantI S_ 32 0#32
  let main_v0 : IVec S65536 32 := broadcastInDim S65536 ![] bcast_S_S65536 main_c
  let main_v1 : IVec S65536 1 := cmpi .sge main_arg0 main_v0
  let main_c_0 : IVec S_ 32 := constantI S_ 32 69632#32
  let main_v2 : IVec S65536 32 := broadcastInDim S65536 ![] bcast_S_S65536 main_c_0
  let main_v3 : IVec S65536 1 := cmpi .slt main_arg0 main_v2
  let main_v4 : IVec S65536 1 := andi main_v1 main_v3
  main_v4
-- ==== Kernel.lean ====
abbrev S65536 : Shape := ⟨1, ![65536]⟩
abbrev S69632 : Shape := ⟨1, ![69632]⟩
abbrev S_ : Shape := ⟨0, ![]⟩
abbrev S4096 : Shape := ⟨1, ![4096]⟩
abbrev S16 : Shape := ⟨1, ![16]⟩

abbrev nBuf : Table → Nat
  | .hbm => 25
  | .local .scVector .vmem => 2
  | _ => 0

abbrev bufTy : (tb : Table) → Fin (nBuf tb) → BufTy
  | .hbm, ⟨0, _⟩ => ⟨S65536, .i32⟩
  | .hbm, ⟨1, _⟩ => ⟨S69632, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S_, .i32⟩
  | .hbm, ⟨7, _⟩ => ⟨S_, .i32⟩
  | .hbm, ⟨8, _⟩ => ⟨S69632, .i32⟩
  | .hbm, ⟨9, _⟩ => ⟨S69632, .i32⟩
  | .hbm, ⟨10, _⟩ => ⟨S_, .i32⟩
  | .hbm, ⟨11, _⟩ => ⟨S69632, .i32⟩
  | .hbm, ⟨12, _⟩ => ⟨S69632, .i1⟩
  | .hbm, ⟨13, _⟩ => ⟨S_, .i32⟩
  | .hbm, ⟨14, _⟩ => ⟨S69632, .i32⟩
  | .hbm, ⟨15, _⟩ => ⟨S69632, .i1⟩
  | .hbm, ⟨16, _⟩ => ⟨S_, .i32⟩
  | .hbm, ⟨17, _⟩ => ⟨S_, .i1⟩
  | .hbm, ⟨18, _⟩ => ⟨S69632, .i1⟩
  | .hbm, ⟨19, _⟩ => ⟨S69632, .i1⟩
  | .hbm, ⟨20, _⟩ => ⟨S69632, .i1⟩
  | .hbm, ⟨21, _⟩ => ⟨S69632, .i32⟩
  | .hbm, ⟨22, _⟩ => ⟨S69632, .i32⟩
  | .hbm, ⟨23, _⟩ => ⟨S69632, .i32⟩
  | .hbm, ⟨24, _⟩ => ⟨S69632, .i32⟩
  | .local .scVector .vmem, ⟨0, _⟩ => ⟨S69632, .i32⟩
  | .local .scVector .vmem, ⟨1, _⟩ => ⟨S4096, .i32⟩
  | _, _ => ⟨S65536, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_call0_c : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_c_1 : Ref sig .tc := ⟨.hbm, 10, rfl⟩
abbrev main_call0_v5 : Ref sig .tc := ⟨.hbm, 11, rfl⟩
abbrev main_call0_v6 : Ref sig .tc := ⟨.hbm, 12, rfl⟩
abbrev main_call0_c_2 : Ref sig .tc := ⟨.hbm, 13, rfl⟩
abbrev main_call0_v7 : Ref sig .tc := ⟨.hbm, 14, rfl⟩
abbrev main_call0_v8 : Ref sig .tc := ⟨.hbm, 15, rfl⟩
abbrev main_call0_c_3 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_v1 : Ref sig .tc := ⟨.hbm, 23, rfl⟩
abbrev main_v2 : Ref sig .tc := ⟨.hbm, 24, rfl⟩
abbrev main_arg0_scv : Ref sig .scVector := ⟨.hbm, 0, rfl⟩
abbrev main_v1_scv : Ref sig .scVector := ⟨.hbm, 23, rfl⟩
abbrev main_v2_scv : Ref sig .scVector := ⟨.hbm, 24, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

@[reducible] def k0_t1_loop : Scf.Loop 32 :=
  let c0_i32_1 : BitVec 32 := 0#32
  let c16_i32 : BitVec 32 := 16#32
  let v5 : BitVec 32 := Scalar.addi c0_i32_1 c16_i32
  let c1_i32 : BitVec 32 := 1#32
  ⟨c0_i32_1, v5, c1_i32⟩
def k0_off1 (k0_t1 : Fin k0_t1_loop.trips) : Fin 1 → Nat :=
  let c0_i32_4 : BitVec 32 := 0#32
  let c0_i32_1 : BitVec 32 := 0#32
  let c1_i32 : BitVec 32 := 1#32
  let arg7 : BitVec 32 := Scf.iv c0_i32_1 c1_i32 k0_t1
  let c1_i32_3 : BitVec 32 := 1#32
  let v6 : BitVec 32 := Scalar.muli arg7 c1_i32_3
  let v7 : BitVec 32 := Scalar.addi c0_i32_4 v6
  let c4096_i32 : BitVec 32 := 4096#32
  let v8 : BitVec 32 := Scalar.muli v7 c4096_i32
  ![v8.toNat]
@[reducible] def k0_t2_loop : Scf.Loop 32 :=
  let c0_i32_5 : BitVec 32 := 0#32
  let c256_i32 : BitVec 32 := 256#32
  let v9 : BitVec 32 := Scalar.addi c0_i32_5 c256_i32
  let c1_i32_6 : BitVec 32 := 1#32
  ⟨c0_i32_5, v9, c1_i32_6⟩
def k0_off2 (k0_t2 : Fin k0_t2_loop.trips) : Fin 1 → Nat :=
  let c0_i32_9 : BitVec 32 := 0#32
  let c0_i32_5 : BitVec 32 := 0#32
  let c1_i32_6 : BitVec 32 := 1#32
  let arg8 : BitVec 32 := Scf.iv c0_i32_5 c1_i32_6 k0_t2
  let c1_i32_8 : BitVec 32 := 1#32
  let v10 : BitVec 32 := Scalar.muli arg8 c1_i32_8
  let v11 : BitVec 32 := Scalar.addi c0_i32_9 v10
  let c16_i32_10 : BitVec 32 := 16#32
  let v12 : BitVec 32 := Scalar.muli v11 c16_i32_10
  let v13 : Index := Scalar.indexCast v12
  ![v13.toNat]

def k0_chk1 (i : grid0.Coords) (v14 : IVec S16 32) : Prop :=
  (∀ (k0_h1 : k0_cond1 i = 1#1), ∀ a x, ((![v14] : Fin 1 → IVec S16 32) a x).toNat < S69632.size a)
theorem k0_idx1_inb : ∀ (i : grid0.Coords) (v14 : IVec S16 32) (k0_hw1 : k0_chk1 i v14), ∀ (k0_h1 : k0_cond1 i = 1#1), ∀ a x, ((![v14] : Fin 1 → IVec S16 32) a x).toNat < S69632.size a := fun i v14 k0_hw1 k0_h1 => k0_hw1 k0_h1
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S65536 : Shape := ⟨1, ![65536]⟩
abbrev S69632 : Shape := ⟨1, ![69632]⟩
abbrev S_ : Shape := ⟨0, ![]⟩
abbrev S65536x1 : Shape := ⟨2, ![65536, 1]⟩

abbrev nBuf : Space → Nat
  | .hbm => 56
  | .vmem => 0
  | .smem => 0
  | _ => 0

abbrev bufTy : (tb : Table) → Fin (tcTables nBuf tb) → BufTy
  | .hbm, ⟨0, _⟩ => ⟨S65536, .i32⟩
  | .hbm, ⟨1, _⟩ => ⟨S69632, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S_, .i32⟩
  | .hbm, ⟨7, _⟩ => ⟨S_, .i32⟩
  | .hbm, ⟨8, _⟩ => ⟨S69632, .i32⟩
  | .hbm, ⟨9, _⟩ => ⟨S69632, .i32⟩
  | .hbm, ⟨10, _⟩ => ⟨S_, .i32⟩
  | .hbm, ⟨11, _⟩ => ⟨S69632, .i32⟩
  | .hbm, ⟨12, _⟩ => ⟨S69632, .i1⟩
  | .hbm, ⟨13, _⟩ => ⟨S_, .i32⟩
  | .hbm, ⟨14, _⟩ => ⟨S69632, .i32⟩
  | .hbm, ⟨15, _⟩ => ⟨S69632, .i1⟩
  | .hbm, ⟨16, _⟩ => ⟨S_, .i32⟩
  | .hbm, ⟨17, _⟩ => ⟨S_, .i1⟩
  | .hbm, ⟨18, _⟩ => ⟨S69632, .i1⟩
  | .hbm, ⟨19, _⟩ => ⟨S69632, .i1⟩
  | .hbm, ⟨20, _⟩ => ⟨S69632, .i1⟩
  | .hbm, ⟨21, _⟩ => ⟨S69632, .i32⟩
  | .hbm, ⟨22, _⟩ => ⟨S69632, .i32⟩
  | .hbm, ⟨23, _⟩ => ⟨S69632, .i32⟩
  | .hbm, ⟨24, _⟩ => ⟨S65536, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S65536, .i32⟩
  | .hbm, ⟨32, _⟩ => ⟨S65536, .i32⟩
  | .hbm, ⟨33, _⟩ => ⟨S_, .i32⟩
  | .hbm, ⟨34, _⟩ => ⟨S65536, .i32⟩
  | .hbm, ⟨35, _⟩ => ⟨S65536, .i1⟩
  | .hbm, ⟨36, _⟩ => ⟨S_, .i32⟩
  | .hbm, ⟨37, _⟩ => ⟨S65536, .i32⟩
  | .hbm, ⟨38, _⟩ => ⟨S65536, .i1⟩
  | .hbm, ⟨39, _⟩ => ⟨S_, .i32⟩
  | .hbm, ⟨40, _⟩ => ⟨S_, .i1⟩
  | .hbm, ⟨41, _⟩ => ⟨S65536, .i1⟩
  | .hbm, ⟨42, _⟩ => ⟨S65536, .i1⟩
  | .hbm, ⟨43, _⟩ => ⟨S65536, .i1⟩
  | .hbm, ⟨44, _⟩ => ⟨S65536, .i32⟩
  | .hbm, ⟨45, _⟩ => ⟨S65536, .i32⟩
  | .hbm, ⟨46, _⟩ => ⟨S65536, .i32⟩
  | .hbm, ⟨47, _⟩ => ⟨S_, .i32⟩
  | .hbm, ⟨48, _⟩ => ⟨S65536, .i32⟩
  | .hbm, ⟨49, _⟩ => ⟨S65536, .i1⟩
  | .hbm, ⟨50, _⟩ => ⟨S_, .i32⟩
  | .hbm, ⟨51, _⟩ => ⟨S65536, .i32⟩
  | .hbm, ⟨52, _⟩ => ⟨S65536, .i32⟩
  | .hbm, ⟨53, _⟩ => ⟨S65536, .i32⟩
  | .hbm, ⟨54, _⟩ => ⟨S65536x1, .i32⟩
  | .hbm, ⟨55, _⟩ => ⟨S69632, .i32⟩
  | _, _ => ⟨S65536, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_call0_c : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_c_1 : Ref sig .tc := ⟨.hbm, 10, rfl⟩
abbrev main_call0_v5 : Ref sig .tc := ⟨.hbm, 11, rfl⟩
abbrev main_call0_v6 : Ref sig .tc := ⟨.hbm, 12, rfl⟩
abbrev main_call0_c_2 : Ref sig .tc := ⟨.hbm, 13, rfl⟩
abbrev main_call0_v7 : Ref sig .tc := ⟨.hbm, 14, rfl⟩
abbrev main_call0_v8 : Ref sig .tc := ⟨.hbm, 15, rfl⟩
abbrev main_call0_c_3 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_v1 : Ref sig .tc := ⟨.hbm, 23, rfl⟩
abbrev main_v2 : Ref sig .tc := ⟨.hbm, 24, rfl⟩
abbrev main_c_0 : Ref sig .tc := ⟨.hbm, 25, rfl⟩
abbrev main_call1_v0 : Ref sig .tc := ⟨.hbm, 26, rfl⟩
abbrev main_call1_c : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_c_1 : Ref sig .tc := ⟨.hbm, 33, rfl⟩
abbrev main_call1_v5 : Ref sig .tc := ⟨.hbm, 34, rfl⟩
abbrev main_call1_v6 : Ref sig .tc := ⟨.hbm, 35, rfl⟩
abbrev main_call1_c_2 : Ref sig .tc := ⟨.hbm, 36, rfl⟩
abbrev main_call1_v7 : Ref sig .tc := ⟨.hbm, 37, rfl⟩
abbrev main_call1_v8 : Ref sig .tc := ⟨.hbm, 38, rfl⟩
abbrev main_call1_c_3 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_v3 : Ref sig .tc := ⟨.hbm, 46, rfl⟩
abbrev main_c_1 : Ref sig .tc := ⟨.hbm, 47, rfl⟩
abbrev main_v4 : Ref sig .tc := ⟨.hbm, 48, rfl⟩
abbrev main_v5 : Ref sig .tc := ⟨.hbm, 49, rfl⟩
abbrev main_c_2 : Ref sig .tc := ⟨.hbm, 50, rfl⟩
abbrev main_v6 : Ref sig .tc := ⟨.hbm, 51, rfl⟩
abbrev main_v7 : Ref sig .tc := ⟨.hbm, 52, rfl⟩
abbrev main_v8 : Ref sig .tc := ⟨.hbm, 53, rfl⟩
abbrev main_v9 : Ref sig .tc := ⟨.hbm, 54, rfl⟩
abbrev main_v10 : Ref sig .tc := ⟨.hbm, 55, rfl⟩

abbrev nD : Nat := 1
abbrev τ : Topo := Topo.v7x

variable {F : FTy → Type} [FloatOps F]
-- ==== Kernel2.lean ====
abbrev S16x2048x256 : Shape := ⟨3, ![16, 2048, 256]⟩
abbrev S16x2048x1024 : Shape := ⟨3, ![16, 2048, 1024]⟩
abbrev S16x6x1024 : Shape := ⟨3, ![16, 6, 1024]⟩
abbrev S4x256 : Shape := ⟨2, ![4, 256]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S8192x3584 : Shape := ⟨2, ![8192, 3584]⟩
abbrev S28672x1024 : Shape := ⟨2, ![28672, 1024]⟩
abbrev S1x1024 : Shape := ⟨2, ![1, 1024]⟩
abbrev S1x512x256 : Shape := ⟨3, ![1, 512, 256]⟩
abbrev S1x512x1024 : Shape := ⟨3, ![1, 512, 1024]⟩
abbrev S1x6x1024 : Shape := ⟨3, ![1, 6, 1024]⟩
abbrev S128x3584 : Shape := ⟨2, ![128, 3584]⟩
abbrev S448x1024 : Shape := ⟨2, ![448, 1024]⟩
abbrev S512x1024 : Shape := ⟨2, ![512, 1024]⟩
abbrev S512x2816 : Shape := ⟨2, ![512, 2816]⟩
abbrev S6x1024 : Shape := ⟨2, ![6, 1024]⟩
abbrev S512x256 : Shape := ⟨2, ![512, 256]⟩
abbrev S512 : Shape := ⟨1, ![512]⟩
abbrev S512x1 : Shape := ⟨2, ![512, 1]⟩
abbrev S1x256 : Shape := ⟨2, ![1, 256]⟩
abbrev S256x1024 : Shape := ⟨2, ![256, 1024]⟩
abbrev S1024x256 : Shape := ⟨2, ![1024, 256]⟩

abbrev nBuf : Space → Nat
  | .hbm => 24
  | .vmem => 37
  | .smem => 0
  | _ => 0

abbrev bufTy : (tb : Table) → Fin (tcTables nBuf tb) → BufTy
  | .hbm, ⟨0, _⟩ => ⟨S16x2048x256, .bf16⟩
  | .hbm, ⟨1, _⟩ => ⟨S16x2048x256, .bf16⟩
  | .hbm, ⟨2, _⟩ => ⟨S16x2048x256, .bf16⟩
  | .hbm, ⟨3, _⟩ => ⟨S16x2048x256, .bf16⟩
  | .hbm, ⟨4, _⟩ => ⟨S16x2048x1024, .f32⟩
  | .hbm, ⟨5, _⟩ => ⟨S16x6x1024, .f32⟩
  | .hbm, ⟨6, _⟩ => ⟨S4x256, .f32⟩
  | .hbm, ⟨7, _⟩ => ⟨S1024x1024, .bf16⟩
  | .hbm, ⟨8, _⟩ => ⟨S1024, .f32⟩
  | .hbm, ⟨9, _⟩ => ⟨S1024, .f32⟩
  | .hbm, ⟨10, _⟩ => ⟨S1024x2816, .bf16⟩
  | .hbm, ⟨11, _⟩ => ⟨S1024x2816, .bf16⟩
  | .hbm, ⟨12, _⟩ => ⟨S2816x1024, .bf16⟩
  | .hbm, ⟨13, _⟩ => ⟨S1024, .f32⟩
  | .hbm, ⟨14, _⟩ => ⟨S8192x3584, .f32⟩
  | .hbm, ⟨15, _⟩ => ⟨S8192x3584, .f32⟩
  | .hbm, ⟨16, _⟩ => ⟨S28672x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S16x2048x1024, .f32⟩
  | .hbm, ⟨21, _⟩ => ⟨S8192x3584, .bf16⟩
  | .hbm, ⟨22, _⟩ => ⟨S8192x3584, .bf16⟩
  | .hbm, ⟨23, _⟩ => ⟨S28672x1024, .bf16⟩
  | .local _ .vmem, ⟨0, _⟩ => ⟨S1x512x256, .bf16⟩
  | .local _ .vmem, ⟨1, _⟩ => ⟨S1x512x256, .bf16⟩
  | .local _ .vmem, ⟨2, _⟩ => ⟨S1x512x256, .bf16⟩
  | .local _ .vmem, ⟨3, _⟩ => ⟨S1x512x256, .bf16⟩
  | .local _ .vmem, ⟨4, _⟩ => ⟨S1x512x256, .bf16⟩
  | .local _ .vmem, ⟨5, _⟩ => ⟨S1x512x256, .bf16⟩
  | .local _ .vmem, ⟨6, _⟩ => ⟨S1x512x256, .bf16⟩
  | .local _ .vmem, ⟨7, _⟩ => ⟨S1x512x256, .bf16⟩
  | .local _ .vmem, ⟨8, _⟩ => ⟨S1x512x1024, .f32⟩
  | .local _ .vmem, ⟨9, _⟩ => ⟨S1x512x1024, .f32⟩
  | .local _ .vmem, ⟨10, _⟩ => ⟨S1x6x1024, .f32⟩
  | .local _ .vmem, ⟨11, _⟩ => ⟨S1x6x1024, .f32⟩
  | .local _ .vmem, ⟨12, _⟩ => ⟨S4x256, .f32⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S1024x2816, .bf16⟩
  | .local _ .vmem, ⟨17, _⟩ => ⟨S1024x2816, .bf16⟩
  | .local _ .vmem, ⟨18, _⟩ => ⟨S2816x1024, .bf16⟩
  | .local _ .vmem, ⟨19, _⟩ => ⟨S1x1024, .f32⟩
  | .local _ .vmem, ⟨20, _⟩ => ⟨S128x3584, .f32⟩
  | .local _ .vmem, ⟨21, _⟩ => ⟨S128x3584, .f32⟩
  | .local _ .vmem, ⟨22, _⟩ => ⟨S128x3584, .f32⟩
  | .local _ .vmem, ⟨23, _⟩ => ⟨S128x3584, .f32⟩
  | .local _ .vmem, ⟨24, _⟩ => ⟨S448x1024, .f32⟩
  | .local _ .vmem, ⟨25, _⟩ => ⟨S448x1024, .f32⟩
  | .local _ .vmem, ⟨26, _⟩ => ⟨S1x512x1024, .f32⟩
  | .local _ .vmem, ⟨27, _⟩ => ⟨S1x512x1024, .f32⟩
  | .local _ .vmem, ⟨28, _⟩ => ⟨S128x3584, .bf16⟩
  | .local _ .vmem, ⟨29, _⟩ => ⟨S128x3584, .bf16⟩
  | .local _ .vmem, ⟨30, _⟩ => ⟨S128x3584, .bf16⟩
  | .local _ .vmem, ⟨31, _⟩ => ⟨S128x3584, .bf16⟩
  | .local _ .vmem, ⟨32, _⟩ => ⟨S448x1024, .bf16⟩
  | .local _ .vmem, ⟨33, _⟩ => ⟨S448x1024, .bf16⟩
  | .local _ .vmem, ⟨34, _⟩ => ⟨S512x1024, .f32⟩
  | .local _ .vmem, ⟨35, _⟩ => ⟨S512x1024, .bf16⟩
  | .local _ .vmem, ⟨36, _⟩ => ⟨S512x2816, .bf16⟩
  | _, _ => ⟨S16x2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3_0 : Ref sig .tc := ⟨.hbm, 20, rfl⟩
abbrev main_v3_1 : Ref sig .tc := ⟨.hbm, 21, rfl⟩
abbrev main_v3_2 : Ref sig .tc := ⟨.hbm, 22, rfl⟩
abbrev main_v3_3 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_scratch0 : Ref sig .tc := ⟨.vmem, 34, rfl⟩
abbrev cc0_scratch1 : Ref sig .tc := ⟨.vmem, 35, rfl⟩
abbrev cc0_scratch2 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_19 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_20 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S128x3584 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S128x3584 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S448x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S128x3584 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S128x3584 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S448x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== Reference2Ideal.lean ====
abbrev S16x2048x256 : Shape := ⟨3, ![16, 2048, 256]⟩
abbrev S16x2048x1024 : Shape := ⟨3, ![16, 2048, 1024]⟩
abbrev S16x6x1024 : Shape := ⟨3, ![16, 6, 1024]⟩
abbrev S4x256 : Shape := ⟨2, ![4, 256]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S8192x3584 : Shape := ⟨2, ![8192, 3584]⟩
abbrev S28672x1024 : Shape := ⟨2, ![28672, 1024]⟩
abbrev S16x2048x1x256 : Shape := ⟨4, ![16, 2048, 1, 256]⟩
abbrev S16x2048x4x256 : Shape := ⟨4, ![16, 2048, 4, 256]⟩
abbrev S_ : Shape := ⟨0, ![]⟩
abbrev S16x2048x4 : Shape := ⟨3, ![16, 2048, 4]⟩
abbrev S16x2048x4x1 : Shape := ⟨4, ![16, 2048, 4, 1]⟩
abbrev S1x1x4x256 : Shape := ⟨4, ![1, 1, 4, 256]⟩
abbrev S16x1x1024 : Shape := ⟨3, ![16, 1, 1024]⟩
abbrev S16x2048 : Shape := ⟨2, ![16, 2048]⟩
abbrev S16x2048x1 : Shape := ⟨3, ![16, 2048, 1]⟩
abbrev S1x1x1024 : Shape := ⟨3, ![1, 1, 1024]⟩
abbrev S16x2048x2816 : Shape := ⟨3, ![16, 2048, 2816]⟩

abbrev nBuf : Space → Nat
  | .hbm => 126
  | .vmem => 0
  | .smem => 0
  | _ => 0

abbrev bufTy : (tb : Table) → Fin (tcTables nBuf tb) → BufTy
  | .hbm, ⟨0, _⟩ => ⟨S16x2048x256, .bf16⟩
  | .hbm, ⟨1, _⟩ => ⟨S16x2048x256, .bf16⟩
  | .hbm, ⟨2, _⟩ => ⟨S16x2048x256, .bf16⟩
  | .hbm, ⟨3, _⟩ => ⟨S16x2048x256, .bf16⟩
  | .hbm, ⟨4, _⟩ => ⟨S16x2048x1024, .f32⟩
  | .hbm, ⟨5, _⟩ => ⟨S16x6x1024, .f32⟩
  | .hbm, ⟨6, _⟩ => ⟨S4x256, .f32⟩
  | .hbm, ⟨7, _⟩ => ⟨S1024x1024, .bf16⟩
  | .hbm, ⟨8, _⟩ => ⟨S1024, .f32⟩
  | .hbm, ⟨9, _⟩ => ⟨S1024, .f32⟩
  | .hbm, ⟨10, _⟩ => ⟨S1024x2816, .bf16⟩
  | .hbm, ⟨11, _⟩ => ⟨S1024x2816, .bf16⟩
  | .hbm, ⟨12, _⟩ => ⟨S2816x1024, .bf16⟩
  | .hbm, ⟨13, _⟩ => ⟨S1024, .f32⟩
  | .hbm, ⟨14, _⟩ => ⟨S8192x3584, .f32⟩
  | .hbm, ⟨15, _⟩ => ⟨S8192x3584, .f32⟩
  | .hbm, ⟨16, _⟩ => ⟨S28672x1024, .f32⟩
  | .hbm, ⟨17, _⟩ => ⟨S16x2048x1x256, .bf16⟩
  | .hbm, ⟨18, _⟩ => ⟨S16x2048x1x256, .bf16⟩
  | .hbm, ⟨19, _⟩ => ⟨S16x2048x1x256, .bf16⟩
  | .hbm, ⟨20, _⟩ => ⟨S16x2048x1x256, .bf16⟩
  | .hbm, ⟨21, _⟩ => ⟨S16x2048x4x256, .bf16⟩
  | .hbm, ⟨22, _⟩ => ⟨S16x2048x4x256, .f32⟩
  | .hbm, ⟨23, _⟩ => ⟨S16x2048x4x256, .f32⟩
  | .hbm, ⟨24, _⟩ => ⟨S_, .f32⟩
  | .hbm, ⟨25, _⟩ => ⟨S16x2048x4, .f32⟩
  | .hbm, ⟨26, _⟩ => ⟨S16x2048x4x1, .f32⟩
  | .hbm, ⟨27, _⟩ => ⟨S_, .f32⟩
  | .hbm, ⟨28, _⟩ => ⟨S16x2048x4x1, .f32⟩
  | .hbm, ⟨29, _⟩ => ⟨S16x2048x4x1, .f32⟩
  | .hbm, ⟨30, _⟩ => ⟨S_, .f32⟩
  | .hbm, ⟨31, _⟩ => ⟨S16x2048x4x1, .f32⟩
  | .hbm, ⟨32, _⟩ => ⟨S16x2048x4x1, .f32⟩
  | .hbm, ⟨33, _⟩ => ⟨S16x2048x4x1, .f32⟩
  | .hbm, ⟨34, _⟩ => ⟨S16x2048x4x256, .f32⟩
  | .hbm, ⟨35, _⟩ => ⟨S16x2048x4x256, .f32⟩
  | .hbm, ⟨36, _⟩ => ⟨S1x1x4x256, .f32⟩
  | .hbm, ⟨37, _⟩ => ⟨S16x2048x4x256, .f32⟩
  | .hbm, ⟨38, _⟩ => ⟨S16x2048x4x256, .f32⟩
  | .hbm, ⟨39, _⟩ => ⟨S16x2048x1024, .f32⟩
  | .hbm, ⟨40, _⟩ => ⟨S1024x1024, .f32⟩
  | .hbm, ⟨41, _⟩ => ⟨S16x2048x1024, .f32⟩
  | .hbm, ⟨42, _⟩ => ⟨S16x1x1024, .f32⟩
  | .hbm, ⟨43, _⟩ => ⟨S16x2048x1024, .f32⟩
  | .hbm, ⟨44, _⟩ => ⟨S_, .f32⟩
  | .hbm, ⟨45, _⟩ => ⟨S16x2048, .f32⟩
  | .hbm, ⟨46, _⟩ => ⟨S16x2048x1, .f32⟩
  | .hbm, ⟨47, _⟩ => ⟨S_, .f32⟩
  | .hbm, ⟨48, _⟩ => ⟨S16x2048x1, .f32⟩
  | .hbm, ⟨49, _⟩ => ⟨S16x2048x1, .f32⟩
  | .hbm, ⟨50, _⟩ => ⟨S_, .f32⟩
  | .hbm, ⟨51, _⟩ => ⟨S16x2048x1, .f32⟩
  | .hbm, ⟨52, _⟩ => ⟨S16x2048x1, .f32⟩
  | .hbm, ⟨53, _⟩ => ⟨S16x2048x1, .f32⟩
  | .hbm, ⟨54, _⟩ => ⟨S16x2048x1024, .f32⟩
  | .hbm, ⟨55, _⟩ => ⟨S16x2048x1024, .f32⟩
  | .hbm, ⟨56, _⟩ => ⟨S1x1x1024, .f32⟩
  | .hbm, ⟨57, _⟩ => ⟨S16x2048x1024, .f32⟩
  | .hbm, ⟨58, _⟩ => ⟨S16x2048x1024, .f32⟩
  | .hbm, ⟨59, _⟩ => ⟨S16x2048x1024, .f32⟩
  | .hbm, ⟨60, _⟩ => ⟨S16x2048x1024, .f32⟩
  | .hbm, ⟨61, _⟩ => ⟨S16x2048x1024, .f32⟩
  | .hbm, ⟨62, _⟩ => ⟨S16x2048x1024, .f32⟩
  | .hbm, ⟨63, _⟩ => ⟨S_, .f32⟩
  | .hbm, ⟨64, _⟩ => ⟨S16x2048, .f32⟩
  | .hbm, ⟨65, _⟩ => ⟨S16x2048x1, .f32⟩
  | .hbm, ⟨66, _⟩ => ⟨S_, .f32⟩
  | .hbm, ⟨67, _⟩ => ⟨S16x2048x1, .f32⟩
  | .hbm, ⟨68, _⟩ => ⟨S16x2048x1, .f32⟩
  | .hbm, ⟨69, _⟩ => ⟨S_, .f32⟩
  | .hbm, ⟨70, _⟩ => ⟨S16x2048x1, .f32⟩
  | .hbm, ⟨71, _⟩ => ⟨S16x2048x1, .f32⟩
  | .hbm, ⟨72, _⟩ => ⟨S16x2048x1, .f32⟩
  | .hbm, ⟨73, _⟩ => ⟨S16x2048x1024, .f32⟩
  | .hbm, ⟨74, _⟩ => ⟨S16x2048x1024, .f32⟩
  | .hbm, ⟨75, _⟩ => ⟨S1x1x1024, .f32⟩
  | .hbm, ⟨76, _⟩ => ⟨S16x2048x1024, .f32⟩
  | .hbm, ⟨77, _⟩ => ⟨S16x2048x1024, .f32⟩
  | .hbm, ⟨78, _⟩ => ⟨S16x1x1024, .f32⟩
  | .hbm, ⟨79, _⟩ => ⟨S_, .f32⟩
  | .hbm, ⟨80, _⟩ => ⟨S16x1x1024, .f32⟩
  | .hbm, ⟨81, _⟩ => ⟨S16x1x1024, .f32⟩
  | .hbm, ⟨82, _⟩ => ⟨S16x2048x1024, .f32⟩
  | .hbm, ⟨83, _⟩ => ⟨S16x2048x1024, .f32⟩
  | .hbm, ⟨84, _⟩ => ⟨S16x1x1024, .f32⟩
  | .hbm, ⟨85, _⟩ => ⟨S16x2048x1024, .f32⟩
  | .hbm, ⟨86, _⟩ => ⟨S16x2048x1024, .f32⟩
  | .hbm, ⟨87, _⟩ => ⟨S1024x2816, .f32⟩
  | .hbm, ⟨88, _⟩ => ⟨S16x2048x2816, .f32⟩
  | .hbm, ⟨89, _⟩ => ⟨S16x2048x2816, .f32⟩
  | .hbm, ⟨90, _⟩ => ⟨S16x2048x2816, .f32⟩
  | .hbm, ⟨91, _⟩ => ⟨S_, .f32⟩
  | .hbm, ⟨92, _⟩ => ⟨S16x2048x2816, .f32⟩
  | .hbm, ⟨93, _⟩ => ⟨S16x2048x2816, .f32⟩
  | .hbm, ⟨94, _⟩ => ⟨S_, .f32⟩
  | .hbm, ⟨95, _⟩ => ⟨S16x2048x2816, .f32⟩
  | .hbm, ⟨96, _⟩ => ⟨S16x2048x2816, .f32⟩
  | .hbm, ⟨97, _⟩ => ⟨S16x2048x2816, .f32⟩
  | .hbm, ⟨98, _⟩ => ⟨S1024x2816, .f32⟩
  | .hbm, ⟨99, _⟩ => ⟨S16x2048x2816, .f32⟩
  | .hbm, ⟨100, _⟩ => ⟨S16x2048x2816, .f32⟩
  | .hbm, ⟨101, _⟩ => ⟨S2816x1024, .f32⟩
  | .hbm, ⟨102, _⟩ => ⟨S16x2048x1024, .f32⟩
  | .hbm, ⟨103, _⟩ => ⟨S16x1x1024, .f32⟩
  | .hbm, ⟨104, _⟩ => ⟨S16x2048x1024, .f32⟩
  | .hbm, ⟨105, _⟩ => ⟨S_, .f32⟩
  | .hbm, ⟨106, _⟩ => ⟨S16x2048, .f32⟩
  | .hbm, ⟨107, _⟩ => ⟨S16x2048x1, .f32⟩
  | .hbm, ⟨108, _⟩ => ⟨S_, .f32⟩
  | .hbm, ⟨109, _⟩ => ⟨S16x2048x1, .f32⟩
  | .hbm, ⟨110, _⟩ => ⟨S16x2048x1, .f32⟩
  | .hbm, ⟨111, _⟩ => ⟨S_, .f32⟩
  | .hbm, ⟨112, _⟩ => ⟨S16x2048x1, .f32⟩
  | .hbm, ⟨113, _⟩ => ⟨S16x2048x1, .f32⟩
  | .hbm, ⟨114, _⟩ => ⟨S16x2048x1, .f32⟩
  | .hbm, ⟨115, _⟩ => ⟨S16x2048x1024, .f32⟩
  | .hbm, ⟨116, _⟩ => ⟨S16x2048x1024, .f32⟩
  | .hbm, ⟨117, _⟩ => ⟨S1x1x1024, .f32⟩
  | .hbm, ⟨118, _⟩ => ⟨S16x2048x1024, .f32⟩
  | .hbm, ⟨119, _⟩ => ⟨S16x2048x1024, .f32⟩
  | .hbm, ⟨120, _⟩ => ⟨S16x2048x1024, .f32⟩
  | .hbm, ⟨121, _⟩ => ⟨S16x2048x1024, .f32⟩
  | .hbm, ⟨122, _⟩ => ⟨S16x2048x1024, .f32⟩
  | .hbm, ⟨123, _⟩ => ⟨S8192x3584, .bf16⟩
  | .hbm, ⟨124, _⟩ => ⟨S8192x3584, .bf16⟩
  | .hbm, ⟨125, _⟩ => ⟨S28672x1024, .bf16⟩
  | _, _ => ⟨S16x2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_2 : Ref sig .tc := ⟨.hbm, 44, rfl⟩
abbrev main_v24 : Ref sig .tc := ⟨.hbm, 45, rfl⟩
abbrev main_v25 : Ref sig .tc := ⟨.hbm, 46, rfl⟩
abbrev main_cst_3 : Ref sig .tc := ⟨.hbm, 47, rfl⟩
abbrev main_v26 : Ref sig .tc := ⟨.hbm, 48, rfl⟩
abbrev main_v27 : Ref sig .tc := ⟨.hbm, 49, rfl⟩
abbrev main_cst_4 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_5 : Ref sig .tc := ⟨.hbm, 63, rfl⟩
abbrev main_v40 : Ref sig .tc := ⟨.hbm, 64, rfl⟩
abbrev main_v41 : Ref sig .tc := ⟨.hbm, 65, rfl⟩
abbrev main_cst_6 : Ref sig .tc := ⟨.hbm, 66, rfl⟩
abbrev main_v42 : Ref sig .tc := ⟨.hbm, 67, rfl⟩
abbrev main_v43 : Ref sig .tc := ⟨.hbm, 68, rfl⟩
abbrev main_cst_7 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_8 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_call0_v0 : Ref sig .tc := ⟨.hbm, 89, rfl⟩
abbrev main_call0_v1 : Ref sig .tc := ⟨.hbm, 90, rfl⟩
abbrev main_call0_cst : Ref sig .tc := ⟨.hbm, 91, rfl⟩
abbrev main_call0_v2 : Ref sig .tc := ⟨.hbm, 92, rfl⟩
abbrev main_call0_v3 : Ref sig .tc := ⟨.hbm, 93, rfl⟩
abbrev main_call0_cst_0 : Ref sig .tc := ⟨.hbm, 94, rfl⟩
abbrev main_call0_v4 : Ref sig .tc := ⟨.hbm, 95, rfl⟩
abbrev main_call0_v5 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_9 : Ref sig .tc := ⟨.hbm, 105, rfl⟩
abbrev main_v70 : Ref sig .tc := ⟨.hbm, 106, rfl⟩
abbrev main_v71 : Ref sig .tc := ⟨.hbm, 107, rfl⟩
abbrev main_cst_10 : Ref sig .tc := ⟨.hbm, 108, rfl⟩
abbrev main_v72 : Ref sig .tc := ⟨.hbm, 109, rfl⟩
abbrev main_v73 : Ref sig .tc := ⟨.hbm, 110, rfl⟩
abbrev main_cst_11 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩

abbrev nD : Nat := 1
abbrev τ : Topo := Topo.v7x

variable {F : FTy → Type} [FloatOps F]
-- ==== Kernel3.lean ====
abbrev S69632x512 : Shape := ⟨2, ![69632, 512]⟩
abbrev S136 : Shape := ⟨1, ![136]⟩
abbrev S1 : Shape := ⟨1, ![1]⟩
abbrev S8x1024x3584 : Shape := ⟨3, ![8, 1024, 3584]⟩
abbrev S8x3584x1024 : Shape := ⟨3, ![8, 3584, 1024]⟩
abbrev S69632x1024 : Shape := ⟨2, ![69632, 1024]⟩
abbrev S512x512 : Shape := ⟨2, ![512, 512]⟩
abbrev S1x1024x3584 : Shape := ⟨3, ![1, 1024, 3584]⟩
abbrev S1x3584x1024 : Shape := ⟨3, ![1, 3584, 1024]⟩
abbrev S512x1024 : Shape := ⟨2, ![512, 1024]⟩
abbrev S512x3584 : Shape := ⟨2, ![512, 3584]⟩
abbrev S1x1024x256 : Shape := ⟨3, ![1, 1024, 256]⟩
abbrev S1024x256 : Shape := ⟨2, ![1024, 256]⟩
abbrev S512x256 : Shape := ⟨2, ![512, 256]⟩
abbrev S3584x1024 : Shape := ⟨2, ![3584, 1024]⟩

abbrev nBuf : Space → Nat
  | .hbm => 5
  | .vmem => 9
  | .smem => 2
  | _ => 0

abbrev bufTy : (tb : Table) → Fin (tcTables nBuf tb) → BufTy
  | .hbm, ⟨0, _⟩ => ⟨S69632x512, .i32⟩
  | .hbm, ⟨1, _⟩ => ⟨S8x1024x3584, .bf16⟩
  | .hbm, ⟨2, _⟩ => ⟨S8x1024x3584, .bf16⟩
  | .hbm, ⟨3, _⟩ => ⟨S8x3584x1024, .bf16⟩
  | .hbm, ⟨4, _⟩ => ⟨S69632x1024, .bf16⟩
  | .local _ .vmem, ⟨0, _⟩ => ⟨S512x512, .i32⟩
  | .local _ .vmem, ⟨1, _⟩ => ⟨S512x512, .i32⟩
  | .local _ .vmem, ⟨2, _⟩ => ⟨S1x1024x3584, .bf16⟩
  | .local _ .vmem, ⟨3, _⟩ => ⟨S1x1024x3584, .bf16⟩
  | .local _ .vmem, ⟨4, _⟩ => ⟨S1x3584x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x3584, .bf16⟩
  | .local _ .smem, ⟨0, _⟩ => ⟨S136, .i32⟩
  | .local _ .smem, ⟨1, _⟩ => ⟨S1, .i32⟩
  | _, _ => ⟨S69632x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![136], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x3584x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S69632x512 : Shape := ⟨2, ![69632, 512]⟩
abbrev S136 : Shape := ⟨1, ![136]⟩
abbrev S1 : Shape := ⟨1, ![1]⟩
abbrev S8x1024x3584 : Shape := ⟨3, ![8, 1024, 3584]⟩
abbrev S8x3584x1024 : Shape := ⟨3, ![8, 3584, 1024]⟩
abbrev S69632x512x2 : Shape := ⟨3, ![69632, 512, 2]⟩
abbrev S69632x512x1 : Shape := ⟨3, ![69632, 512, 1]⟩
abbrev S69632x1024 : Shape := ⟨2, ![69632, 1024]⟩
abbrev S136x512x1024 : Shape := ⟨3, ![136, 512, 1024]⟩
abbrev S_ : Shape := ⟨0, ![]⟩
abbrev S136x1 : Shape := ⟨2, ![136, 1]⟩
abbrev S136x1024x3584 : Shape := ⟨3, ![136, 1024, 3584]⟩
abbrev S136x512x3584 : Shape := ⟨3, ![136, 512, 3584]⟩
abbrev S136x3584x1024 : Shape := ⟨3, ![136, 3584, 1024]⟩
abbrev S136x1x1 : Shape := ⟨3, ![136, 1, 1]⟩

abbrev nBuf : Space → Nat
  | .hbm => 69
  | .vmem => 0
  | .smem => 0
  | _ => 0

abbrev bufTy : (tb : Table) → Fin (tcTables nBuf tb) → BufTy
  | .hbm, ⟨0, _⟩ => ⟨S69632x512, .i32⟩
  | .hbm, ⟨1, _⟩ => ⟨S136, .i32⟩
  | .hbm, ⟨2, _⟩ => ⟨S1, .i32⟩
  | .hbm, ⟨3, _⟩ => ⟨S8x1024x3584, .bf16⟩
  | .hbm, ⟨4, _⟩ => ⟨S8x1024x3584, .bf16⟩
  | .hbm, ⟨5, _⟩ => ⟨S8x3584x1024, .bf16⟩
  | .hbm, ⟨6, _⟩ => ⟨S69632x512x2, .bf16⟩
  | .hbm, ⟨7, _⟩ => ⟨S69632x512x1, .bf16⟩
  | .hbm, ⟨8, _⟩ => ⟨S69632x512, .bf16⟩
  | .hbm, ⟨9, _⟩ => ⟨S69632x512x1, .bf16⟩
  | .hbm, ⟨10, _⟩ => ⟨S69632x512, .bf16⟩
  | .hbm, ⟨11, _⟩ => ⟨S69632x1024, .bf16⟩
  | .hbm, ⟨12, _⟩ => ⟨S69632x1024, .f32⟩
  | .hbm, ⟨13, _⟩ => ⟨S136x512x1024, .f32⟩
  | .hbm, ⟨14, _⟩ => ⟨S8x1024x3584, .f32⟩
  | .hbm, ⟨15, _⟩ => ⟨S_, .i32⟩
  | .hbm, ⟨16, _⟩ => ⟨S136, .i32⟩
  | .hbm, ⟨17, _⟩ => ⟨S136, .i1⟩
  | .hbm, ⟨18, _⟩ => ⟨S_, .i32⟩
  | .hbm, ⟨19, _⟩ => ⟨S136, .i32⟩
  | .hbm, ⟨20, _⟩ => ⟨S136, .i32⟩
  | .hbm, ⟨21, _⟩ => ⟨S136, .i32⟩
  | .hbm, ⟨22, _⟩ => ⟨S136x1, .i32⟩
  | .hbm, ⟨23, _⟩ => ⟨S136x1024x3584, .f32⟩
  | .hbm, ⟨24, _⟩ => ⟨S136x512x3584, .f32⟩
  | .hbm, ⟨25, _⟩ => ⟨S8x1024x3584, .f32⟩
  | .hbm, ⟨26, _⟩ => ⟨S_, .i32⟩
  | .hbm, ⟨27, _⟩ => ⟨S136, .i32⟩
  | .hbm, ⟨28, _⟩ => ⟨S136, .i1⟩
  | .hbm, ⟨29, _⟩ => ⟨S_, .i32⟩
  | .hbm, ⟨30, _⟩ => ⟨S136, .i32⟩
  | .hbm, ⟨31, _⟩ => ⟨S136, .i32⟩
  | .hbm, ⟨32, _⟩ => ⟨S136, .i32⟩
  | .hbm, ⟨33, _⟩ => ⟨S136x1, .i32⟩
  | .hbm, ⟨34, _⟩ => ⟨S136x1024x3584, .f32⟩
  | .hbm, ⟨35, _⟩ => ⟨S136x512x3584, .f32⟩
  | .hbm, ⟨36, _⟩ => ⟨S136x512x3584, .f32⟩
  | .hbm, ⟨37, _⟩ => ⟨S136x512x3584, .f32⟩
  | .hbm, ⟨38, _⟩ => ⟨S_, .f32⟩
  | .hbm, ⟨39, _⟩ => ⟨S136x512x3584, .f32⟩
  | .hbm, ⟨40, _⟩ => ⟨S136x512x3584, .f32⟩
  | .hbm, ⟨41, _⟩ => ⟨S_, .f32⟩
  | .hbm, ⟨42, _⟩ => ⟨S136x512x3584, .f32⟩
  | .hbm, ⟨43, _⟩ => ⟨S136x512x3584, .f32⟩
  | .hbm, ⟨44, _⟩ => ⟨S136x512x3584, .f32⟩
  | .hbm, ⟨45, _⟩ => ⟨S136x512x3584, .f32⟩
  | .hbm, ⟨46, _⟩ => ⟨S8x3584x1024, .f32⟩
  | .hbm, ⟨47, _⟩ => ⟨S_, .i32⟩
  | .hbm, ⟨48, _⟩ => ⟨S136, .i32⟩
  | .hbm, ⟨49, _⟩ => ⟨S136, .i1⟩
  | .hbm, ⟨50, _⟩ => ⟨S_, .i32⟩
  | .hbm, ⟨51, _⟩ => ⟨S136, .i32⟩
  | .hbm, ⟨52, _⟩ => ⟨S136, .i32⟩
  | .hbm, ⟨53, _⟩ => ⟨S136, .i32⟩
  | .hbm, ⟨54, _⟩ => ⟨S136x1, .i32⟩
  | .hbm, ⟨55, _⟩ => ⟨S136x3584x1024, .f32⟩
  | .hbm, ⟨56, _⟩ => ⟨S136x512x1024, .f32⟩
  | .hbm, ⟨57, _⟩ => ⟨S136, .i32⟩
  | .hbm, ⟨58, _⟩ => ⟨S_, .i32⟩
  | .hbm, ⟨59, _⟩ => ⟨S136, .i32⟩
  | .hbm, ⟨60, _⟩ => ⟨S136, .i1⟩
  | .hbm, ⟨61, _⟩ => ⟨S136x1x1, .i1⟩
  | .hbm, ⟨62, _⟩ => ⟨S_, .f32⟩
  | .hbm, ⟨63, _⟩ => ⟨S_, .f32⟩
  | .hbm, ⟨64, _⟩ => ⟨S136x512x1024, .i1⟩
  | .hbm, ⟨65, _⟩ => ⟨S136x512x1024, .f32⟩
  | .hbm, ⟨66, _⟩ => ⟨S136x512x1024, .f32⟩
  | .hbm, ⟨67, _⟩ => ⟨S69632x1024, .f32⟩
  | .hbm, ⟨68, _⟩ => ⟨S69632x1024, .bf16⟩
  | _, _ => ⟨S69632x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_1 : Ref sig .tc := ⟨.hbm, 26, rfl⟩
abbrev main_v18 : Ref sig .tc := ⟨.hbm, 27, rfl⟩
abbrev main_v19 : Ref sig .tc := ⟨.hbm, 28, rfl⟩
abbrev main_c_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_3 : Ref sig .tc := ⟨.hbm, 47, rfl⟩
abbrev main_v29 : Ref sig .tc := ⟨.hbm, 48, rfl⟩
abbrev main_v30 : Ref sig .tc := ⟨.hbm, 49, rfl⟩
abbrev main_c_4 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩

abbrev nD : Nat := 1
abbrev τ : Topo := Topo.v7x

variable {F : FTy → Type} [FloatOps F]
-- ==== Kernel4.lean ====
abbrev S65536x512 : Shape := ⟨2, ![65536, 512]⟩
abbrev S16x2048x128 : Shape := ⟨3, ![16, 2048, 128]⟩
abbrev S16x2048x1024 : Shape := ⟨3, ![16, 2048, 1024]⟩
abbrev S16x6x1024 : Shape := ⟨3, ![16, 6, 1024]⟩
abbrev S1024 : Shape := ⟨1, ![1024]⟩
abbrev S1x1024 : Shape := ⟨2, ![1, 1024]⟩
abbrev S512x512 : Shape := ⟨2, ![512, 512]⟩
abbrev S1x512x128 : Shape := ⟨3, ![1, 512, 128]⟩
abbrev S1x512x1024 : Shape := ⟨3, ![1, 512, 1024]⟩
abbrev S1x6x1024 : Shape := ⟨3, ![1, 6, 1024]⟩
abbrev S512x128 : Shape := ⟨2, ![512, 128]⟩
abbrev S512x1 : Shape := ⟨2, ![512, 1]⟩
abbrev S512 : Shape := ⟨1, ![512]⟩
abbrev S6x1024 : Shape := ⟨2, ![6, 1024]⟩
abbrev S1x512x512 : Shape := ⟨3, ![1, 512, 512]⟩
abbrev S1x512 : Shape := ⟨2, ![1, 512]⟩

abbrev nBuf : Space → Nat
  | .hbm => 7
  | .vmem => 13
  | .smem => 0
  | _ => 0

abbrev bufTy : (tb : Table) → Fin (tcTables nBuf tb) → BufTy
  | .hbm, ⟨0, _⟩ => ⟨S65536x512, .i32⟩
  | .hbm, ⟨1, _⟩ => ⟨S16x2048x128, .f32⟩
  | .hbm, ⟨2, _⟩ => ⟨S16x2048x1024, .f32⟩
  | .hbm, ⟨3, _⟩ => ⟨S16x6x1024, .f32⟩
  | .hbm, ⟨4, _⟩ => ⟨S1024, .f32⟩
  | .hbm, ⟨5, _⟩ => ⟨S1x1024, .f32⟩
  | .hbm, ⟨6, _⟩ => ⟨S16x2048x1024, .f32⟩
  | .local _ .vmem, ⟨0, _⟩ => ⟨S512x512, .i32⟩
  | .local _ .vmem, ⟨1, _⟩ => ⟨S512x512, .i32⟩
  | .local _ .vmem, ⟨2, _⟩ => ⟨S512x512, .i32⟩
  | .local _ .vmem, ⟨3, _⟩ => ⟨S512x512, .i32⟩
  | .local _ .vmem, ⟨4, _⟩ => ⟨S1x512x128, .f32⟩
  | .local _ .vmem, ⟨5, _⟩ => ⟨S1x512x128, .f32⟩
  | .local _ .vmem, ⟨6, _⟩ => ⟨S1x512x1024, .f32⟩
  | .local _ .vmem, ⟨7, _⟩ => ⟨S1x512x1024, .f32⟩
  | .local _ .vmem, ⟨8, _⟩ => ⟨S1x6x1024, .f32⟩
  | .local _ .vmem, ⟨9, _⟩ => ⟨S1x6x1024, .f32⟩
  | .local _ .vmem, ⟨10, _⟩ => ⟨S1x1024, .f32⟩
  | .local _ .vmem, ⟨11, _⟩ => ⟨S1x512x1024, .f32⟩
  | .local _ .vmem, ⟨12, _⟩ => ⟨S1x512x1024, .f32⟩
  | _, _ => ⟨S65536x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c64_i32 : BitVec 32 := 64#32
  let v1 : BitVec 32 := Scalar.addi c64_i32 v0
  let v2 : BitVec 32 := Scalar.addi v1 arg1
  let c0_i32 : BitVec 32 := 0#32
  let c0_i32_0 : BitVec 32 := 0#32
  ![v2.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S65536x512 : Shape := ⟨2, ![65536, 512]⟩
abbrev S16x2048x128 : Shape := ⟨3, ![16, 2048, 128]⟩
abbrev S16x2048x1024 : Shape := ⟨3, ![16, 2048, 1024]⟩
abbrev S16x6x1024 : Shape := ⟨3, ![16, 6, 1024]⟩
abbrev S1024 : Shape := ⟨1, ![1024]⟩
abbrev S65536x512x2 : Shape := ⟨3, ![65536, 512, 2]⟩
abbrev S65536x512x1 : Shape := ⟨3, ![65536, 512, 1]⟩
abbrev S65536x1024 : Shape := ⟨2, ![65536, 1024]⟩
abbrev S2x16x2048x1024 : Shape := ⟨4, ![2, 16, 2048, 1024]⟩
abbrev S1x16x2048x1024 : Shape := ⟨4, ![1, 16, 2048, 1024]⟩
abbrev S16x2048x1 : Shape := ⟨3, ![16, 2048, 1]⟩
abbrev S16x1x1024 : Shape := ⟨3, ![16, 1, 1024]⟩
abbrev S_ : Shape := ⟨0, ![]⟩
abbrev S16x2048 : Shape := ⟨2, ![16, 2048]⟩
abbrev S1x1x1024 : Shape := ⟨3, ![1, 1, 1024]⟩

abbrev nBuf : Space → Nat
  | .hbm => 44
  | .vmem => 0
  | .smem => 0
  | _ => 0

abbrev bufTy : (tb : Table) → Fin (tcTables nBuf tb) → BufTy
  | .hbm, ⟨0, _⟩ => ⟨S65536x512, .i32⟩
  | .hbm, ⟨1, _⟩ => ⟨S16x2048x128, .f32⟩
  | .hbm, ⟨2, _⟩ => ⟨S16x2048x1024, .f32⟩
  | .hbm, ⟨3, _⟩ => ⟨S16x6x1024, .f32⟩
  | .hbm, ⟨4, _⟩ => ⟨S1024, .f32⟩
  | .hbm, ⟨5, _⟩ => ⟨S65536x512x2, .bf16⟩
  | .hbm, ⟨6, _⟩ => ⟨S65536x512x1, .bf16⟩
  | .hbm, ⟨7, _⟩ => ⟨S65536x512, .bf16⟩
  | .hbm, ⟨8, _⟩ => ⟨S65536x512x1, .bf16⟩
  | .hbm, ⟨9, _⟩ => ⟨S65536x512, .bf16⟩
  | .hbm, ⟨10, _⟩ => ⟨S65536x1024, .bf16⟩
  | .hbm, ⟨11, _⟩ => ⟨S65536x1024, .f32⟩
  | .hbm, ⟨12, _⟩ => ⟨S2x16x2048x1024, .f32⟩
  | .hbm, ⟨13, _⟩ => ⟨S1x16x2048x1024, .f32⟩
  | .hbm, ⟨14, _⟩ => ⟨S16x2048x1024, .f32⟩
  | .hbm, ⟨15, _⟩ => ⟨S16x2048x1, .f32⟩
  | .hbm, ⟨16, _⟩ => ⟨S16x2048x1024, .f32⟩
  | .hbm, ⟨17, _⟩ => ⟨S16x2048x1024, .f32⟩
  | .hbm, ⟨18, _⟩ => ⟨S1x16x2048x1024, .f32⟩
  | .hbm, ⟨19, _⟩ => ⟨S16x2048x1024, .f32⟩
  | .hbm, ⟨20, _⟩ => ⟨S16x2048x1, .f32⟩
  | .hbm, ⟨21, _⟩ => ⟨S16x2048x1024, .f32⟩
  | .hbm, ⟨22, _⟩ => ⟨S16x2048x1024, .f32⟩
  | .hbm, ⟨23, _⟩ => ⟨S16x2048x1024, .f32⟩
  | .hbm, ⟨24, _⟩ => ⟨S16x1x1024, .f32⟩
  | .hbm, ⟨25, _⟩ => ⟨S16x2048x1024, .f32⟩
  | .hbm, ⟨26, _⟩ => ⟨S_, .f32⟩
  | .hbm, ⟨27, _⟩ => ⟨S16x2048, .f32⟩
  | .hbm, ⟨28, _⟩ => ⟨S16x2048x1, .f32⟩
  | .hbm, ⟨29, _⟩ => ⟨S_, .f32⟩
  | .hbm, ⟨30, _⟩ => ⟨S16x2048x1, .f32⟩
  | .hbm, ⟨31, _⟩ => ⟨S16x2048x1, .f32⟩
  | .hbm, ⟨32, _⟩ => ⟨S_, .f32⟩
  | .hbm, ⟨33, _⟩ => ⟨S16x2048x1, .f32⟩
  | .hbm, ⟨34, _⟩ => ⟨S16x2048x1, .f32⟩
  | .hbm, ⟨35, _⟩ => ⟨S16x2048x1, .f32⟩
  | .hbm, ⟨36, _⟩ => ⟨S16x2048x1024, .f32⟩
  | .hbm, ⟨37, _⟩ => ⟨S16x2048x1024, .f32⟩
  | .hbm, ⟨38, _⟩ => ⟨S1x1x1024, .f32⟩
  | .hbm, ⟨39, _⟩ => ⟨S16x2048x1024, .f32⟩
  | .hbm, ⟨40, _⟩ => ⟨S16x2048x1024, .f32⟩
  | .hbm, ⟨41, _⟩ => ⟨S16x2048x1024, .f32⟩
  | .hbm, ⟨42, _⟩ => ⟨S16x2048x1024, .f32⟩
  | .hbm, ⟨43, _⟩ => ⟨S16x2048x1024, .f32⟩
  | _, _ => ⟨S65536x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_v23 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩

abbrev nD : Nat := 1
abbrev τ : Topo := Topo.v7x

variable {F : FTy → Type} [FloatOps F]
-- ==== Kernel5.lean ====
abbrev S16x2048x1024 : Shape := ⟨3, ![16, 2048, 1024]⟩
abbrev S16x6x1024 : Shape := ⟨3, ![16, 6, 1024]⟩
abbrev S1024 : Shape := ⟨1, ![1024]⟩
abbrev S1024x2560 : Shape := ⟨2, ![1024, 2560]⟩
abbrev S16x2048x128 : Shape := ⟨3, ![16, 2048, 128]⟩
abbrev S31x256 : Shape := ⟨2, ![31, 256]⟩
abbrev S256 : Shape := ⟨1, ![256]⟩
abbrev S1x1024 : Shape := ⟨2, ![1, 1024]⟩
abbrev S1x256 : Shape := ⟨2, ![1, 256]⟩
abbrev S16x2048x2048 : Shape := ⟨3, ![16, 2048, 2048]⟩
abbrev S16x2048x256 : Shape := ⟨3, ![16, 2048, 256]⟩
abbrev S1x512x1024 : Shape := ⟨3, ![1, 512, 1024]⟩
abbrev S1x6x1024 : Shape := ⟨3, ![1, 6, 1024]⟩
abbrev S1x512x128 : Shape := ⟨3, ![1, 512, 128]⟩
abbrev S1x512x2048 : Shape := ⟨3, ![1, 512, 2048]⟩
abbrev S1x512x256 : Shape := ⟨3, ![1, 512, 256]⟩
abbrev S512x1024 : Shape := ⟨2, ![512, 1024]⟩
abbrev S552x256 : Shape := ⟨2, ![552, 256]⟩
abbrev S6x1024 : Shape := ⟨2, ![6, 1024]⟩
abbrev S512 : Shape := ⟨1, ![512]⟩
abbrev S512x1 : Shape := ⟨2, ![512, 1]⟩
abbrev S512x128 : Shape := ⟨2, ![512, 128]⟩
abbrev S32x256 : Shape := ⟨2, ![32, 256]⟩
abbrev S1024x256 : Shape := ⟨2, ![1024, 256]⟩
abbrev S512x256 : Shape := ⟨2, ![512, 256]⟩
abbrev S8x256 : Shape := ⟨2, ![8, 256]⟩
abbrev S168x256 : Shape := ⟨2, ![168, 256]⟩
abbrev S128x256 : Shape := ⟨2, ![128, 256]⟩
abbrev S144x256 : Shape := ⟨2, ![144, 256]⟩
abbrev S128 : Shape := ⟨1, ![128]⟩
abbrev S128x1 : Shape := ⟨2, ![128, 1]⟩
abbrev S1x128x256 : Shape := ⟨3, ![1, 128, 256]⟩

abbrev nBuf : Space → Nat
  | .hbm => 16
  | .vmem => 20
  | .smem => 0
  | _ => 0

abbrev bufTy : (tb : Table) → Fin (tcTables nBuf tb) → BufTy
  | .hbm, ⟨0, _⟩ => ⟨S16x2048x1024, .f32⟩
  | .hbm, ⟨1, _⟩ => ⟨S16x6x1024, .f32⟩
  | .hbm, ⟨2, _⟩ => ⟨S1024, .f32⟩
  | .hbm, ⟨3, _⟩ => ⟨S1024x2560, .bf16⟩
  | .hbm, ⟨4, _⟩ => ⟨S16x2048x128, .f32⟩
  | .hbm, ⟨5, _⟩ => ⟨S16x2048x128, .f32⟩
  | .hbm, ⟨6, _⟩ => ⟨S31x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S1x1024, .f32⟩
  | .hbm, ⟨11, _⟩ => ⟨S1x256, .f32⟩
  | .hbm, ⟨12, _⟩ => ⟨S1x256, .f32⟩
  | .hbm, ⟨13, _⟩ => ⟨S1x256, .f32⟩
  | .hbm, ⟨14, _⟩ => ⟨S16x2048x2048, .bf16⟩
  | .hbm, ⟨15, _⟩ => ⟨S16x2048x256, .bf16⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x2560, .bf16⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | .local _ .vmem, ⟨10, _⟩ => ⟨S31x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1x512x2048, .bf16⟩
  | .local _ .vmem, ⟨15, _⟩ => ⟨S1x512x2048, .bf16⟩
  | .local _ .vmem, ⟨16, _⟩ => ⟨S1x512x256, .bf16⟩
  | .local _ .vmem, ⟨17, _⟩ => ⟨S1x512x256, .bf16⟩
  | .local _ .vmem, ⟨18, _⟩ => ⟨S512x1024, .bf16⟩
  | .local _ .vmem, ⟨19, _⟩ => ⟨S552x256, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S31x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference5Ideal.lean ====
abbrev S16x2048x1024 : Shape := ⟨3, ![16, 2048, 1024]⟩
abbrev S16x6x1024 : Shape := ⟨3, ![16, 6, 1024]⟩
abbrev S1024 : Shape := ⟨1, ![1024]⟩
abbrev S1024x2560 : Shape := ⟨2, ![1024, 2560]⟩
abbrev S16x2048x128 : Shape := ⟨3, ![16, 2048, 128]⟩
abbrev S31x256 : Shape := ⟨2, ![31, 256]⟩
abbrev S256 : Shape := ⟨1, ![256]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x1x1024 : Shape := ⟨3, ![16, 1, 1024]⟩
abbrev S16x2048x2560 : Shape := ⟨3, ![16, 2048, 2560]⟩
abbrev S16x2048x256 : Shape := ⟨3, ![16, 2048, 256]⟩
abbrev S16x2048x4x64 : Shape := ⟨4, ![16, 2048, 4, 64]⟩
abbrev S16x2048x4x32 : Shape := ⟨4, ![16, 2048, 4, 32]⟩
abbrev S16x2048x2048 : Shape := ⟨3, ![16, 2048, 2048]⟩

abbrev nBuf : Space → Nat
  | .hbm => 131
  | .vmem => 0
  | .smem => 0
  | _ => 0

abbrev hbmTy0_0 (i : Nat) : BufTy := match i % 128 with
  | 0 => ⟨S16x2048x1024, .f32⟩
  | 1 => ⟨S16x6x1024, .f32⟩
  | 2 => ⟨S1024, .f32⟩
  | 3 => ⟨S1024x2560, .bf16⟩
  | 4 => ⟨S16x2048x128, .f32⟩
  | 5 => ⟨S16x2048x128, .f32⟩
  | 6 => ⟨S31x256, .f32⟩
  | 7 => ⟨S256, .f32⟩
  | 8 => ⟨S256, .f32⟩
  | 9 => ⟨S256, .f32⟩
  | 10 => ⟨S16x2048x1024, .f32⟩
  | 11 => ⟨S_, .f32⟩
  | 12 => ⟨S16x2048, .f32⟩
  | 13 => ⟨S16x2048x1, .f32⟩
  | 14 => ⟨S_, .f32⟩
  | 15 => ⟨S16x2048x1, .f32⟩
  | 16 => ⟨S16x2048x1, .f32⟩
  | 17 => ⟨S_, .f32⟩
  | 18 => ⟨S16x2048x1, .f32⟩
  | 19 => ⟨S16x2048x1, .f32⟩
  | 20 => ⟨S16x2048x1, .f32⟩
  | 21 => ⟨S16x2048x1024, .f32⟩
  | 22 => ⟨S16x2048x1024, .f32⟩
  | 23 => ⟨S1x1x1024, .f32⟩
  | 24 => ⟨S16x2048x1024, .f32⟩
  | 25 => ⟨S16x2048x1024, .f32⟩
  | 26 => ⟨S16x1x1024, .f32⟩
  | 27 => ⟨S_, .f32⟩
  | 28 => ⟨S16x1x1024, .f32⟩
  | 29 => ⟨S16x1x1024, .f32⟩
  | 30 => ⟨S16x2048x1024, .f32⟩
  | 31 => ⟨S16x2048x1024, .f32⟩
  | 32 => ⟨S16x1x1024, .f32⟩
  | 33 => ⟨S16x2048x1024, .f32⟩
  | 34 => ⟨S16x2048x1024, .f32⟩
  | 35 => ⟨S1024x2560, .f32⟩
  | 36 => ⟨S16x2048x2560, .f32⟩
  | 37 => ⟨S16x2048x256, .f32⟩
  | 38 => ⟨S16x2048x256, .f32⟩
  | 39 => ⟨S16x2048x256, .f32⟩
  | 40 => ⟨S16x2048x256, .f32⟩
  | 41 => ⟨S16x2048x256, .f32⟩
  | 42 => ⟨S16x2048x256, .f32⟩
  | 43 => ⟨S16x2048x256, .f32⟩
  | 44 => ⟨S16x2048x256, .f32⟩
  | 45 => ⟨S16x2048x256, .f32⟩
  | 46 => ⟨S16x2048x256, .f32⟩
  | 47 => ⟨S16x2048x4x64, .f32⟩
  | 48 => ⟨S16x2048x4x32, .f32⟩
  | 49 => ⟨S16x2048x4x32, .f32⟩
  | 50 => ⟨S16x2048x4x64, .f32⟩
  | 51 => ⟨S16x2048x256, .f32⟩
  | 52 => ⟨S16x2048x4x64, .f32⟩
  | 53 => ⟨S16x2048x256, .f32⟩
  | 54 => ⟨S16x2048x4x64, .f32⟩
  | 55 => ⟨S16x2048x4x64, .f32⟩
  | 56 => ⟨S16x2048x4x64, .f32⟩
  | 57 => ⟨S16x2048x4x64, .f32⟩
  | 58 => ⟨S16x2048x256, .f32⟩
  | 59 => ⟨S16x2048x4x64, .f32⟩
  | 60 => ⟨S16x2048x4x32, .f32⟩
  | 61 => ⟨S16x2048x4x32, .f32⟩
  | 62 => ⟨S16x2048x4x64, .f32⟩
  | 63 => ⟨S16x2048x256, .f32⟩
  | 64 => ⟨S16x2048x4x64, .f32⟩
  | 65 => ⟨S16x2048x256, .f32⟩
  | 66 => ⟨S16x2048x4x64, .f32⟩
  | 67 => ⟨S16x2048x4x64, .f32⟩
  | 68 => ⟨S16x2048x4x64, .f32⟩
  | 69 => ⟨S16x2048x4x64, .f32⟩
  | 70 => ⟨S16x2048x256, .f32⟩
  | 71 => ⟨S16x2048x4x64, .f32⟩
  | 72 => ⟨S16x2048x4x32, .f32⟩
  | 73 => ⟨S16x2048x4x32, .f32⟩
  | 74 => ⟨S16x2048x4x64, .f32⟩
  | 75 => ⟨S16x2048x256, .f32⟩
  | 76 => ⟨S16x2048x4x64, .f32⟩
  | 77 => ⟨S16x2048x256, .f32⟩
  | 78 => ⟨S16x2048x4x64, .f32⟩
  | 79 => ⟨S16x2048x4x64, .f32⟩
  | 80 => ⟨S16x2048x4x64, .f32⟩
  | 81 => ⟨S16x2048x4x64, .f32⟩
  | 82 => ⟨S16x2048x256, .f32⟩
  | 83 => ⟨S16x2048x4x64, .f32⟩
  | 84 => ⟨S16x2048x4x32, .f32⟩
  | 85 => ⟨S16x2048x4x32, .f32⟩
  | 86 => ⟨S16x2048x4x64, .f32⟩
  | 87 => ⟨S16x2048x256, .f32⟩
  | 88 => ⟨S16x2048x4x64, .f32⟩
  | 89 => ⟨S16x2048x256, .f32⟩
  | 90 => ⟨S16x2048x4x64, .f32⟩
  | 91 => ⟨S16x2048x4x64, .f32⟩
  | 92 => ⟨S16x2048x4x64, .f32⟩
  | 93 => ⟨S16x2048x4x64, .f32⟩
  | 94 => ⟨S16x2048x256, .f32⟩
  | 95 => ⟨S16x2048x256, .f32⟩
  | 96 => ⟨S16x2048x256, .f32⟩
  | 97 => ⟨S_, .f32⟩
  | 98 => ⟨S16x2048x256, .f32⟩
  | 99 => ⟨S16x2048x256, .f32⟩
  | 100 => ⟨S16x2048x256, .f32⟩
  | 101 => ⟨S_, .f32⟩
  | 102 => ⟨S16x2048x256, .f32⟩
  | 103 => ⟨S16x2048x256, .f32⟩
  | 104 => ⟨S16x2048x256, .f32⟩
  | 105 => ⟨S_, .f32⟩
  | 106 => ⟨S16x2048x256, .f32⟩
  | 107 => ⟨S16x2048x256, .f32⟩
  | 108 => ⟨S_, .f32⟩
  | 109 => ⟨S16x2048x256, .f32⟩
  | 110 => ⟨S16x2048x256, .f32⟩
  | 111 => ⟨S16x2048x256, .f32⟩
  | 112 => ⟨S16x2048x256, .f32⟩
  | 113 => ⟨S16x2048x256, .f32⟩
  | 114 => ⟨S_, .f32⟩
  | 115 => ⟨S16x2048x256, .f32⟩
  | 116 => ⟨S16x2048x256, .f32⟩
  | 117 => ⟨S16x2048x256, .f32⟩
  | 118 => ⟨S_, .f32⟩
  | 119 => ⟨S16x2048x256, .f32⟩
  | 120 => ⟨S16x2048x256, .f32⟩
  | 121 => ⟨S16x2048x256, .f32⟩
  | 122 => ⟨S_, .f32⟩
  | 123 => ⟨S16x2048x256, .f32⟩
  | 124 => ⟨S16x2048x256, .f32⟩
  | 125 => ⟨S_, .f32⟩
  | 126 => ⟨S16x2048x256, .f32⟩
  | 127 => ⟨S16x2048x256, .f32⟩
  | _ => ⟨S16x2048x1024, .f32⟩

abbrev hbmTy0_1 (i : Nat) : BufTy := match i % 128 with
  | 0 => ⟨S16x2048x256, .f32⟩
  | 1 => ⟨S16x2048x2048, .f32⟩
  | 2 => ⟨S16x2048x2048, .bf16⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_cst_3 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_cst_4 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_cst_5 : Ref sig .tc := ⟨.hbm, 105, rfl⟩
abbrev main_v89 : Ref sig .tc := ⟨.hbm, 106, rfl⟩
abbrev main_v90 : Ref sig .tc := ⟨.hbm, 107, rfl⟩
abbrev main_cst_6 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_cst_7 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_cst_8 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_cst_9 : Ref sig .tc := ⟨.hbm, 122, rfl⟩
abbrev main_v102 : Ref sig .tc := ⟨.hbm, 123, rfl⟩
abbrev main_v103 : Ref sig .tc := ⟨.hbm, 124, rfl⟩
abbrev main_cst_10 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩

abbrev nD : Nat := 1
abbrev τ : Topo := Topo.v7x

variable {F : FTy → Type} [FloatOps F]
-- ==== Kernel6.lean ====
abbrev S16x2048x256 : Shape := ⟨3, ![16, 2048, 256]⟩
abbrev S16x2048x1024 : Shape := ⟨3, ![16, 2048, 1024]⟩
abbrev S16x6x1024 : Shape := ⟨3, ![16, 6, 1024]⟩
abbrev S4x256 : Shape := ⟨2, ![4, 256]⟩
abbrev S1024x1024 : Shape := ⟨2, ![1024, 1024]⟩
abbrev S1024 : Shape := ⟨1, ![1024]⟩
abbrev S1024x8 : Shape := ⟨2, ![1024, 8]⟩
abbrev S8 : Shape := ⟨1, ![8]⟩
abbrev S_ : Shape := ⟨0, ![]⟩
abbrev S1024x128 : Shape := ⟨2, ![1024, 128]⟩
abbrev S128 : Shape := ⟨1, ![128]⟩
abbrev S1x128 : Shape := ⟨2, ![1, 128]⟩
abbrev S1x1024 : Shape := ⟨2, ![1, 1024]⟩
abbrev S16x2048x128 : Shape := ⟨3, ![16, 2048, 128]⟩
abbrev S1x512x256 : Shape := ⟨3, ![1, 512, 256]⟩
abbrev S1x512x1024 : Shape := ⟨3, ![1, 512, 1024]⟩
abbrev S1x6x1024 : Shape := ⟨3, ![1, 6, 1024]⟩
abbrev S1x512x128 : Shape := ⟨3, ![1, 512, 128]⟩
abbrev S6x1024 : Shape := ⟨2, ![6, 1024]⟩
abbrev S512x256 : Shape := ⟨2, ![512, 256]⟩
abbrev S512 : Shape := ⟨1, ![512]⟩
abbrev S512x1 : Shape := ⟨2, ![512, 1]⟩
abbrev S1x256 : Shape := ⟨2, ![1, 256]⟩
abbrev S256x1024 : Shape := ⟨2, ![256, 1024]⟩
abbrev S512x1024 : Shape := ⟨2, ![512, 1024]⟩
abbrev S512x128 : Shape := ⟨2, ![512, 128]⟩

abbrev nBuf : Space → Nat
  | .hbm => 25
  | .vmem => 26
  | .smem => 0
  | _ => 0

abbrev bufTy : (tb : Table) → Fin (tcTables nBuf tb) → BufTy
  | .hbm, ⟨0, _⟩ => ⟨S16x2048x256, .bf16⟩
  | .hbm, ⟨1, _⟩ => ⟨S16x2048x256, .bf16⟩
  | .hbm, ⟨2, _⟩ => ⟨S16x2048x256, .bf16⟩
  | .hbm, ⟨3, _⟩ => ⟨S16x2048x256, .bf16⟩
  | .hbm, ⟨4, _⟩ => ⟨S16x2048x1024, .f32⟩
  | .hbm, ⟨5, _⟩ => ⟨S16x6x1024, .f32⟩
  | .hbm, ⟨6, _⟩ => ⟨S4x256, .f32⟩
  | .hbm, ⟨7, _⟩ => ⟨S1024x1024, .bf16⟩
  | .hbm, ⟨8, _⟩ => ⟨S1024, .f32⟩
  | .hbm, ⟨9, _⟩ => ⟨S1024, .f32⟩
  | .hbm, ⟨10, _⟩ => ⟨S1024x8, .f32⟩
  | .hbm, ⟨11, _⟩ => ⟨S8, .f32⟩
  | .hbm, ⟨12, _⟩ => ⟨S_, .i32⟩
  | .hbm, ⟨13, _⟩ => ⟨S_, .f32⟩
  | .hbm, ⟨14, _⟩ => ⟨S1024x128, .f32⟩
  | .hbm, ⟨15, _⟩ => ⟨S_, .f32⟩
  | .hbm, ⟨16, _⟩ => ⟨S_, .f32⟩
  | .hbm, ⟨17, _⟩ => ⟨S128, .f32⟩
  | .hbm, ⟨18, _⟩ => ⟨S1x128, .f32⟩
  | .hbm, ⟨19, _⟩ => ⟨S1x1024, .f32⟩
  | .hbm, ⟨20, _⟩ => ⟨S1x1024, .f32⟩
  | .hbm, ⟨21, _⟩ => ⟨S16x2048x1024, .f32⟩
  | .hbm, ⟨22, _⟩ => ⟨S16x2048x1024, .bf16⟩
  | .hbm, ⟨23, _⟩ => ⟨S16x2048x128, .f32⟩
  | .hbm, ⟨24, _⟩ => ⟨S16x2048x128, .i32⟩
  | .local _ .vmem, ⟨0, _⟩ => ⟨S1x512x256, .bf16⟩
  | .local _ .vmem, ⟨1, _⟩ => ⟨S1x512x256, .bf16⟩
  | .local _ .vmem, ⟨2, _⟩ => ⟨S1x512x256, .bf16⟩
  | .local _ .vmem, ⟨3, _⟩ => ⟨S1x512x256, .bf16⟩
  | .local _ .vmem, ⟨4, _⟩ => ⟨S1x512x256, .bf16⟩
  | .local _ .vmem, ⟨5, _⟩ => ⟨S1x512x256, .bf16⟩
  | .local _ .vmem, ⟨6, _⟩ => ⟨S1x512x256, .bf16⟩
  | .local _ .vmem, ⟨7, _⟩ => ⟨S1x512x256, .bf16⟩
  | .local _ .vmem, ⟨8, _⟩ => ⟨S1x512x1024, .f32⟩
  | .local _ .vmem, ⟨9, _⟩ => ⟨S1x512x1024, .f32⟩
  | .local _ .vmem, ⟨10, _⟩ => ⟨S1x6x1024, .f32⟩
  | .local _ .vmem, ⟨11, _⟩ => ⟨S1x6x1024, .f32⟩
  | .local _ .vmem, ⟨12, _⟩ => ⟨S4x256, .f32⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S1024x128, .f32⟩
  | .local _ .vmem, ⟨17, _⟩ => ⟨S1x128, .f32⟩
  | .local _ .vmem, ⟨18, _⟩ => ⟨S1x512x1024, .f32⟩
  | .local _ .vmem, ⟨19, _⟩ => ⟨S1x512x1024, .f32⟩
  | .local _ .vmem, ⟨20, _⟩ => ⟨S1x512x1024, .bf16⟩
  | .local _ .vmem, ⟨21, _⟩ => ⟨S1x512x1024, .bf16⟩
  | .local _ .vmem, ⟨22, _⟩ => ⟨S1x512x128, .f32⟩
  | .local _ .vmem, ⟨23, _⟩ => ⟨S1x512x128, .f32⟩
  | .local _ .vmem, ⟨24, _⟩ => ⟨S1x512x128, .i32⟩
  | .local _ .vmem, ⟨25, _⟩ => ⟨S1x512x128, .i32⟩
  | _, _ => ⟨S16x2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_call0_v0 : Ref sig .tc := ⟨.hbm, 13, rfl⟩
abbrev main_v0 : Ref sig .tc := ⟨.hbm, 14, rfl⟩
abbrev main_cst : Ref sig .tc := ⟨.hbm, 15, rfl⟩
abbrev main_call1_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5_0 : Ref sig .tc := ⟨.hbm, 21, rfl⟩
abbrev main_v5_1 : Ref sig .tc := ⟨.hbm, 22, rfl⟩
abbrev main_v5_2 : Ref sig .tc := ⟨.hbm, 23, rfl⟩
abbrev main_v5_3 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x128 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference6Ideal.lean ====
abbrev S16x2048x256 : Shape := ⟨3, ![16, 2048, 256]⟩
abbrev S16x2048x1024 : Shape := ⟨3, ![16, 2048, 1024]⟩
abbrev S16x6x1024 : Shape := ⟨3, ![16, 6, 1024]⟩
abbrev S4x256 : Shape := ⟨2, ![4, 256]⟩
abbrev S1024x1024 : Shape := ⟨2, ![1024, 1024]⟩
abbrev S1024 : Shape := ⟨1, ![1024]⟩
abbrev S1024x8 : Shape := ⟨2, ![1024, 8]⟩
abbrev S8 : Shape := ⟨1, ![8]⟩
abbrev S16x2048x1x256 : Shape := ⟨4, ![16, 2048, 1, 256]⟩
abbrev S16x2048x4x256 : Shape := ⟨4, ![16, 2048, 4, 256]⟩
abbrev S_ : Shape := ⟨0, ![]⟩
abbrev S16x2048x4 : Shape := ⟨3, ![16, 2048, 4]⟩
abbrev S16x2048x4x1 : Shape := ⟨4, ![16, 2048, 4, 1]⟩
abbrev S1x1x4x256 : Shape := ⟨4, ![1, 1, 4, 256]⟩
abbrev S16x1x1024 : Shape := ⟨3, ![16, 1, 1024]⟩
abbrev S16x2048 : Shape := ⟨2, ![16, 2048]⟩
abbrev S16x2048x1 : Shape := ⟨3, ![16, 2048, 1]⟩
abbrev S1x1x1024 : Shape := ⟨3, ![1, 1, 1024]⟩

abbrev nBuf : Space → Nat
  | .hbm => 83
  | .vmem => 0
  | .smem => 0
  | _ => 0

abbrev bufTy : (tb : Table) → Fin (tcTables nBuf tb) → BufTy
  | .hbm, ⟨0, _⟩ => ⟨S16x2048x256, .bf16⟩
  | .hbm, ⟨1, _⟩ => ⟨S16x2048x256, .bf16⟩
  | .hbm, ⟨2, _⟩ => ⟨S16x2048x256, .bf16⟩
  | .hbm, ⟨3, _⟩ => ⟨S16x2048x256, .bf16⟩
  | .hbm, ⟨4, _⟩ => ⟨S16x2048x1024, .f32⟩
  | .hbm, ⟨5, _⟩ => ⟨S16x6x1024, .f32⟩
  | .hbm, ⟨6, _⟩ => ⟨S4x256, .f32⟩
  | .hbm, ⟨7, _⟩ => ⟨S1024x1024, .bf16⟩
  | .hbm, ⟨8, _⟩ => ⟨S1024, .f32⟩
  | .hbm, ⟨9, _⟩ => ⟨S1024, .f32⟩
  | .hbm, ⟨10, _⟩ => ⟨S1024x8, .f32⟩
  | .hbm, ⟨11, _⟩ => ⟨S8, .f32⟩
  | .hbm, ⟨12, _⟩ => ⟨S16x2048x1x256, .bf16⟩
  | .hbm, ⟨13, _⟩ => ⟨S16x2048x1x256, .bf16⟩
  | .hbm, ⟨14, _⟩ => ⟨S16x2048x1x256, .bf16⟩
  | .hbm, ⟨15, _⟩ => ⟨S16x2048x1x256, .bf16⟩
  | .hbm, ⟨16, _⟩ => ⟨S16x2048x4x256, .bf16⟩
  | .hbm, ⟨17, _⟩ => ⟨S16x2048x4x256, .f32⟩
  | .hbm, ⟨18, _⟩ => ⟨S16x2048x4x256, .f32⟩
  | .hbm, ⟨19, _⟩ => ⟨S_, .f32⟩
  | .hbm, ⟨20, _⟩ => ⟨S16x2048x4, .f32⟩
  | .hbm, ⟨21, _⟩ => ⟨S16x2048x4x1, .f32⟩
  | .hbm, ⟨22, _⟩ => ⟨S_, .f32⟩
  | .hbm, ⟨23, _⟩ => ⟨S16x2048x4x1, .f32⟩
  | .hbm, ⟨24, _⟩ => ⟨S16x2048x4x1, .f32⟩
  | .hbm, ⟨25, _⟩ => ⟨S_, .f32⟩
  | .hbm, ⟨26, _⟩ => ⟨S16x2048x4x1, .f32⟩
  | .hbm, ⟨27, _⟩ => ⟨S16x2048x4x1, .f32⟩
  | .hbm, ⟨28, _⟩ => ⟨S16x2048x4x1, .f32⟩
  | .hbm, ⟨29, _⟩ => ⟨S16x2048x4x256, .f32⟩
  | .hbm, ⟨30, _⟩ => ⟨S16x2048x4x256, .f32⟩
  | .hbm, ⟨31, _⟩ => ⟨S1x1x4x256, .f32⟩
  | .hbm, ⟨32, _⟩ => ⟨S16x2048x4x256, .f32⟩
  | .hbm, ⟨33, _⟩ => ⟨S16x2048x4x256, .f32⟩
  | .hbm, ⟨34, _⟩ => ⟨S16x2048x1024, .f32⟩
  | .hbm, ⟨35, _⟩ => ⟨S1024x1024, .f32⟩
  | .hbm, ⟨36, _⟩ => ⟨S16x2048x1024, .f32⟩
  | .hbm, ⟨37, _⟩ => ⟨S16x1x1024, .f32⟩
  | .hbm, ⟨38, _⟩ => ⟨S16x2048x1024, .f32⟩
  | .hbm, ⟨39, _⟩ => ⟨S_, .f32⟩
  | .hbm, ⟨40, _⟩ => ⟨S16x2048, .f32⟩
  | .hbm, ⟨41, _⟩ => ⟨S16x2048x1, .f32⟩
  | .hbm, ⟨42, _⟩ => ⟨S_, .f32⟩
  | .hbm, ⟨43, _⟩ => ⟨S16x2048x1, .f32⟩
  | .hbm, ⟨44, _⟩ => ⟨S16x2048x1, .f32⟩
  | .hbm, ⟨45, _⟩ => ⟨S_, .f32⟩
  | .hbm, ⟨46, _⟩ => ⟨S16x2048x1, .f32⟩
  | .hbm, ⟨47, _⟩ => ⟨S16x2048x1, .f32⟩
  | .hbm, ⟨48, _⟩ => ⟨S16x2048x1, .f32⟩
  | .hbm, ⟨49, _⟩ => ⟨S16x2048x1024, .f32⟩
  | .hbm, ⟨50, _⟩ => ⟨S16x2048x1024, .f32⟩
  | .hbm, ⟨51, _⟩ => ⟨S1x1x1024, .f32⟩
  | .hbm, ⟨52, _⟩ => ⟨S16x2048x1024, .f32⟩
  | .hbm, ⟨53, _⟩ => ⟨S16x2048x1024, .f32⟩
  | .hbm, ⟨54, _⟩ => ⟨S16x2048x1024, .f32⟩
  | .hbm, ⟨55, _⟩ => ⟨S16x2048x1024, .f32⟩
  | .hbm, ⟨56, _⟩ => ⟨S16x2048x1024, .f32⟩
  | .hbm, ⟨57, _⟩ => ⟨S16x2048x1024, .f32⟩
  | .hbm, ⟨58, _⟩ => ⟨S_, .f32⟩
  | .hbm, ⟨59, _⟩ => ⟨S16x2048, .f32⟩
  | .hbm, ⟨60, _⟩ => ⟨S16x2048x1, .f32⟩
  | .hbm, ⟨61, _⟩ => ⟨S_, .f32⟩
  | .hbm, ⟨62, _⟩ => ⟨S16x2048x1, .f32⟩
  | .hbm, ⟨63, _⟩ => ⟨S16x2048x1, .f32⟩
  | .hbm, ⟨64, _⟩ => ⟨S_, .f32⟩
  | .hbm, ⟨65, _⟩ => ⟨S16x2048x1, .f32⟩
  | .hbm, ⟨66, _⟩ => ⟨S16x2048x1, .f32⟩
  | .hbm, ⟨67, _⟩ => ⟨S16x2048x1, .f32⟩
  | .hbm, ⟨68, _⟩ => ⟨S16x2048x1024, .f32⟩
  | .hbm, ⟨69, _⟩ => ⟨S16x2048x1024, .f32⟩
  | .hbm, ⟨70, _⟩ => ⟨S1x1x1024, .f32⟩
  | .hbm, ⟨71, _⟩ => ⟨S16x2048x1024, .f32⟩
  | .hbm, ⟨72, _⟩ => ⟨S16x2048x1024, .f32⟩
  | .hbm, ⟨73, _⟩ => ⟨S16x1x1024, .f32⟩
  | .hbm, ⟨74, _⟩ => ⟨S_, .f32⟩
  | .hbm, ⟨75, _⟩ => ⟨S16x1x1024, .f32⟩
  | .hbm, ⟨76, _⟩ => ⟨S16x1x1024, .f32⟩
  | .hbm, ⟨77, _⟩ => ⟨S16x2048x1024, .f32⟩
  | .hbm, ⟨78, _⟩ => ⟨S16x2048x1024, .f32⟩
  | .hbm, ⟨79, _⟩ => ⟨S16x1x1024, .f32⟩
  | .hbm, ⟨80, _⟩ => ⟨S16x2048x1024, .f32⟩
  | .hbm, ⟨81, _⟩ => ⟨S16x2048x1024, .f32⟩
  | .hbm, ⟨82, _⟩ => ⟨S16x2048x1024, .bf16⟩
  | _, _ => ⟨S16x2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_5 : Ref sig .tc := ⟨.hbm, 58, rfl⟩
abbrev main_v40 : Ref sig .tc := ⟨.hbm, 59, rfl⟩
abbrev main_v41 : Ref sig .tc := ⟨.hbm, 60, rfl⟩
abbrev main_cst_6 : Ref sig .tc := ⟨.hbm, 61, rfl⟩
abbrev main_v42 : Ref sig .tc := ⟨.hbm, 62, rfl⟩
abbrev main_v43 : Ref sig .tc := ⟨.hbm, 63, rfl⟩
abbrev main_cst_7 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_8 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩

abbrev nD : Nat := 1
abbrev τ : Topo := Topo.v7x

variable {F : FTy → Type} [FloatOps F]
-- ==== Proof.Table.lean ====
/-
  The slot table as a function of how many assignments have been written: from the fill words, assignment
  `n` puts the token `n mod 32768` at the row `D n` it names, later assignments over earlier ones. Sixteen
  lanes of an indexed store, and the update steps of a host scatter, are that many steps of it.
-/
module

public import Idealize.ShloMosaic.PureOps
public import Idealize.ShloMosaic.Lib.Tactic

@[expose] public section

noncomputable section

namespace Cert.Slots

open Idealize.ShloMosaic

/-- The table's shape: one word per row. -/
abbrev Tab : Shape := ⟨1, ![69632]⟩

/-- The token that assignment `n` belongs to. -/
def tokAt (n : Nat) : BitVec 32 := BitVec.ofNat 32 (n % 32768)

/-- The table after the first `n` assignments, assignment `k` naming row `D k`. -/
def tbl (D : Nat → Nat) (fill : Tab.Idx → BitVec 32) : Nat → Tab.Idx → BitVec 32
  | 0 => fill
  | n + 1 => fun j => if (j 0).val = D n then tokAt n else tbl D fill n j

theorem tbl_succ (D : Nat → Nat) (fill : Tab.Idx → BitVec 32) (n : Nat) :
    tbl D fill (n + 1) = fun j => if (j 0).val = D n then tokAt n else tbl D fill n j := rfl

/-- A fold over `n` positions whose `k`-th step carries `T (a + k)` to `T (a + k + 1)` carries `T a` to `T (a + n)`. -/
theorem foldl_steps {β : Type} (T : Nat → β) (a : Nat) : ∀ (n : Nat) (step : β → Fin n → β)
    (_ : ∀ k : Fin n, step (T (a + k.val)) k = T (a + k.val + 1)), (List.finRange n).foldl step (T a) = T (a + n)
  | 0, _, _ => rfl
  | n + 1, step, h => by
    rw [List.finRange_succ_last, List.foldl_append, List.foldl_map,
      foldl_steps T a n (fun b k => step b k.castSucc) (fun k => h k.castSucc)]
    exact h (Fin.last n)

/-- Lane `k` of a vector of sixteen. -/
abbrev lane (k : Fin 16) : (⟨1, ![16]⟩ : Shape).Idx := Shape.ofLane (d := ![16]) k

/-- Sixteen lanes stored through `idx`, lane `k` holding assignment `a + k`'s token and naming its row: sixteen
    steps of the table. -/
theorem storeIdx_tbl {F : FTy → Type} [FloatOps F] (D : Nat → Nat) (fill : Tab.Idx → BitVec 32) (a : Nat)
    (idx pay : IVec ⟨1, ![16]⟩ 32) (h : ∀ x y, ((![idx] : Fin 1 → IVec ⟨1, ![16]⟩ 32) x y).toNat < Tab.size x)
    (hi : ∀ k : Fin 16, (idx (lane k)).toNat = D (a + k.val)) (hp : ∀ k : Fin 16, pay (lane k) = tokAt (a + k.val)) :
    storeIdx (F := F) (s := Tab) (e := .i32) (tbl D fill a) ![idx] pay (fun _ => 1#1) false h = tbl D fill (a + 16) := by
  unfold storeIdx
  refine foldl_steps (tbl D fill) a 16 _ fun k => ?_
  funext j
  have hp' : pay (Shape.ofLane k) = tokAt (a + k.val) := hp k
  simp only [tbl_succ, ↓reduceIte, Bool.false_eq_true, hp']
  refine if_congr ?_ rfl rfl
  constructor
  · intro H; rw [← hi k]; exact H 0
  · intro H x; rw [Fin.eq_zero x]; exact H.trans (hi k).symm

end Cert.Slots

end
-- ==== Proof.Words.lean ====
/-
  The reference side of the slot-token program: what its precondition says of a row number, the token of an
  assignment as the reference computes it (a floored remainder of its position), and its scatter — the
  assignments laid over the fill words in their order, so that the last one naming a row decides it.
-/
module

public import proofs.«01_k».proof.Defs
public import proofs.«01_k».proof.Proof.Gen.Pre_rows_in_table
public import proofs.«01_k».proof.Proof.Gen.ReferenceIdeal
public import proofs.«01_k».proof.Proof.Table
public import Idealize.ShloMosaic.Lib.ValueIdxCore

@[expose] public section

noncomputable section

namespace Cert.Slots

open Idealize.ShloMosaic Idealize.ShloMosaic.ValueIdx Cert.ReferenceIdeal Cert.ReferenceIdeal.Gen

/-! ## The precondition -/

theorem andi_ofBool (p q : Bool) : IntOp.andi (BitVec.ofBool p) (BitVec.ofBool q) = BitVec.ofBool (p && q) := by
  cases p <;> cases q <;> decide

theorem ofBool_eq_one (p : Bool) : (BitVec.ofBool p = 1#1) ↔ p = true := by cases p <;> decide

theorem in_table_word (v : BitVec 32) (e : IntOp.andi (IntOp.cmpi .sge v 0#32) (IntOp.cmpi .slt v 69632#32) = 1#1) : v.toNat < 69632 := by
  simp only [IntOp.cmpi, andi_ofBool, ofBool_eq_one, Bool.and_eq_true, BitVec.sle_eq_decide, BitVec.slt_eq_decide, decide_eq_true_eq,
    BitVec.toInt_eq_toNat_cond, BitVec.toNat_ofNat, Nat.reducePow, Nat.reduceMod] at e
  omega

/-- The precondition bounds every row number, at either instance. -/
theorem row_lt {F : FTy → Type} [FloatOps F] (D : S65536.Idx → BitVec 32)
    (h : Cert.Pre_rows_in_table.fn (F := F) D = fun _ => 1#1) (j : S65536.Idx) : (D j).toNat < 69632 := by
  have e := congrFun h j
  simp only [Cert.Pre_rows_in_table.fn, andi, cmpi, broadcastInDim, constantI] at e
  exact in_table_word _ e

/-! ## The token of an assignment -/

/-- The floored remainder as the host computes it, at a number below 2³¹: the plain remainder. -/
theorem rem_word (n : Nat) (hn : n < 65536) :
    IntOp.remsi .host (BitVec.ofNat 32 n) 32768#32 = tokAt n := by
  unfold IntOp.remsi
  rw [if_neg (by unfold IntOp.SDivCorner; rintro (h | ⟨-, h⟩) <;> exact absurd h (by decide))]
  have h1 : (BitVec.ofNat 32 n).msb = false := by
    rw [BitVec.msb_eq_decide]; simp; omega
  have h2 : (32768#32).msb = false := by decide
  rw [BitVec.srem_eq, h1, h2]
  apply BitVec.eq_of_toNat_eq
  show (BitVec.ofNat 32 n % 32768#32).toNat = (tokAt n).toNat
  unfold tokAt
  rw [BitVec.toNat_umod, BitVec.toNat_ofNat, BitVec.toNat_ofNat, BitVec.toNat_ofNat, Nat.mod_eq_of_lt (show n < 2 ^ 32 by omega),
    Nat.mod_eq_of_lt (show 32768 < 2 ^ 32 by decide), Nat.mod_eq_of_lt (show n % 32768 < 2 ^ 32 by omega)]

/-- The assignment at an index. -/
def at0 (n : Nat) : S65536.Idx := fun a => ⟨n % 65536, by rw [Fin.eq_zero a]; exact Nat.mod_lt _ (by decide)⟩

abbrev tokens : S65536.Idx → BitVec 32 := select (andi (cmpi .ne (cmpi .slt (Host.remsi (iotaInDim S65536 32 0) (broadcastInDim S65536 ![] bcast_S_S65536 (select (cmpi .eq (id (constantI S_ 32 32768#32)) (constantI S_ 32 0#32)) (constantI S_ 32 1#32) (id (constantI S_ 32 32768#32))))) (broadcastInDim S65536 ![] bcast_S_S65536 (constantI S_ 32 0#32))) (broadcastInDim S65536 ![] bcast_S_S65536 (cmpi .slt (select (cmpi .eq (id (constantI S_ 32 32768#32)) (constantI S_ 32 0#32)) (constantI S_ 32 1#32) (id (constantI S_ 32 32768#32))) (constantI S_ 32 0#32)))) (cmpi .ne (Host.remsi (iotaInDim S65536 32 0) (broadcastInDim S65536 ![] bcast_S_S65536 (select (cmpi .eq (id (constantI S_ 32 32768#32)) (constantI S_ 32 0#32)) (constantI S_ 32 1#32) (id (constantI S_ 32 32768#32))))) (broadcastInDim S65536 ![] bcast_S_S65536 (constantI S_ 32 0#32)))) (addi (Host.remsi (iotaInDim S65536 32 0) (broadcastInDim S65536 ![] bcast_S_S65536 (select (cmpi .eq (id (constantI S_ 32 32768#32)) (constantI S_ 32 0#32)) (constantI S_ 32 1#32) (id (constantI S_ 32 32768#32))))) (broadcastInDim S65536 ![] bcast_S_S65536 (select (cmpi .eq (id (constantI S_ 32 32768#32)) (constantI S_ 32 0#32)) (constantI S_ 32 1#32) (id (constantI S_ 32 32768#32))))) (Host.remsi (iotaInDim S65536 32 0) (broadcastInDim S65536 ![] bcast_S_S65536 (select (cmpi .eq (id (constantI S_ 32 32768#32)) (constantI S_ 32 0#32)) (constantI S_ 32 1#32) (id (constantI S_ 32 32768#32)))))

theorem tokens_at (n : Nat) : tokens (at0 n) = tokAt (n % 65536) := by
  have hd : Scalar.select (IntOp.cmpi .eq 32768#32 0#32) 1#32 32768#32 = 32768#32 := by decide
  have hn := Nat.mod_lt n (show 65536 > 0 by decide)
  have hi : (iotaInDim S65536 32 0 : S65536.Idx → BitVec 32) (at0 n) = BitVec.ofNat 32 (n % 65536) := rfl
  simp only [tokens, select, andi, cmpi, addi, Host.remsi, broadcastInDim, constantI, id]
  rw [hi, hd, rem_word _ hn]
  have h2 : IntOp.cmpi .slt (tokAt (n % 65536)) 0#32 = 0#1 := by
    have h3 : (tokAt (n % 65536)).slt 0#32 = false := by
      unfold tokAt
      rw [BitVec.slt_eq_decide, decide_eq_false_iff_not, BitVec.toInt_eq_toNat_cond]
      simp; omega
    unfold IntOp.cmpi; simp [h3]
  rw [h2]
  have h4 : IntOp.cmpi .ne 0#1 (IntOp.cmpi .slt 32768#32 0#32) = 0#1 := by decide
  rw [h4]
  have h5 : ∀ w : BitVec 1, IntOp.andi 0#1 w = 0#1 := by decide
  rw [h5]
  rfl

/-! ## The scatter -/

theorem at0_eq (n : Fin 65536) : at0 n.val = ix1 n := by
  funext a; apply Fin.ext; rw [Fin.eq_zero a]; exact Nat.mod_eq_of_lt n.isLt

theorem rowMajor_at0 (n : Fin S65536.numel) : S65536.rowMajor.symm n = at0 n.val := by
  rw [Equiv.symm_apply_eq]
  apply Fin.ext
  have h := n.isLt
  change n.val < 65536 at h
  show n.val = (S65536.rowMajor (at0 n.val)).val
  rw [Shape.rowMajor_val_one]
  show n.val = n.val % 65536
  omega

/-- The row numbers as the reference indexes with them: a negative one counted from the end. -/
abbrev rowsOf (D : S65536.Idx → BitVec 32) : S65536x1.Idx → BitVec 32 :=
  broadcastInDim S65536x1 ![0] bcast_S65536_S65536x1_0 (select (cmpi .slt D (broadcastInDim S65536 ![] bcast_S_S65536 (constantI S_ 32 0#32))) (addi D (broadcastInDim S65536 ![] bcast_S_S65536 (constantI S_ 32 69632#32))) D)

theorem rowsOf_at (D : S65536.Idx → BitVec 32) (hD : ∀ j, (D j).toNat < 69632) (n : Fin 65536) :
    (rowsOf D (ix2 n (0 : Fin 1))).toInt = ((D (ix1 n)).toNat : Int) := by
  have hi : rowsOf D (ix2 n (0 : Fin 1)) = Scalar.select (IntOp.cmpi .slt (D (ix1 n)) 0#32) (IntOp.addi (D (ix1 n)) 69632#32) (D (ix1 n)) := by
    have e : ∀ (y : S65536.Idx → BitVec 32), broadcastInDim S65536x1 ![0] bcast_S65536_S65536x1_0 y (ix2 n (0 : Fin 1)) = y (ix1 n) := by
      intro y
      refine congrArg y ?_
      funext a; apply Fin.ext; rw [Fin.eq_zero a]; rfl
    exact e _
  have hl := hD (ix1 n)
  have h3 : (D (ix1 n)).slt 0#32 = false := by
    rw [BitVec.slt_eq_decide, decide_eq_false_iff_not, BitVec.toInt_eq_toNat_cond]
    simp; omega
  rw [hi]
  rw [show IntOp.cmpi .slt (D (ix1 n)) 0#32 = 0#1 by unfold IntOp.cmpi; simp [h3]]
  show (D (ix1 n)).toInt = _
  rw [BitVec.toInt_eq_toNat_cond]; omega

/-- Where assignment `n` lands: the row it names. -/
theorem lands (n : Fin 65536) (idx : S65536x1.Idx → BitVec 32) (x : Nat) (hx : x < 69632) (h : (idx (ix2 n (0 : Fin 1))).toInt = (x : Int)) :
    scatter_S69632_S65536x1_S65536_n_0_0_1.resultIdx? (w := 32) (ix1 n) idx = some (ix1 ⟨x, hx⟩) := by
  have hm : (0 : Fin 1) ∈ scatter_S69632_S65536x1_S65536_n_0_0_1.scatterDimsToOperandDims := List.mem_singleton.2 rfl
  have hw : scatter_S69632_S65536x1_S65536_n_0_0_1.window (ix1 n) 0 = 0 := rfl
  have hs : scatter_S69632_S65536x1_S65536_n_0_0_1.start (w := 32) (ix1 n) idx 0 = (x : Int) := by
    rw [← h]
    unfold ScatterDims.start
    rw [dif_pos hm]
    refine congrArg (fun j => (idx j).toInt) ?_
    funext b
    match b with
    | ⟨0, _⟩ => rfl
    | ⟨1, _⟩ => rfl
  unfold ScatterDims.resultIdx?
  have hall : ∀ a : Fin 1, scatter_S69632_S65536x1_S65536_n_0_0_1.start (w := 32) (ix1 n) idx a = (x : Int)
      ∧ scatter_S69632_S65536x1_S65536_n_0_0_1.window (ix1 n) a = 0 := fun a => by rw [Fin.eq_zero a]; exact ⟨hs, hw⟩
  rw [dif_pos (fun a => by
    rw [(hall a).1, (hall a).2, show S69632.size a = 69632 by rw [Fin.eq_zero a]; rfl]; omega)]
  refine congrArg some (funext fun a => Fin.ext ?_)
  show (scatter_S69632_S65536x1_S65536_n_0_0_1.start (w := 32) (ix1 n) idx a + scatter_S69632_S65536x1_S65536_n_0_0_1.window (ix1 n) a).toNat = _
  rw [(hall a).1, (hall a).2]
  match a with
  | ⟨0, _⟩ => show ((x : Int) + ((0 : Nat) : Int)).toNat = x; omega

/-- The reference's scatter is the assignments written over the fill words in order. -/
theorem scatter_tbl (D : S65536.Idx → BitVec 32) (hD : ∀ j, (D j).toNat < 69632) (x : S69632.Idx → BitVec 32) :
    Host.scatter scatter_S69632_S65536x1_S65536_n_0_0_1 (fun _ b => b) x (rowsOf D) tokens
      = tbl (fun n => (D (at0 n)).toNat) x 65536 := by
  unfold Host.scatter
  refine (foldl_steps (tbl (fun n => (D (at0 n)).toNat) x) 0 65536 _ ?_).trans (by rw [Nat.zero_add])
  intro k
  rw [Nat.zero_add, tbl_succ]
  have hk : S65536.rowMajor.symm k = at0 k.val := rowMajor_at0 k
  have hl := lands k (rowsOf D) (D (at0 k.val)).toNat (hD _) (by rw [rowsOf_at D hD k, at0_eq k])
  have hk' : (at0 k.val : S65536.Idx) = ix1 k := at0_eq k
  simp only [hk, ← hk'] at hl ⊢
  rw [hl]
  funext j
  rw [tokens_at, Nat.mod_eq_of_lt k.isLt]
  refine if_congr ?_ rfl rfl
  constructor
  · rintro rfl; rfl
  · intro h
    funext a
    apply Fin.ext
    match a with
    | ⟨0, _⟩ => exact h

end Cert.Slots

end
-- ==== Proof.Slot.lean ====
/-
  The slot-token kernel's task on a vector subcore. Task (0, 0) copies the fill words into its table, reads the
  row numbers in sixteen chunks of 4096, stores the tokens through them sixteen lanes at a time, and copies the
  table out: the result is the fill words with all 65536 assignments written over them in order (`Slots.tbl`).
  The other thirty-one tasks do nothing. Written over any float values: the kernel handles words only.
-/
module

public import proofs.«01_k».proof.Defs
public import proofs.«01_k».proof.Proof.Table
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Slot

open Cert.KernelIdeal Cert.KernelIdeal.Gen Cert.Slots

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

abbrev dLoc (d : Dev nD) : Loc nD τ sig := (SparseCore.T d).loc main_arg0
abbrev fLoc (d : Dev nD) : Loc nD τ sig := (SparseCore.T d).loc main_v1
abbrev oLoc (d : Dev nD) : Loc nD τ sig := (SparseCore.T d).loc main_v2

variable (fv : (d : Dev nD) → Buf (Elt F) (fLoc d))

local notation "dV" => (Memref.whole Cert.KernelIdeal.main_arg0_scv : Memref Cert.KernelIdeal.sig Kind.scVector Space.hbm Cert.KernelIdeal.S65536 EltTy.i32)
local notation "fV" => (Memref.whole Cert.KernelIdeal.main_v1_scv : Memref Cert.KernelIdeal.sig Kind.scVector Space.hbm Cert.KernelIdeal.S69632 EltTy.i32)
local notation "oV" => (Memref.whole Cert.KernelIdeal.main_v2_scv : Memref Cert.KernelIdeal.sig Kind.scVector Space.hbm Cert.KernelIdeal.S69632 EltTy.i32)
local notation "tV" => (Memref.whole Cert.KernelIdeal.cc0_scratch0 : Memref Cert.KernelIdeal.sig Kind.scVector Space.vmem Cert.KernelIdeal.S69632 EltTy.i32)
local notation "iV" => (Memref.whole Cert.KernelIdeal.cc0_scratch1 : Memref Cert.KernelIdeal.sig Kind.scVector Space.vmem Cert.KernelIdeal.S4096 EltTy.i32)

/-- The position of assignment `n` in the array of row numbers (`n` below 65536). -/
def at1 (n : Nat) : S65536.Idx := fun a => ⟨n % 65536, by rw [Fin.eq_zero a]; exact Nat.mod_lt _ (by decide)⟩

/-- The row that assignment `n` names. -/
def Drow (d : Dev nD) (n : Nat) : Nat := (show BitVec 32 from m (dLoc d) (at1 n)).toNat

/-- The table after `n` assignments. -/
def Tn (d : Dev nD) (n : Nat) : S69632.Idx → BitVec 32 := tbl (Drow m d) (fv d) n

abbrev dPts (d : Dev nD) : sProp 𝕄 := dLoc d ↦{fullShare} m (dLoc d)
abbrev fPts (d : Dev nD) : sProp 𝕄 := fLoc d ↦{fullShare} fv d
abbrev oPts (d : Dev nD) (f : Buf (Elt F) (oLoc d)) : sProp 𝕄 := oLoc d ↦{fullShare} f

/-- What task `s` of SparseCore `c` is handed: the three arrays for task (0, 0), nothing for the others; -/
def taskIn (d : Dev nD) (c s : ℕ) : sProp 𝕄 := if c = 0 ∧ s = 0 then iprop(dPts m d ∗ fPts fv d ∗ ∃ f, oPts d f) else iprop(emp)
/-- and what it brings back: the result at the finished table. -/
def taskOut (d : Dev nD) (c s : ℕ) : sProp 𝕄 := if c = 0 ∧ s = 0 then iprop(dPts m d ∗ fPts fv d ∗ oPts d (Tn m fv d 65536)) else iprop(emp)
def coreIn (d : Dev nD) (c : ℕ) : sProp 𝕄 := if c = 0 then iprop(dPts m d ∗ fPts fv d ∗ ∃ f, oPts d f) else iprop(emp)
def coreOut (d : Dev nD) (c : ℕ) : sProp 𝕄 := if c = 0 then iprop(dPts m d ∗ fPts fv d ∗ oPts d (Tn m fv d 65536)) else iprop(emp)

instance taskIn_storable (d : Dev nD) (c s : ℕ) : BI.Storable (upEmb : UEmb _ 𝕄) (taskIn m fv d c s) := by
  unfold taskIn; split <;> infer_instance
instance taskOut_storable (d : Dev nD) (c s : ℕ) : BI.Storable (upEmb : UEmb _ 𝕄) (taskOut m fv d c s) := by
  unfold taskOut; split <;> infer_instance
instance coreIn_storable (d : Dev nD) (c : ℕ) : BI.Storable (upEmb : UEmb _ 𝕄) (coreIn m fv d c) := by
  unfold coreIn; split <;> infer_instance
instance coreOut_storable (d : Dev nD) (c : ℕ) : BI.Storable (upEmb : UEmb _ 𝕄) (coreOut m fv d c) := by
  unfold coreOut; split <;> infer_instance

def P : (K (F := F)).Pay (nD := nD) (Val := Elt F) (Name := ℕ) (U := UU) where
  st := fun _ d c => coreIn m fv d c.val
  dn := fun _ d c => coreOut m fv d c.val
  go := fun _ d c i => taskIn m fv d c.val i.val
  td := fun _ d c i => taskOut m fv d c.val i.val
  x := fun _ _ => iprop(emp)

instance P_storable : (P (F := F) m fv).IsStorable where
  st _ d c := by unfold P; infer_instance
  dn _ d c := by unfold P; infer_instance
  go _ _ _ _ := by unfold P; infer_instance
  td _ _ _ _ := by unfold P; infer_instance

/-- What the proof asks of the launch memory: every row number is a row of the table. -/
def PreOK : Prop := ∀ (d : Dev nD) (j : S65536.Idx), (show BitVec 32 from m (dLoc d) j).toNat < 69632

/-! ## The words the task computes -/

section Words

theorem off1_eq : ∀ k : Fin k0_t1_loop.trips, k0_off1 k = ![4096 * k.val] := by decide +kernel
theorem off2_eq : ∀ k : Fin k0_t2_loop.trips, k0_off2 k = ![16 * k.val] := by decide +kernel

/-- The token of assignment `n`, as the task computes it. -/
theorem word_tok (n : Nat) (h : n < 65536) :
    BitVec.ofNat 32 n - (0#32 + (if BitVec.ofBool ((32768#32).sle (BitVec.ofNat 32 n)) = 1 then 32768#32 else 0#32)) = tokAt n := by
  have hn : (BitVec.ofNat 32 n).toNat = n := by rw [BitVec.toNat_ofNat]; omega
  have hi : (BitVec.ofNat 32 n).toInt = (n : Int) := by rw [BitVec.toInt_eq_toNat_of_lt (by omega), hn]
  have hs : (32768#32).sle (BitVec.ofNat 32 n) = decide (32768 ≤ n) := by
    unfold BitVec.sle; rw [hi, show (32768#32).toInt = 32768 by decide]; congr 1; apply propext; omega
  rw [hs]
  apply BitVec.eq_of_toNat_eq
  unfold tokAt
  by_cases hc : 32768 ≤ n
  · rw [decide_eq_true hc, if_pos (by decide), BitVec.zero_add, BitVec.toNat_sub, hn, BitVec.toNat_ofNat, BitVec.toNat_ofNat]
    omega
  · rw [decide_eq_false hc, if_neg (by decide), BitVec.zero_add, BitVec.sub_zero, hn, BitVec.toNat_ofNat]
    omega

/-- Lane `l` of the tokens stored at trip `(k1, k2)` is assignment `4096 k1 + 16 k2 + l`'s token. -/
theorem pay_lane (k1 : Fin k0_t1_loop.trips) (k2 : Fin k0_t2_loop.trips) (l : Fin 16) :
    k0_pay1 k1 k2 (lane l) = tokAt (4096 * k1.val + 16 * k2.val + l.val) := by
  have h1 : k1.val < 16 := lt_of_lt_of_le k1.isLt (by decide)
  have h2 : k2.val < 256 := lt_of_lt_of_le k2.isLt (by decide)
  have hl := l.isLt
  rw [← word_tok _ (by omega)]
  have hv : (0#32 + Scf.iv 0#32 1#32 k1.val * 1#32) * 4096#32 + (0#32 + Scf.iv 0#32 1#32 k2.val * 1#32) * 16#32 + BitVec.ofNat 32 (0 * 16 + l.val)
      = BitVec.ofNat 32 (4096 * k1.val + 16 * k2.val + l.val) := by
    unfold Scf.iv
    apply BitVec.eq_of_toNat_eq
    simp only [BitVec.toNat_add, BitVec.toNat_mul, BitVec.toNat_ofNat]
    omega
  rw [← hv]
  rfl

end Words

/-! ## The task -/

section Tile

variable (d : Dev nD) (L : grid0.Coords)

abbrev cV (L : grid0.Coords) : Fin τ.nSC := (L 0).castLE hcore0
abbrev jV (L : grid0.Coords) : Fin τ.nSub := (L 1).castLE hsub0

abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)
abbrev cCcell (d : Dev nD) (c : Fin τ.nSC) (i : Fin τ.nSub) : GSem nD τ sig := (V d c i, .dma cc0_scoped2.sem)

omit [FloatOps F] in
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped1.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped2.sem : SemLoc sig).isScoped .scVector = true; decide⟩⟩⟩)]

omit [FloatOps F] in
/-- The table and the index chunk are among the subcore's own buffers. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
theorem pts_d (f : Buf (Elt F) (dLoc d)) : ((dV).view.loc (V d (cV L) (jV L)) ↦{fullShare} f : sProp 𝕄) = dLoc d ↦{fullShare} f := rfl
omit [FloatOps F] in
theorem pts_f (f : Buf (Elt F) (fLoc d)) : ((fV).view.loc (V d (cV L) (jV L)) ↦{fullShare} f : sProp 𝕄) = fLoc d ↦{fullShare} f := rfl
omit [FloatOps F] in
theorem pts_o (f : Buf (Elt F) (oLoc d)) : ((oV).view.loc (V d (cV L) (jV L)) ↦{fullShare} f : sProp 𝕄) = oLoc d ↦{fullShare} f := rfl
omit [FloatOps F] in
theorem pts_t (f : Buf (Elt F) ((V d (cV L) (jV L)).loc cc0_scratch0)) :
    ((tV).view.loc (V d (cV L) (jV L)) ↦{fullShare} f : sProp 𝕄) = (V d (cV L) (jV L)).loc cc0_scratch0 ↦{fullShare} f := rfl
omit [FloatOps F] in
theorem pts_i (f : Buf (Elt F) ((V d (cV L) (jV L)).loc cc0_scratch1)) :
    ((iV).view.loc (V d (cV L) (jV L)) ↦{fullShare} f : sProp 𝕄) = (V d (cV L) (jV L)).loc cc0_scratch1 ↦{fullShare} f := rfl
omit [FloatOps F] in
theorem pts_t_whole (f : Buf (Elt F) ((V d (cV L) (jV L)).loc cc0_scratch0)) :
    ((((tV).access (.whole S69632)).loc (V d (cV L) (jV L)) ↦[((tV).access (.whole S69632)).set]{fullShare} f : sProp 𝕄))
      = ((tV).view.loc (V d (cV L) (jV L)) ↦{fullShare} f) := by
  rw [show ((tV).access (.whole S69632)).set = Finset.univ from Memref.set_access_whole cc0_scratch0]

omit [FloatOps F] in
/-- A buffer held at one function is held at an equal one. -/
theorem pt_eq {ℓ : Loc nD τ sig} {f g : Buf (Elt F) ℓ} (h : f = g) : (ℓ ↦{fullShare} f : sProp 𝕄) ⊢ ℓ ↦{fullShare} g :=
  Entails.of_eq (h ▸ rfl)

/-- Chunk `k` of the row numbers, as the index scratch holds it. -/
def chunk (k : Nat) : S4096.Idx → BitVec 32 := fun x => m (dLoc d) (at1 (4096 * k + (x 0).val))

abbrev me : Thread nD τ := V d (cV L) (jV L)

/-- Before trip `k` of the outer loop: `4096 k` assignments written. -/
def inv1 (O : CellTallies nD τ sig (HIx 1)) (W : Waits sig (HIx 1)) (k : Nat) (_ : PUnit) : sProp 𝕄 :=
  iprop(Transfers.MayWaits (me d L) (none : HIx 1) O
    ∗ ((dV).view.loc (me d L) ↦{fullShare} m (dLoc d))
    ∗ ((tV).view.loc (me d L) ↦{fullShare} Tn m fv d (4096 * k))
    ∗ (∃ f, (iV).view.loc (me d L) ↦{fullShare} f)
    ∗ semVal (me d L, SemLoc.dma cc0_scoped1.sem) 0
    ∗ ∃ W', ⌜∀ p ∈ W', p ∈ W ∨ p.2 = none⌝ ∗ owes (me d L) O W')

/-- Before trip `k` of the inner loop of trip `k1`: `4096 k1 + 16 k` assignments written. -/
def inv2 (k1 : Nat) (k : Nat) (_ : PUnit) : sProp 𝕄 :=
  iprop(((tV).view.loc (me d L) ↦{fullShare} Tn m fv d (4096 * k1 + 16 * k))
    ∗ ((iV).view.loc (me d L) ↦{fullShare} chunk m d k1))

set_option maxHeartbeats 4000000 in
/-- The working task. -/
theorem tile_body (hF : (K (F := F)).Facts) (hpre : PreOK m) (hL : k0_cond1 L = 1#1) (O : CellTallies nD τ sig (HIx 1)) (W : Waits sig (HIx 1)) (hO : ∀ g, O g none = 0) :
    iprop(levAts (K (F := F)).L (K (F := F)).lev ∗ emp
        ∗ (dPts m d ∗ fPts fv d ∗ ∃ f, oPts d f)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_sc_slot_tokens L dV (Memref.isWhole_whole _) fV (Memref.isWhole_whole _) oV (Memref.isWhole_whole _)
            tV (Memref.isWhole_whole _) iV (Memref.isWhole_whole _) cc0_scoped0 cc0_scoped1 cc0_scoped2)
          fun _ => iprop((dPts m d ∗ fPts fv d ∗ oPts d (Tn m fv d 65536))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_sc_slot_tokens_eq_skeleton]; unfold cc0_sc_slot_tokens_skel
  rw [(K (F := F)).scopedBufs_V hF d (cV L) (jV L), SparseCore.Cfg.scopedSems0_V (Val := Elt F) d (cV L) (jV L), ownSems0_V, ownBufs_V]
  iintro ⟨#Hlv, -, ⟨Hd, Hf, %fo, Ho⟩, ⟨⟨%ft, Ht⟩, ⟨%fi, Hi⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hd' := (Entails.of_eq (pts_d (F := F) d L _).symm) $$ Hd
  ihave Hf' := (Entails.of_eq (pts_f (F := F) d L _).symm) $$ Hf
  ihave Ho' := (Entails.of_eq (pts_o (F := F) d L _).symm) $$ Ho
  ihave Ht' := (Entails.of_eq (pts_t (F := F) d L _).symm) $$ Ht
  ihave Hi' := (Entails.of_eq (pts_i (F := F) d L _).symm) $$ Hi
  sl_exec
  have e0 : View.write (Elt F) (tV).view ft (tile_body.sl.dma0 fv d) Finset.univ = Tn m fv d (4096 * 0) := by
    rw [View.write_whole_univ]; unfold tile_body.sl.dma0
    simp only [Memref.view_whole, View.read_whole]; rfl
  ihave Ht := (pt_eq (F := F) e0) $$ Ht'
  sl_for (inv1 m fv d L O W) $$ [Hmw Hd' Ht Hi' HsemB HO]
  case region =>
    intro k1 _
    unfold inv1
    iintro ⟨Hmw, Hd, Ht, ⟨%g, Hi⟩, Hsem, %W', %hW', HO⟩
    sl_exec (disch := exact View.amount_pos _ _ (show 0 < S4096.numel by decide))
    have e1 : View.write (Elt F) (iV).view g (tile_body.sl.dma0_1 m d L hL k1) Finset.univ = chunk m d k1.val := by
      rw [View.write_whole_univ]; unfold tile_body.sl.dma0_1
      simp only [Memref.view_whole]
      funext x
      have hk : k1.val < 16 := lt_of_lt_of_le k1.isLt (by decide)
      have hx : (x 0).val < 4096 := (x 0).isLt
      rw [ReadAs.apply_same, View.read_apply]
      unfold chunk
      refine congrArg (m (dLoc d)) ?_
      funext a; rw [Fin.eq_zero a]; apply Fin.ext
      show _ = (4096 * k1.val + (x 0).val) % 65536
      rw [Nat.mod_eq_of_lt (by omega)]
      show k0_off1 k1 0 + 1 * (x 0).val = _
      rw [off1_eq, Nat.one_mul]; rfl
    ihave Hi := (pt_eq (F := F) e1) $$ Hi
    sl_for (inv2 m fv d L k1.val) $$ [Ht Hi]
    case region =>
      intro k2 _
      unfold inv2
      iintro ⟨Ht, Hi⟩
      sl_exec
      have hrow : ∀ l : Fin 16, (View.readAt (Elt F) (iV).view (Rect.unit (s := S4096) (k0_off2 k2) S16.size (k0_off2_inb L k2 hL)).toLoadRect (chunk m d k1.val) (lane l)).toNat
          = Drow m d (4096 * k1.val + 16 * k2.val + l.val) := by
        intro l
        have h1 : k1.val < 16 := lt_of_lt_of_le k1.isLt (by decide)
        have h2 : k2.val < 256 := lt_of_lt_of_le k2.isLt (by decide)
        have hl := l.isLt
        rw [View.readAt_apply]
        simp only [Memref.view_whole, View.read_whole]
        unfold chunk Drow
        refine congrArg (fun n => BitVec.toNat (m (dLoc d) (at1 n))) ?_
        rw [Nat.add_assoc]; refine congrArg (4096 * k1.val + ·) ?_
        show k0_off2 k2 0 + 1 * l.val = _
        rw [off2_eq, Nat.one_mul]; rfl
      have hchk : k0_chk1 L (View.readAt (Elt F) (iV).view (Rect.unit (s := S4096) (k0_off2 k2) S16.size (k0_off2_inb L k2 hL)).toLoadRect (chunk m d k1.val)) := by
        intro _ a x
        obtain ⟨l, rfl⟩ : ∃ l : Fin 16, x = lane l := ⟨x 0, by funext a; rw [Fin.eq_zero a]; rfl⟩
        rw [Fin.eq_zero a]
        exact (hrow l).trans_lt (hpre d _)
      rw [wp_assume_of _ _ _ _ hchk]
      ihave Ht := (Entails.of_eq (pts_t_whole (F := F) d L _).symm) $$ Ht
      iapply (SparseCore.wp_vectorStoreIdx 𝒱₀ (me d L) none Set.univ (base := tV)) $$ Ht; iintro Ht
      ihave Ht := (Entails.of_eq (pts_t_whole (F := F) d L _)) $$ Ht
      have e3 := (Memref.write_access_whole_univ (Elt F) cc0_scratch0 (Tn m fv d (4096 * k1.val + 16 * k2.val)) _).trans
        (storeIdx_tbl (F := F) (Drow m d) (fv d) (4096 * k1.val + 16 * k2.val)
          (View.readAt (Elt F) (iV).view (Rect.unit (s := S4096) (k0_off2 k2) S16.size (k0_off2_inb L k2 hL)).toLoadRect (chunk m d k1.val))
          (k0_pay1 k1 k2) (k0_idx1_inb L _ hchk hL) hrow (pay_lane k1 k2))
      rw [Memref.read_access_whole]
      ihave Ht := (pt_eq (F := F) e3) $$ Ht
      sl_step
      isplitl [Ht]; · iexact Ht
      iexact Hi
    · unfold inv2
      isplitl [Ht]; · iexact Ht
      iexact Hi
    iintro %_ HI
    unfold inv2
    icases HI with ⟨Ht, Hi⟩
    sl_step
    have e2 : Tn m fv d (4096 * k1.val + 16 * Scf.trips k0_t2_loop.lb k0_t2_loop.ub k0_t2_loop.st) = Tn m fv d (4096 * (k1.val + 1)) := by
      rw [show Scf.trips k0_t2_loop.lb k0_t2_loop.ub k0_t2_loop.st = 256 by decide]; congr 1
    ihave Ht := (pt_eq (F := F) e2) $$ Ht
    isplitl [Hmw]; · iexact Hmw
    isplitl [Hd]; · iexact Hd
    isplitl [Ht]; · iexact Ht
    isplitl [Hi]; · iexists _; iexact Hi
    isplitl [Hsem]; · iexact Hsem
    iexists _; isplitr
    swap; · iexact HO
    ipureintro; intro p hp
    rcases Finset.mem_insert.mp hp with hp | hp
    · exact .inr (hp ▸ rfl)
    · exact hW' p hp
  · unfold inv1
    isplitl [Hmw]; · iexact Hmw
    isplitl [Hd']; · iexact Hd'
    isplitl [Ht]; · iexact Ht
    isplitl [Hi']; · iexists _; iexact Hi'
    isplitl [HsemB]; · iexact HsemB
    iexists _; isplitr
    swap; · iexact HO
    ipureintro; intro p hp
    rcases Finset.mem_insert.mp hp with hp | hp
    · exact .inr (hp ▸ rfl)
    · exact .inl hp
  iintro %_ HI
  unfold inv1
  icases HI with ⟨-, Hd, Ht, ⟨%g, Hi⟩, Hsem, %W', %hW', HO⟩
  sl_exec
  sl_step
  have eT : View.write (Elt F) (oV).view fo (tile_body.sl.dma0_2 m fv d) Finset.univ = Tn m fv d 65536 := by
    rw [View.write_whole_univ]; unfold tile_body.sl.dma0_2
    simp only [Memref.view_whole, View.read_whole]
    show Tn m fv d (4096 * Scf.trips k0_t1_loop.lb k0_t1_loop.ub k0_t1_loop.st) = _
    rw [show Scf.trips k0_t1_loop.lb k0_t1_loop.ub k0_t1_loop.st = 16 by decide]
  ihave Ho := (pt_eq (F := F) eT) $$ Ho'
  isplitl [Hd Hf' Ho]
  · isplitl [Hd]; · iapply (Entails.of_eq (pts_d (F := F) d L _)); iexact Hd
    isplitl [Hf']; · iapply (Entails.of_eq (pts_f (F := F) d L _)); iexact Hf'
    iapply (Entails.of_eq (pts_o (F := F) d L _)); iexact Ho
  isplitl [Ht Hi Hbufs]
  · isplitl [Ht]; · iexists _; iapply (Entails.of_eq (pts_t (F := F) d L _)); iexact Ht
    isplitl [Hi]; · iexists _; iapply (Entails.of_eq (pts_i (F := F) d L _)); iexact Hi
    iexact Hbufs
  isplitl [HsemA Hsem HsemC Hsems]
  · isplitl [HsemA]; · iexact HsemA
    isplitl [Hsem]; · iexact Hsem
    isplitl [HsemC]; · iexact HsemC
    iexact Hsems
  iexists _; isplitr
  swap; · iexact HO
  ipureintro; intro p hp
  rcases Finset.mem_insert.mp hp with hp | hp
  · exact .inr (hp ▸ rfl)
  · exact hW' p hp

end Tile

end Cert.Proof.Slot

end
-- ==== Proof.Launch.lean ====
/-
  The slot-token program's launch: the host operations that compute the fill words, the SparseCore call (its
  thirty-two tasks, of which one works), and the program's run — the result at the fill words with the 65536
  assignments written over them in order, the argument unchanged, every semaphore counter at zero.
-/
module

public import proofs.«01_k».proof.Proof.Slot
public import Idealize.ShloMosaic.Lib.Pipeline.Frame

@[expose] public section

noncomputable section

namespace Cert.Proof.Slot

open Cert.KernelIdeal Cert.KernelIdeal.Gen Cert.Slots

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (TRef nullary unary binary ternary seq held after nullary_bufs_sub unary_bufs_sub binary_bufs_sub ternary_bufs_sub)

variable {F : FTy → Type} [FloatOps F]
local notation "𝕄" => MT nD τ sig (HIx 1) (Elt F) ℕ UU ℕ

variable (m : (ℓ : Loc nD τ sig) → Buf (Elt F) ℓ) (ρ : Dev nD → PrngReg)
variable (fv : (d : Dev nD) → Buf (Elt F) (fLoc d))

local notation "dV" => (Memref.whole Cert.KernelIdeal.main_arg0_scv : Memref Cert.KernelIdeal.sig Kind.scVector Space.hbm Cert.KernelIdeal.S65536 EltTy.i32)
local notation "fV" => (Memref.whole Cert.KernelIdeal.main_v1_scv : Memref Cert.KernelIdeal.sig Kind.scVector Space.hbm Cert.KernelIdeal.S69632 EltTy.i32)
local notation "oV" => (Memref.whole Cert.KernelIdeal.main_v2_scv : Memref Cert.KernelIdeal.sig Kind.scVector Space.hbm Cert.KernelIdeal.S69632 EltTy.i32)
local notation "tV" => (Memref.whole Cert.KernelIdeal.cc0_scratch0 : Memref Cert.KernelIdeal.sig Kind.scVector Space.vmem Cert.KernelIdeal.S69632 EltTy.i32)
local notation "iV" => (Memref.whole Cert.KernelIdeal.cc0_scratch1 : Memref Cert.KernelIdeal.sig Kind.scVector Space.vmem Cert.KernelIdeal.S4096 EltTy.i32)

/-! ## The tasks that do nothing -/

set_option maxHeartbeats 1000000 in
theorem tile_idle (d : Dev nD) (L : grid0.Coords) (hL : ¬ k0_cond1 L = 1#1) (O : CellTallies nD τ sig (HIx 1)) (W : Waits sig (HIx 1)) :
    (iprop(levAts (K (F := F)).L (K (F := F)).lev ∗ emp ∗ emp
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0_sc_slot_tokens L dV (Memref.isWhole_whole _) fV (Memref.isWhole_whole _) oV (Memref.isWhole_whole _)
            tV (Memref.isWhole_whole _) iV (Memref.isWhole_whole _) cc0_scoped0 cc0_scoped1 cc0_scoped2)
          fun _ => iprop(emp ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_sc_slot_tokens_eq_skeleton]; unfold cc0_sc_slot_tokens_skel
  iintro ⟨-, -, -, Hsb, Hss, HO⟩
  sl_exec
  sl_step
  isplitr; · iempintro
  isplitl [Hsb]; · iexact Hsb
  isplitl [Hss]; · iexact Hss
  iexists W; isplitr
  · ipureintro; exact fun p hp => .inl hp
  · iexact HO

/-! ## The launch theorem's obligation -/

def coordsV (c : Fin (grid0.bound 0)) (s : Fin (grid0.bound 1)) : grid0.Coords :=
  fun | 0 => c | 1 => s | ⟨_ + 2, h⟩ => absurd h (Nat.not_lt.2 (Nat.le_add_left _ _))

/-- Task (0, 0), and no other, takes the branch that works. -/
theorem cond_iff : ∀ (c : Fin (grid0.bound 0)) (s : Fin (grid0.bound 1)), (k0_cond1 (coordsV c s) = 1#1) ↔ (c.val = 0 ∧ s.val = 0) := by decide +kernel

theorem defs₀_vector (c : Fin τ.nSC) (s : Fin τ.nSub) :
    defs₀ (F := F) (.scVector c s) 0 ()
      = SparseCore.onTile hcore0 hsub0 (fun c s => cc0_sc_slot_tokens (coordsV c s) dV (Memref.isWhole_whole _) fV (Memref.isWhole_whole _) oV (Memref.isWhole_whole _)
            tV (Memref.isWhole_whole _) iV (Memref.isWhole_whole _) cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Any task: what it is handed to what it brings back. -/
theorem tile_any (hF : (K (F := F)).Facts) (hpre : PreOK m) (d : Dev nD) (c : Fin (grid0.bound 0)) (s : Fin (grid0.bound 1))
    (O : CellTallies nD τ sig (HIx 1)) (W : Waits sig (HIx 1)) (hO : ∀ g, O g none = 0) :
    iprop(levAts (K (F := F)).L (K (F := F)).lev ∗ emp ∗ taskIn m fv d c.val s.val
        ∗ scopedBufs (V d (cV (coordsV c s)) (jV (coordsV c s))) ∗ scopedSems0 (V d (cV (coordsV c s)) (jV (coordsV c s))) ∗ owes (V d (cV (coordsV c s)) (jV (coordsV c s))) O W)
      ⊢ wp frame (wpE (defs₀ (F := F)) 𝒱₀ (V d (cV (coordsV c s)) (jV (coordsV c s))) none) Set.univ
          (cc0_sc_slot_tokens (coordsV c s) dV (Memref.isWhole_whole _) fV (Memref.isWhole_whole _) oV (Memref.isWhole_whole _)
            tV (Memref.isWhole_whole _) iV (Memref.isWhole_whole _) cc0_scoped0 cc0_scoped1 cc0_scoped2)
          fun _ => iprop(taskOut m fv d c.val s.val ∗ scopedBufs (V d (cV (coordsV c s)) (jV (coordsV c s))) ∗ scopedSems0 (V d (cV (coordsV c s)) (jV (coordsV c s)))
            ∗ ∃ W', ⌜∀ p ∈ W', p ∈ W ∨ p.2 = none⌝ ∗ owes (V d (cV (coordsV c s)) (jV (coordsV c s))) O W') := by
  unfold taskIn taskOut
  by_cases h : c.val = 0 ∧ s.val = 0
  · rw [if_pos h, if_pos h]; exact tile_body m fv d (coordsV c s) hF hpre ((cond_iff c s).mpr h) O W hO
  · rw [if_neg h, if_neg h]; exact tile_idle d (coordsV c s) (fun e => h ((cond_iff c s).mp e)) O W

set_option maxRecDepth 16384 in
theorem tileObl (hF : (K (F := F)).Facts) (hpre : PreOK m) : (K (F := F)).TileObl (D (F := F)) 𝒱 (P m fv) v₀ 0 := by
  intro d c i O W hO _ _
  simp only [show (P m fv).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_any m fv hF hpre d ⟨_, hci.1⟩ ⟨_, hci.2⟩ O W hO).trans (wp_mono frame _ _ fun _ => obl_post)

/-! ## A core's tasks split and join -/

omit [FloatOps F] in
theorem bigSep_emp' {I : Type} (s : Finset I) : (bigSep s fun _ => iprop(emp)) = (iprop(emp) : sProp 𝕄) := bigSep_emp_const s

omit [FloatOps F] in
/-- What core `c` holds is what its sixteen tasks hold, when only task (0, 0) holds anything. -/
theorem tasks_eq (A : sProp 𝕄) (c : ℕ) :
    (bigSep Finset.univ fun i : Fin 16 => (if c = 0 ∧ i.val = 0 then A else iprop(emp))) = if c = 0 then A else iprop(emp) := by
  by_cases hc : c = 0
  · rw [if_pos hc, SparseCore.bigSep_erase' (Finset.mem_univ (0 : Fin 16)), if_pos ⟨hc, rfl⟩,
      bigSep_congr (Ψ := fun _ => iprop(emp)) (fun i hi => if_neg fun h => (Finset.mem_erase.mp hi).1 (Fin.ext h.2)), bigSep_emp']
    exact BI.equiv_iff.mp sep_emp
  · rw [if_neg hc, bigSep_congr (Ψ := fun _ => iprop(emp)) (fun i _ => if_neg fun h => hc h.1), bigSep_emp']

theorem go_eq (d : Dev nD) (c : Fin ((K (F := F)).nCore 0)) :
    (bigSep Finset.univ fun i : Fin ((K (F := F)).nSub 0) => (P m fv).go 0 d c i) = (P m fv).st 0 d c := tasks_eq _ _
theorem td_eq (d : Dev nD) (c : Fin ((K (F := F)).nCore 0)) :
    (bigSep Finset.univ fun i : Fin ((K (F := F)).nSub 0) => (P m fv).td 0 d c i) = (P m fv).dn 0 d c := tasks_eq _ _

theorem vecSplit : (K (F := F)).VecSplit' (P m fv) 0 := by
  intro d c
  rw [go_eq, td_eq]
  iintro H; imodintro
  isplitl [H]; · iexact H
  iintro H; iexact H

/-! ## The launch's ghost element -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m fv).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m fv).x q thr) = bigSep Finset.univ fun _ => iprop(emp) from
    bigSep_congr fun _ _ => bigSep_univ_of_subsingleton (0 : Fin 1), bigSep_emp']
  iempintro

/-! ## The host operations before the call -/

/-- The operations that compute the fill words: `iota mod 32768`, as the host computes a remainder. -/
def fillOps : List (HloOp τ sig (Elt F)) :=
  [ nullary main_v0 (iotaInDim S69632 32 0),
    nullary main_c (constantI S_ 32 32768#32),
    TRef.unary (TRef.of (T := ⟨S_, .i32⟩) main_c) (TRef.of (T := ⟨S_, .i32⟩) main_call0_v0) id,
    TRef.nullary (TRef.of (T := ⟨S_, .i32⟩) main_call0_c) (constantI S_ 32 0#32),
    TRef.binary (TRef.of (T := ⟨S_, .i32⟩) main_call0_v0) (TRef.of (T := ⟨S_, .i32⟩) main_call0_c) (TRef.of (T := ⟨S_, .i1⟩) main_call0_v1) (cmpi .eq),
    TRef.nullary (TRef.of (T := ⟨S_, .i32⟩) main_call0_c_0) (constantI S_ 32 1#32),
    TRef.ternary (TRef.of (T := ⟨S_, .i1⟩) main_call0_v1) (TRef.of (T := ⟨S_, .i32⟩) main_call0_c_0) (TRef.of (T := ⟨S_, .i32⟩) main_call0_v0) (TRef.of (T := ⟨S_, .i32⟩) main_call0_v2) select,
    TRef.unary (TRef.of (T := ⟨S_, .i32⟩) main_call0_v2) (TRef.of (T := ⟨S69632, .i32⟩) main_call0_v3) (broadcastInDim S69632 ![] bcast_S_S69632),
    TRef.binary (TRef.of (T := ⟨S69632, .i32⟩) main_v0) (TRef.of (T := ⟨S69632, .i32⟩) main_call0_v3) (TRef.of (T := ⟨S69632, .i32⟩) main_call0_v4) Host.remsi,
    TRef.nullary (TRef.of (T := ⟨S_, .i32⟩) main_call0_c_1) (constantI S_ 32 0#32),
    TRef.unary (TRef.of (T := ⟨S_, .i32⟩) main_call0_c_1) (TRef.of (T := ⟨S69632, .i32⟩) main_call0_v5) (broadcastInDim S69632 ![] bcast_S_S69632),
    TRef.binary (TRef.of (T := ⟨S69632, .i32⟩) main_call0_v4) (TRef.of (T := ⟨S69632, .i32⟩) main_call0_v5) (TRef.of (T := ⟨S69632, .i1⟩) main_call0_v6) (cmpi .ne),
    TRef.nullary (TRef.of (T := ⟨S_, .i32⟩) main_call0_c_2) (constantI S_ 32 0#32),
    TRef.unary (TRef.of (T := ⟨S_, .i32⟩) main_call0_c_2) (TRef.of (T := ⟨S69632, .i32⟩) main_call0_v7) (broadcastInDim S69632 ![] bcast_S_S69632),
    TRef.binary (TRef.of (T := ⟨S69632, .i32⟩) main_call0_v4) (TRef.of (T := ⟨S69632, .i32⟩) main_call0_v7) (TRef.of (T := ⟨S69632, .i1⟩) main_call0_v8) (cmpi .slt),
    TRef.nullary (TRef.of (T := ⟨S_, .i32⟩) main_call0_c_3) (constantI S_ 32 0#32),
    TRef.binary (TRef.of (T := ⟨S_, .i32⟩) main_call0_v2) (TRef.of (T := ⟨S_, .i32⟩) main_call0_c_3) (TRef.of (T := ⟨S_, .i1⟩) main_call0_v9) (cmpi .slt),
    TRef.unary (TRef.of (T := ⟨S_, .i1⟩) main_call0_v9) (TRef.of (T := ⟨S69632, .i1⟩) main_call0_v10) (broadcastInDim S69632 ![] bcast_S_S69632),
    TRef.binary (TRef.of (T := ⟨S69632, .i1⟩) main_call0_v8) (TRef.of (T := ⟨S69632, .i1⟩) main_call0_v10) (TRef.of (T := ⟨S69632, .i1⟩) main_call0_v11) (cmpi .ne),
    TRef.binary (TRef.of (T := ⟨S69632, .i1⟩) main_call0_v11) (TRef.of (T := ⟨S69632, .i1⟩) main_call0_v6) (TRef.of (T := ⟨S69632, .i1⟩) main_call0_v12) andi,
    TRef.unary (TRef.of (T := ⟨S_, .i32⟩) main_call0_v2) (TRef.of (T := ⟨S69632, .i32⟩) main_call0_v13) (broadcastInDim S69632 ![] bcast_S_S69632),
    TRef.binary (TRef.of (T := ⟨S69632, .i32⟩) main_call0_v4) (TRef.of (T := ⟨S69632, .i32⟩) main_call0_v13) (TRef.of (T := ⟨S69632, .i32⟩) main_call0_v14) addi,
    TRef.ternary (TRef.of (T := ⟨S69632, .i1⟩) main_call0_v12) (TRef.of (T := ⟨S69632, .i32⟩) main_call0_v14) (TRef.of (T := ⟨S69632, .i32⟩) main_call0_v4) (TRef.of (T := ⟨S69632, .i32⟩) main_v1) select ]

theorem main_eq (d : Dev nD) : main (F := F) d = seq (fillOps (F := F)) >>= fun _ => (K (F := F)).run d 0 := rfl

theorem fillOps_sub : ∀ op ∈ (fillOps : List (HloOp τ sig (Elt F))), op.bufs ⊆ Pipeline.ucRefs τ sig := by
  intro op h
  refine Pipeline.sub_ucRefs op ?_
  have hs : (fillOps (F := F)).Forall fun op => op.bufs ⊆ StableHlo.tcRefs τ sig :=
    ⟨nullary_bufs_sub .., nullary_bufs_sub .., unary_bufs_sub .., nullary_bufs_sub .., binary_bufs_sub .., nullary_bufs_sub .., ternary_bufs_sub ..,
      unary_bufs_sub .., binary_bufs_sub .., nullary_bufs_sub .., unary_bufs_sub .., binary_bufs_sub .., nullary_bufs_sub .., unary_bufs_sub ..,
      binary_bufs_sub .., nullary_bufs_sub .., binary_bufs_sub .., unary_bufs_sub .., binary_bufs_sub .., binary_bufs_sub .., unary_bufs_sub ..,
      binary_bufs_sub .., ternary_bufs_sub ..⟩
  exact List.forall_iff_forall_mem.mp hs op h

theorem fillOps_fresh : ∀ op ∈ (fillOps : List (HloOp τ sig (Elt F))), op.fresh = ∅ := by
  intro _ h; (repeat (cases h with | head => rfl | tail _ h => ?_)); exact nomatch h

/-- The launch valuation, and the one the call finds. -/
def V0 (d : Dev nD) : Valuation τ sig (Elt F) := fun b => m (d, b)
def V1 (d : Dev nD) : Valuation τ sig (Elt F) := after fillOps (V0 m d)

abbrev d' : DevRef τ sig := Proc.devRef .tc (main_arg0 : Ref sig .tc)
abbrev f' : DevRef τ sig := Proc.devRef .tc (main_v1 : Ref sig .tc)
abbrev o' : DevRef τ sig := Proc.devRef .tc (main_v2 : Ref sig .tc)

/-- The fill words. -/
def fills (d : Dev nD) : Buf (Elt F) (fLoc d) := V1 m d f'

theorem V1_d (d : Dev nD) : V1 m d d' = m (dLoc d) := by
  unfold V1 fillOps
  simp only [TRef.binary, TRef.nullary, TRef.ternary, TRef.unary, TRef.toBuf, TRef.ofBuf, cast_eq]; after_results_simp <;> rfl

omit [FloatOps F] in
theorem held_split3 (d : Dev nD) (W : Valuation τ sig (Elt F)) :
    (held (T d) (Pipeline.ucRefs τ sig) W : sProp 𝕄)
      = iprop((dLoc d ↦{fullShare} W d') ∗ (fLoc d ↦{fullShare} W f') ∗ (oLoc d ↦{fullShare} W o')
          ∗ held (T d) ((((Pipeline.ucRefs τ sig).erase d').erase f').erase o') W) := by
  unfold held
  rw [SparseCore.bigSep_erase' (show d' ∈ Pipeline.ucRefs τ sig by decide),
    SparseCore.bigSep_erase' (show f' ∈ (Pipeline.ucRefs τ sig).erase d' by decide),
    SparseCore.bigSep_erase' (show o' ∈ ((Pipeline.ucRefs τ sig).erase d').erase f' by decide)]

/-! ## @main on the TensorCore -/

theorem st0_eq (d : Dev nD) : (bigSep Finset.univ fun c : Fin ((K (F := F)).nCore 0) => (P m fv).st 0 d c)
    = iprop((dPts m d ∗ fPts fv d ∗ ∃ f, oPts d f) ∗ emp) := by
  show (bigSep (Finset.univ : Finset (Fin 2)) fun c => coreIn m fv d c.val) = _
  rw [show (Finset.univ : Finset (Fin 2)) = {0, 1} by decide, SparseCore.bigSep_insert' (by decide), bigSep_singleton]
  rfl
theorem dn0_eq (d : Dev nD) : (bigSep Finset.univ fun c : Fin ((K (F := F)).nCore 0) => (P m fv).dn 0 d c)
    = iprop((dPts m d ∗ fPts fv d ∗ oPts d (Tn m fv d 65536)) ∗ emp) := by
  show (bigSep (Finset.univ : Finset (Fin 2)) fun c => coreOut m fv d c.val) = _
  rw [show (Finset.univ : Finset (Fin 2)) = {0, 1} by decide, SparseCore.bigSep_insert' (by decide), bigSep_singleton]
  rfl

/-- What @main leaves the claims. -/
abbrev FIN (d : Dev nD) : sProp 𝕄 := iprop(dPts m d ∗ oPts d (Tn m (fills m) d 65536))

theorem hmain (κ : GSem nD τ sig → ℕ) (d : Dev nD) :
    iprop((K (F := F)).ctx EH (P m (fills m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (T d) (Pipeline.ucRefs τ sig) (V0 m d) from Pipeline.unscopedBufs_held d (V0 m d), main_eq]
  iintro ⟨#Hctx, Hst, ⟨Hb, Hheld, Hts, -⟩, -⟩
  iapply (StableHlo.wp_seq 𝒱 none Set.univ d (Pipeline.ucRefs τ sig) _ fillOps fillOps_sub fillOps_fresh (V0 m d)) $$ [Hb Hheld]
  · isplitl [Hb] <;> iassumption
  iintro ⟨Hb, Hheld⟩
  ihave Hh := (show (held (d.tc : Thread nD τ) (Pipeline.ucRefs τ sig) (after fillOps (V0 m d)) : sProp 𝕄)
      ⊢ iprop((dLoc d ↦{fullShare} m (dLoc d)) ∗ (fLoc d ↦{fullShare} fills m d) ∗ (oLoc d ↦{fullShare} V1 m d o')
          ∗ held (T d) ((((Pipeline.ucRefs τ sig).erase d').erase f').erase o') (V1 m d)) from
    Entails.of_eq ((held_split3 (F := F) d (V1 m d)).trans (by rw [V1_d]; rfl))) $$ Hheld
  icases Hh with ⟨Hd, Hf, Ho, -⟩
  iapply ((K (F := F)).wp_run (D (F := F)) 𝒱 (EH := EH) (P := P m (fills m)) κ d 0) $$ [Hst Hd Hf Ho Hb Hts]
  isplitr; · iexact Hctx
  isplitl [Hst]; · iexact Hst
  isplitl [Hd Hf Ho]
  · rw [st0_eq]
    isplitl [Hd Hf Ho]
    · isplitl [Hd]; · iexact Hd
      isplitl [Hf]; · iexact Hf
      iexists _; iexact Ho
    · iempintro
  iintro ⟨Hst, Hdn⟩
  ihave Hdn' := (Entails.of_eq (dn0_eq m (fills m) d)) $$ Hdn
  icases Hdn' with ⟨⟨Hd, -, Ho⟩, -⟩
  isplitl [Hst]; · iexact Hst
  isplitr [Hb Hts]
  · isplitl [Hd]; · iexact Hd
    iexact Ho
  isplitl [Hb] <;> iassumption

def fq (d : Dev nD) (s' : Phys nD τ sig (Elt F)) : Prop :=
  s'.mem.mem (oLoc d) = Tn m (fills m) d 65536 ∧ s'.mem.mem (dLoc d) = m (dLoc d)

set_option maxRecDepth 16384 in
theorem hfin (d : Dev nD) (s' : Phys nD τ sig (Elt F)) : iprop(FIN m d ∗ SI s') ⊢ (⌜fq m d s'⌝ : sProp 𝕄) := by
  iintro ⟨⟨Hd, Ho⟩, HSI⟩
  ihave H := (persistent_entails_right (SI_pointsTo_agree (st := s') (ℓ := dLoc d) (I := Finset.univ) (q := fullShare) (f := m (dLoc d)))) $$ [HSI Hd]
  · isplitl [HSI] <;> iassumption
  icases H with ⟨%h1, HSI, -⟩
  ihave H := (SI_pointsTo_agree (st := s') (ℓ := oLoc d) (I := Finset.univ) (q := fullShare) (f := Tn m (fills m) d 65536)) $$ [HSI Ho]
  · isplitl [HSI] <;> iassumption
  icases H with %h2
  ipureintro; exact ⟨funext fun i => h2 i (Finset.mem_univ i), funext fun i => h1 i (Finset.mem_univ i)⟩

/-! ## The program's run -/

def QC : PUnit × MemSt nD τ sig (Elt F) → Prop := fun r =>
  (∀ c : Dev nD, r.2.mem (oLoc c) = Tn m (fills m) c 65536 ∧ r.2.mem (dLoc c) = m (dLoc c)) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m (fills m)) (A := ∅) facts v₀
    (fun q hq => match q with | 0 => nomatch hq)
    (fun q _ => match q with | 0 => tileObl m (fills m) facts hpre)
    (fun q _ => match q with | 0 => SparseCore.Cfg.VecSplit.of_plain (vecSplit m (fills m)))
    m ρ main (fun _ => iprop(emp)) (FIN m) (u₀ (F := F)) (sep_elim_left.trans (hu₀ m (fills m))) (hmain m ρ) (fq m) (hfin m) (QC m) (fun _ h hz => ⟨h, hz⟩)

end Cert.Proof.Slot

end
-- ==== Proof.Claims.lean ====
/-
  The slot-token program's fill words are the reference's, so what its run leaves is the reference's scatter.
-/
module

public import proofs.«01_k».proof.Proof.Words
public import proofs.«01_k».proof.Proof.Launch

@[expose] public section

noncomputable section

namespace Cert.Proof.Slot

open Cert.KernelIdeal Cert.KernelIdeal.Gen Cert.Slots

open Idealize.ShloMosaic Idealize.SL.Sem
open Idealize.ShloMosaic.StableHlo

variable {F : FTy → Type} [FloatOps F]
variable (m : (ℓ : Loc nD τ sig) → Buf (Elt F) ℓ)

/-- The words the table holds where no assignment goes: each row's number, its floored remainder by the number of tokens. -/
abbrev fillWords : S69632.Idx → BitVec 32 := (select (andi (cmpi .ne (cmpi .slt (Host.remsi (iotaInDim S69632 32 0) (broadcastInDim S69632 ![] bcast_S_S69632 (select (cmpi .eq (id (constantI S_ 32 32768#32)) (constantI S_ 32 0#32)) (constantI S_ 32 1#32) (id (constantI S_ 32 32768#32))))) (broadcastInDim S69632 ![] bcast_S_S69632 (constantI S_ 32 0#32))) (broadcastInDim S69632 ![] bcast_S_S69632 (cmpi .slt (select (cmpi .eq (id (constantI S_ 32 32768#32)) (constantI S_ 32 0#32)) (constantI S_ 32 1#32) (id (constantI S_ 32 32768#32))) (constantI S_ 32 0#32)))) (cmpi .ne (Host.remsi (iotaInDim S69632 32 0) (broadcastInDim S69632 ![] bcast_S_S69632 (select (cmpi .eq (id (constantI S_ 32 32768#32)) (constantI S_ 32 0#32)) (constantI S_ 32 1#32) (id (constantI S_ 32 32768#32))))) (broadcastInDim S69632 ![] bcast_S_S69632 (constantI S_ 32 0#32)))) (addi (Host.remsi (iotaInDim S69632 32 0) (broadcastInDim S69632 ![] bcast_S_S69632 (select (cmpi .eq (id (constantI S_ 32 32768#32)) (constantI S_ 32 0#32)) (constantI S_ 32 1#32) (id (constantI S_ 32 32768#32))))) (broadcastInDim S69632 ![] bcast_S_S69632 (select (cmpi .eq (id (constantI S_ 32 32768#32)) (constantI S_ 32 0#32)) (constantI S_ 32 1#32) (id (constantI S_ 32 32768#32))))) (Host.remsi (iotaInDim S69632 32 0) (broadcastInDim S69632 ![] bcast_S_S69632 (select (cmpi .eq (id (constantI S_ 32 32768#32)) (constantI S_ 32 0#32)) (constantI S_ 32 1#32) (id (constantI S_ 32 32768#32))))))

set_option maxHeartbeats 1000000 in
theorem fills_eq (d : Dev nD) : fills m d = fillWords := by
  unfold fills V1 fillOps
  simp only [TRef.binary, TRef.nullary, TRef.ternary, TRef.unary, TRef.toBuf, TRef.ofBuf, cast_eq]; after_results_simp <;> rfl

/-- The reference's scatter, over the kernel's fill words and row numbers, is the table the kernel leaves. -/
theorem scatter_eq (hpre : PreOK m) (d : Dev nD) :
    Host.scatter Cert.ReferenceIdeal.scatter_S69632_S65536x1_S65536_n_0_0_1 (fun _ b => b) fillWords
        (rowsOf (m (dLoc d))) tokens
      = Tn m (fills m) d 65536 := by
  rw [scatter_tbl (m (dLoc d)) (hpre d) fillWords]
  unfold Tn
  rw [fills_eq]
  rfl

end Cert.Proof.Slot

end
-- ==== Proof.Ffn.Row.lean ====
/-
  The layer's mixing projection and dense feed-forward on ONE ROW of tokens, written over the extended reals: what both
  the kernel's block and the reference's arrays are shown to hold, row by row.
-/
module

public import Idealize.ShloMosaic.Lib.Pointwise

@[expose] public section
noncomputable section
namespace Cert.Ffn
open Idealize.ShloMosaic

/-- A row of `n` numbers. -/
abbrev Row (n : ℕ) := Fin n → EReal

/-- `x · rsqrt(Σ x² / N + ε) · g`, with `N` and `ε` as their single-precision words name them. -/
def norm {n : ℕ} (N : BitVec 32) (x g : Row n) : Row n := fun k =>
  x k * Ideal.rsqrt (Ideal.div (∑ j, x j * x j) (Ideal.ofBits FTy.f32 N) + Ideal.ofBits FTy.f32 0x358637BD#32) * g k

/-- A row times a matrix. -/
def dot {n p : ℕ} (x : Row n) (w : Fin n → Row p) : Row p := fun k => ∑ j, x j * w j k

/-- The four head groups' normalised rows, projected: each group by its own 256 rows of the matrix, and summed. -/
def mixed (o gg : Fin 4 → Row 256) (wo : Fin 1024 → Row 1024) : Row 1024 := fun k =>
  ∑ g : Fin 4, ∑ j : Fin 256, norm 0x43800000#32 (o g) (gg g) j * wo ⟨g.val * 256 + j.val, by omega⟩ k

/-- The row after the mixing residual. -/
def resid (x m2 : Row 1024) (y pg : Row 1024) : Row 1024 := fun k => x k + m2 k * norm 0x44800000#32 y pg k

/-- The modulated, normalised row the feed-forward reads. -/
def hidden (x g m3 m4 : Row 1024) : Row 1024 := fun k => norm 0x44800000#32 x g k * (1 + m4 k) + m3 k

/-- The gated row: `silu (h · gate) · (h · up)`. -/
def gated {p : ℕ} (h : Row 1024) (wg wu : Fin 1024 → Row p) : Row p := fun f =>
  dot h wg f * Ideal.logistic (dot h wg f) * dot h wu f

/-- The whole row. -/
def outRow (o gg : Fin 4 → Row 256) (wo : Fin 1024 → Row 1024) (x : Row 1024) (mod : Fin 6 → Row 1024) (pg g : Row 1024)
    (wg wu : Fin 1024 → Row 2816) (wd : Fin 2816 → Row 1024) (pg2 : Row 1024) : Row 1024 :=
  resid (resid x (mod 2) (mixed o gg wo) pg) (mod 5)
    (dot (gated (hidden (resid x (mod 2) (mixed o gg wo) pg) g (mod 3) (mod 4)) wg wu) wd) pg2

end Cert.Ffn
end
-- ==== Proof.Ffn.Block.lean ====
/-
  What one grid point of the mixing and feed-forward kernel leaves in its output blocks, read at an index.
-/
module

public import proofs.«01_k».proof.Proof.Gen.Kernel2Ideal.Frame
public import proofs.«01_k».proof.Proof.Ffn.Row
public import Idealize.ShloMosaic.Lib.Pointwise
public import Idealize.ShloMosaic.Lib.WholeRead
public import Idealize.ShloMosaic.Lib.Pipeline.Value
public import Idealize.ShloMosaic.Lib.Pipeline.ValueKit.Basic

@[expose] public section
set_option maxRecDepth 16384
noncomputable section
namespace Cert.Ffn
open Idealize.ShloMosaic Idealize.ShloMosaic.TcCoe Cert.Kernel2Ideal Cert.Kernel2Ideal.Gen

local notation "𝔽" => Ideal

/-- A load from a whole staging buffer held at the contents `X` reads `X` at the rectangle. -/
theorem load {sig : RefSig} {κ : Kind} {sp : Space} {s : Shape} {e : EltTy} {m : Memref sig κ sp s e} (h : m.IsWhole)
    (X : s.Idx → Elt 𝔽 e) (r : Rect s) : View.readAt (Elt 𝔽) m.view r.toLoadRect (h.unread X) = View.ld X r :=
  funext fun y => h.readAt_unread X _ y

/-- The mixing residual's row block. -/
def mixRes (o0 o1 o2 o3 : Vec 𝔽 S1x512x256 .bf16) (x : Vec 𝔽 S1x512x1024 .f32) (mod : Vec 𝔽 S1x6x1024 .f32) (gg : Vec 𝔽 S4x256 .f32)
    (wo : Vec 𝔽 S1024x1024 .bf16) (pg : Vec 𝔽 S1x1024 .f32) (r : Fin 512) : Row 1024 :=
  resid (fun k => x (ix3 0 r k)) (fun k => mod (ix3 0 2 k))
    (mixed (fun g j => (![o0, o1, o2, o3] g) (ix3 0 r j)) (fun g j => gg (ix2 g j)) (fun a k => wo (ix2 a k))) (fun k => pg (ix2 0 k))

theorem pay6_at (o : Vec 𝔽 S1x512x256 .bf16) (g : Vec 𝔽 S1x256 .f32) (r : Fin 512) (k : Fin 256) :
    k0_pay6 o g (ix2 r k) = norm 0x43800000#32 (fun j => o (ix3 0 r j)) (fun j => g (ix2 0 j)) k := by
  pointwise [k0_pay6]; rfl

theorem pay8_at (o : Vec 𝔽 S1x512x256 .bf16) (g : Vec 𝔽 S1x256 .f32) (r : Fin 512) (k : Fin 256) :
    k0_pay8 o g (ix2 r k) = norm 0x43800000#32 (fun j => o (ix3 0 r j)) (fun j => g (ix2 0 j)) k := by
  pointwise [k0_pay8]; rfl

theorem pay7_at (n : FVec 𝔽 S512x256 .bf16) (w : Vec 𝔽 S256x1024 .bf16) (o : Vec 𝔽 S1x512x256 .bf16) (g : Vec 𝔽 S1x256 .f32)
    (w' : Vec 𝔽 S256x1024 .bf16) (r : Fin 512) (k : Fin 1024) :
    k0_pay7 n w (constant S512x1024 .f32 0x00000000#32) o g w' (ix2 r k)
      = (∑ j, n (ix2 r j) * w (ix2 j k))
        + ∑ j, norm 0x43800000#32 (fun j => o (ix3 0 r j)) (fun j => g (ix2 0 j)) j * w' (ix2 j k) := by
  pointwise [k0_pay7]; rfl

/-- The mixed row block, as the kernel sums it. -/
def yv (v49 : FVec 𝔽 S512x1024 .f32) (n : FVec 𝔽 S512x256 .bf16) (w : Vec 𝔽 S256x1024 .bf16) (o : Vec 𝔽 S1x512x256 .bf16)
    (g : Vec 𝔽 S1x256 .f32) (w' : Vec 𝔽 S256x1024 .bf16) (r : Fin 512) : Row 1024 := fun k =>
  (v49 (ix2 r k) + ∑ j, n (ix2 r j) * w (ix2 j k))
    + ∑ j, norm 0x43800000#32 (fun j => o (ix3 0 r j)) (fun j => g (ix2 0 j)) j * w' (ix2 j k)

theorem pay12_at (x : FVec 𝔽 S512x1024 .f32) (m2 : FVec 𝔽 S1x1024 .f32) (pg : Vec 𝔽 S1x1024 .f32)
    (v49 : FVec 𝔽 S512x1024 .f32) (n : FVec 𝔽 S512x256 .bf16) (w : Vec 𝔽 S256x1024 .bf16) (o : Vec 𝔽 S1x512x256 .bf16)
    (g : Vec 𝔽 S1x256 .f32) (w' : Vec 𝔽 S256x1024 .bf16) (r : Fin 512) (k : Fin 1024) :
    k0_pay12 x m2 (k0_pay11 v49 n w o g w') pg (ix2 r k)
      = resid (fun k => x (ix2 r k)) (fun k => m2 (ix2 0 k)) (yv v49 n w o g w' r) (fun k => pg (ix2 0 k)) k := by
  pointwise [k0_pay12, k0_pay11]; rfl

theorem pay13_at (mod : Vec 𝔽 S1x6x1024 .f32) (x : Vec 𝔽 S512x1024 .f32) (g : Vec 𝔽 S1x1024 .f32) (r : Fin 512) (k : Fin 1024) :
    k0_pay13 (k0_pay5 mod) x g (ix2 r k)
      = hidden (fun k => x (ix2 r k)) (fun k => g (ix2 0 k)) (fun k => mod (ix3 0 3 k)) (fun k => mod (ix3 0 4 k)) k := by
  pointwise [k0_pay13, k0_pay5]; rfl

/-- The final residual's row block. -/
theorem pay1_at (a : Vec 𝔽 S512x2816 .bf16) (wd : Vec 𝔽 S2816x1024 .bf16) (x : Vec 𝔽 S512x1024 .f32) (mod : Vec 𝔽 S1x6x1024 .f32)
    (pg : Vec 𝔽 S1x1024 .f32) (r : Fin 512) (k : Fin 1024) :
    k0_pay1 (k0_pay30 a wd) x (k0_pay31 (k0_pay5 mod)) (k0_pay32 a wd) pg (ix3 0 r k)
      = resid (fun k => x (ix2 r k)) (fun k => mod (ix3 0 5 k)) (dot (fun f => a (ix2 r f)) fun f k => wd (ix2 f k))
          (fun k => pg (ix2 0 k)) k := by
  pointwise [k0_pay1, k0_pay30, k0_pay31, k0_pay32, k0_pay5]; rfl

theorem resid_congr {x x' m m' y y' p p' : Row 1024} (hx : ∀ k, x k = x' k) (hm : ∀ k, m k = m' k) (hy : ∀ k, y k = y' k)
    (hp : ∀ k, p k = p' k) (k : Fin 1024) : resid x m y p k = resid x' m' y' p' k := by
  rw [funext hx, funext hm, funext hy, funext hp]

theorem hidden_congr {x x' g g' m m' n n' : Row 1024} (hx : ∀ k, x k = x' k) (hg : ∀ k, g k = g' k) (hm : ∀ k, m k = m' k)
    (hn : ∀ k, n k = n' k) (k : Fin 1024) : hidden x g m n k = hidden x' g' m' n' k := by
  rw [funext hx, funext hg, funext hm, funext hn]

section Run

variable (c : Dev nD) (i : grid0.Coords) (arg2 : Memref sig .tc .vmem S1x512x256 .bf16) (harg2 : arg2.IsWhole) (arg3 : Memref sig .tc .vmem S1x512x256 .bf16) (harg3 : arg3.IsWhole) (arg4 : Memref sig .tc .vmem S1x512x256 .bf16) (harg4 : arg4.IsWhole) (arg5 : Memref sig .tc .vmem S1x512x256 .bf16) (harg5 : arg5.IsWhole) (arg6 : Memref sig .tc .vmem S1x512x1024 .f32) (harg6 : arg6.IsWhole) (arg7 : Memref sig .tc .vmem S1x6x1024 .f32) (harg7 : arg7.IsWhole) (arg8 : Memref sig .tc .vmem S4x256 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x2816 .bf16) (harg12 : arg12.IsWhole) (arg13 : Memref sig .tc .vmem S1024x2816 .bf16) (harg13 : arg13.IsWhole) (arg14 : Memref sig .tc .vmem S2816x1024 .bf16) (harg14 : arg14.IsWhole) (arg15 : Memref sig .tc .vmem S1x1024 .f32) (harg15 : arg15.IsWhole) (arg16 : Memref sig .tc .vmem S128x3584 .f32) (harg16 : arg16.IsWhole) (arg17 : Memref sig .tc .vmem S128x3584 .f32) (harg17 : arg17.IsWhole) (arg18 : Memref sig .tc .vmem S448x1024 .f32) (harg18 : arg18.IsWhole) (arg19 : Memref sig .tc .vmem S1x512x1024 .f32) (harg19 : arg19.IsWhole) (arg20 : Memref sig .tc .vmem S128x3584 .bf16) (harg20 : arg20.IsWhole) (arg21 : Memref sig .tc .vmem S128x3584 .bf16) (harg21 : arg21.IsWhole) (arg22 : Memref sig .tc .vmem S448x1024 .bf16) (harg22 : arg22.IsWhole) (arg23 : Memref sig .tc .vmem S512x1024 .f32) (harg23 : arg23.IsWhole) (arg24 : Memref sig .tc .vmem S512x1024 .bf16) (harg24 : arg24.IsWhole) (arg25 : Memref sig .tc .vmem S512x2816 .bf16) (harg25 : arg25.IsWhole)
    (x0 : Vec 𝔽 S1x512x256 .bf16) (x1 : Vec 𝔽 S1x512x256 .bf16) (x2 : Vec 𝔽 S1x512x256 .bf16) (x3 : Vec 𝔽 S1x512x256 .bf16) (x4 : Vec 𝔽 S1x512x1024 .f32) (x5 : Vec 𝔽 S1x6x1024 .f32) (x6 : Vec 𝔽 S4x256 .f32) (x7 : Vec 𝔽 S1024x1024 .bf16) (x8 : Vec 𝔽 S1x1024 .f32) (x9 : Vec 𝔽 S1x1024 .f32) (x10 : Vec 𝔽 S1024x2816 .bf16) (x11 : Vec 𝔽 S1024x2816 .bf16) (x12 : Vec 𝔽 S2816x1024 .bf16) (x13 : Vec 𝔽 S1x1024 .f32) (x14 : Vec 𝔽 S128x3584 .f32) (x15 : Vec 𝔽 S128x3584 .f32) (x16 : Vec 𝔽 S448x1024 .f32)

/-- The first scratch buffer, read back: the mixing residual. -/
theorem v115_at (r : Fin 512) (k : Fin 1024) :
    kernelRun0_A.sl.v115 c arg2 harg2 arg3 harg3 arg4 harg4 arg5 harg5 arg6 harg6 arg7 harg7 arg8 harg8 arg9 harg9 arg10 harg10 arg23 x0 x1 x2 x3 x4 x5 x6 x7 x8 (ix2 r k)
      = mixRes x0 x1 x2 x3 x4 x5 x6 x7 x8 r k := by
  unfold kernelRun0_A.sl.v115 kernelRun0_A.sl.HS0_1
  rw [View.readCov_unit_zero _ (by decide)]
  simp only [kernelRun0_A.sl.r_6, kernelRun0_A.sl.r_7, kernelRun0_A.sl.r_8, load]
  rw [pay12_at]
  unfold mixRes
  refine resid_congr (fun k => ?_) (fun k => ?_) (fun k => ?_) (fun k => ?_) k
  · pointwise [k0_pay9]
  · pointwise [k0_pay10]
  · unfold yv mixed norm kernelRun0_A.sl.r_3 kernelRun0_A.sl.r_4 kernelRun0_A.sl.r_5 kernelRun0_A.sl.r_1 kernelRun0_A.sl.r_2 kernelRun0_A.sl.cst_23
    simp only [load]
    rw [Fin.sum_univ_four]
    pointwise [k0_pay7, k0_pay6, k0_pay8]
  · pointwise

/-- The second scratch buffer, read back: the modulated, normalised rows. -/
theorem v142_at (r : Fin 512) (k : Fin 1024) :
    kernelRun0_A.sl.v142 c arg2 harg2 arg3 harg3 arg4 harg4 arg5 harg5 arg6 harg6 arg7 harg7 arg8 harg8 arg9 harg9 arg10 harg10 arg11 harg11 arg23 arg24 x0 x1 x2 x3 x4 x5 x6 x7 x8 x9 (ix2 r k)
      = hidden (mixRes x0 x1 x2 x3 x4 x5 x6 x7 x8 r) (fun k => x9 (ix2 0 k)) (fun k => x5 (ix3 0 3 k)) (fun k => x5 (ix3 0 4 k)) k := by
  unfold kernelRun0_A.sl.v142 kernelRun0_A.sl.HS1_1
  rw [View.readCov_unit_zero _ (by decide)]
  simp only [kernelRun0_A.sl.r, load]
  rw [pay13_at]
  refine hidden_congr (fun k => v115_at .. ) (fun k => ?_) (fun k => ?_) (fun k => ?_) k <;> pointwise

/-- The third scratch buffer, read back: the gated rows, written 256 columns at a time. -/
theorem v285_at (r : Fin 512) (f : Fin 2816) :
    kernelRun0_A.sl.v285 c arg2 harg2 arg3 harg3 arg4 harg4 arg5 harg5 arg6 harg6 arg7 harg7 arg8 harg8 arg9 harg9 arg10 harg10 arg11 harg11 arg12 harg12 arg13 harg13 arg23 arg24 arg25 x0 x1 x2 x3 x4 x5 x6 x7 x8 x9 x10 x11 (ix2 r f)
      = gated (hidden (mixRes x0 x1 x2 x3 x4 x5 x6 x7 x8 r) (fun k => x9 (ix2 0 k)) (fun k => x5 (ix3 0 3 k)) (fun k => x5 (ix3 0 4 k)))
          (fun a f => x10 (ix2 a f)) (fun a f => x11 (ix2 a f)) f := by
  have hH : ∀ (r : Fin 512) (k : Fin 1024), kernelRun0_A.sl.v142 c arg2 harg2 arg3 harg3 arg4 harg4 arg5 harg5 arg6 harg6 arg7 harg7 arg8 harg8 arg9 harg9 arg10 harg10 arg11 harg11 arg23 arg24 x0 x1 x2 x3 x4 x5 x6 x7 x8 x9 (ix2 r k) = _ :=
    fun r k => v142_at ..
  unfold kernelRun0_A.sl.v285 kernelRun0_A.sl.HS2_11 kernelRun0_A.sl.r_9 kernelRun0_A.sl.r_10 kernelRun0_A.sl.r_11 kernelRun0_A.sl.r_12 kernelRun0_A.sl.r_13 kernelRun0_A.sl.r_14 kernelRun0_A.sl.r_15 kernelRun0_A.sl.r_16 kernelRun0_A.sl.cst_158
  simp only [load]
  generalize kernelRun0_A.sl.v142 c arg2 harg2 arg3 harg3 arg4 harg4 arg5 harg5 arg6 harg6 arg7 harg7 arg8 harg8 arg9 harg9 arg10 harg10 arg11 harg11 arg23 arg24 x0 x1 x2 x3 x4 x5 x6 x7 x8 x9 = H at hH ⊢
  rw [← funext (hH r), View.readCov_eq_canon']
  clear hH
  have he : ∀ (R : Rect S512x2816) (x : R.shape.Idx), R.emb x = R.toLoadRect.idx x := fun _ _ => rfl
  refine (View.canon_apply_of_pieces (Val := Elt 𝔽) (fun y : S512x2816.Idx => gated (fun k => H (ix2 (y 0) k)) (fun a f => x10 (ix2 a f)) (fun a f => x11 (ix2 a f)) (y 1)) _ ?_ _ ?_).trans ?_
  · simp only [List.forall_mem_cons]
    refine ⟨?_, ?_, ?_, ?_, ?_, ?_, ?_, ?_, ?_, ?_, ?_, ?_⟩
    all_goals first
      | exact fun p hp => absurd hp List.not_mem_nil
      | (intro x
         obtain ⟨a, b, rfl⟩ : ∃ (a : Fin 512) (b : Fin 256), x = ix2 a b := ⟨x 0, x 1, eq_ix2 x⟩
         simp only [he]
         unfold gated dot
         pointwise [k0_pay14, k0_pay15, k0_pay16, k0_pay17, k0_pay18, k0_pay19, k0_pay20, k0_pay21, k0_pay22, k0_pay23, k0_pay24, k0_pay25, k0_pay26, k0_pay27, k0_pay28, k0_pay29])
  · refine View.cover_of_tiledL (s := S512x2816) _ ![512, 256] ?_ _
    sl_kernel_rfl
  · unfold gated dot
    pointwise

/-- The output block, at an index. -/
theorem out17_at (r : Fin 512) (k : Fin 1024) :
    out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 (ix3 0 r k)
      = outRow (fun g j => (![x0, x1, x2, x3] g) (ix3 0 r j)) (fun g j => x6 (ix2 g j)) (fun a k => x7 (ix2 a k)) (fun k => x4 (ix3 0 r k))
          (fun q k => x5 (ix3 0 q k)) (fun k => x8 (ix2 0 k)) (fun k => x9 (ix2 0 k)) (fun a f => x10 (ix2 a f)) (fun a f => x11 (ix2 a f))
          (fun f k => x12 (ix2 f k)) (fun k => x13 (ix2 0 k)) k := by
  unfold out0_A_17 kernelRun0_A
  dsimp only
  rw [View.read_writes_junk_eq_canon, View.canon_unit_zero (by decide)]
  simp only [kernelRun0_A.sl.r_17, kernelRun0_A.sl.r_18, kernelRun0_A.sl.r_19, kernelRun0_A.sl.r, load]
  rw [pay1_at]
  unfold outRow
  refine resid_congr (fun k => v115_at ..) (fun k => ?_) (fun k => ?_) (fun k => ?_) k
  · pointwise
  · unfold dot
    refine Finset.sum_congr rfl fun f _ => congrArg₂ (· * ·) (v285_at ..) ?_
    pointwise
  · pointwise

theorem out18_eq : out0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 = x14 := by
  unfold out0_A_18 kernelRun0_A
  dsimp only
  rw [View.read_writes_junk_eq_canon, View.canon_unit_zero (by decide)]
  funext y
  simp only [load]
  rw [eq_ix2 y]
  pointwise [k0_pay2]

theorem out19_eq : out0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 = x15 := by
  unfold out0_A_19 kernelRun0_A
  dsimp only
  rw [View.read_writes_junk_eq_canon, View.canon_unit_zero (by decide)]
  funext y
  simp only [load]
  rw [eq_ix2 y]
  pointwise [k0_pay3]

theorem out20_eq : out0_A_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 = x16 := by
  unfold out0_A_20 kernelRun0_A
  dsimp only
  rw [View.read_writes_junk_eq_canon, View.canon_unit_zero (by decide)]
  funext y
  simp only [load]
  rw [eq_ix2 y]
  pointwise [k0_pay4]

end Run

end Cert.Ffn
end
-- ==== Proof.Ffn.Ref.lean ====
/-
  The reference's arrays, read at an index, are the same functions of one row of tokens (`Row.lean`).
-/
module

public import proofs.«01_k».proof.Proof.Gen.Reference2Ideal.Read
public import proofs.«01_k».proof.Proof.Ffn.Row
public import Idealize.ShloMosaic.Lib.Pointwise

@[expose] public section
set_option maxRecDepth 16384
noncomputable section
namespace Cert.Ffn.Ref
open Idealize.ShloMosaic Idealize.ShloMosaic.TcCoe Cert.Reference2Ideal Cert.Reference2Ideal.Read

local notation "𝔽" => Ideal

variable (x0 x1 x2 x3 : FVec 𝔽 S16x2048x256 .bf16) (x4 : FVec 𝔽 S16x2048x1024 .f32) (x5 : FVec 𝔽 S16x6x1024 .f32)
  (x6 : FVec 𝔽 S4x256 .f32) (x7 : FVec 𝔽 S1024x1024 .bf16) (x8 x9 : FVec 𝔽 S1024 .f32) (x10 x11 : FVec 𝔽 S1024x2816 .bf16)
  (x12 : FVec 𝔽 S2816x1024 .bf16) (x13 : FVec 𝔽 S1024 .f32)

theorem v5_at (b : Fin 16) (s : Fin 2048) (g : Fin 4) (j : Fin 256) :
    val_main_v5 (F := 𝔽) x0 x1 x2 x3 (ix4 b s g j) = (![x0, x1, x2, x3] g) (ix3 b s j) := by
  fin_cases g <;> pointwise [val_main_v0, val_main_v1, val_main_v2, val_main_v3, val_main_v4, val_main_v5]

theorem v18_at (b : Fin 16) (s : Fin 2048) (g : Fin 4) (j : Fin 256) :
    val_main_v18 (F := 𝔽) x0 x1 x2 x3 x6 (ix4 b s g j)
      = norm 0x43800000#32 (fun j => (![x0, x1, x2, x3] g) (ix3 b s j)) (fun j => x6 (ix2 g j)) j := by
  have h := v5_at x0 x1 x2 x3 b s
  unfold norm
  simp only [← h]
  clear h
  pointwise [val_main_v6, val_main_v7, val_main_v8, val_main_v9, val_main_v10, val_main_v11, val_main_v12, val_main_v13, val_main_v14, val_main_v15, val_main_v16, val_main_v17, val_main_v18, val_main_cst, val_main_cst_0, val_main_cst_1, val_main_cst_2, val_main_cst_3, val_main_cst_4, val_main_cst_5, val_main_cst_6, val_main_cst_7, val_main_cst_8, val_main_cst_9, val_main_cst_10, val_main_cst_11]

theorem v21_at (b : Fin 16) (s : Fin 2048) (k : Fin 1024) :
    val_main_v21 (F := 𝔽) x0 x1 x2 x3 x6 x7 (ix3 b s k)
      = mixed (fun g j => (![x0, x1, x2, x3] g) (ix3 b s j)) (fun g j => x6 (ix2 g j)) (fun a k => x7 (ix2 a k)) k := by
  have h := v18_at x0 x1 x2 x3 x6 b s
  unfold mixed
  simp only [← h]
  clear h
  pointwise [val_main_v21, val_main_v20, val_main_v19]
  rw [Fin.sum_univ_tiles 4 256 rfl]
  refine Finset.sum_congr rfl fun g _ => Finset.sum_congr rfl fun j _ => ?_
  have e1 : (⟨(g.val * 256 + j.val) / 256, by omega⟩ : Fin 4) = g := Fin.ext (by show (g.val * 256 + j.val) / 256 = g.val; omega)
  have e2 : (⟨(g.val * 256 + j.val) % 256, by omega⟩ : Fin 256) = j := Fin.ext (by show (g.val * 256 + j.val) % 256 = j.val; omega)
  rw [e1, e2]

/-- The reference's row normalisation of an array `Y` by the weights `g`, as its operations compose it. -/
def rmsnorm (g : FVec 𝔽 S1024 .f32) (Y : FVec 𝔽 S16x2048x1024 .f32) : FVec 𝔽 S16x2048x1024 .f32 :=
  mulf
    (mulf Y
      (broadcastInDim S16x2048x1024 ![0, 1, 2] Gen.bcast_S16x2048x1_S16x2048x1024_0_1_2
        (Host.rsqrt
          (addf
            (Host.divf
              (broadcastInDim S16x2048x1 ![0, 1] Gen.bcast_S16x2048_S16x2048x1_0_1
                (Host.reduceAdd (mulf Y Y) (constant S_ FTy.f32 0#32) Gen.reducesTo_S16x2048x1024_S16x2048_d2 Gen.h_S_))
              (broadcastInDim S16x2048x1 ![] Gen.bcast_S_S16x2048x1 (constant S_ FTy.f32 1149239296#32)))
            (broadcastInDim S16x2048x1 ![] Gen.bcast_S_S16x2048x1 (constant S_ FTy.f32 897988541#32))))))
    (broadcastInDim S16x2048x1024 ![0, 1, 2] Gen.bcast_S1x1x1024_S16x2048x1024_0_1_2
      (broadcastInDim S1x1x1024 ![2] Gen.bcast_S1024_S1x1x1024_2 g))

theorem rmsnorm_at (g : FVec 𝔽 S1024 .f32) (Y : FVec 𝔽 S16x2048x1024 .f32) (b : Fin 16) (s : Fin 2048) (k : Fin 1024) :
    rmsnorm g Y (ix3 b s k) = norm 0x44800000#32 (fun k => Y (ix3 b s k)) (fun k => g (ix1 k)) k := by
  unfold norm
  pointwise [rmsnorm]

theorem v35_eq : val_main_v35 (F := 𝔽) x0 x1 x2 x3 x6 x7 x8 = rmsnorm x8 (val_main_v21 (F := 𝔽) x0 x1 x2 x3 x6 x7) := by
  unfold val_main_v35 val_main_v34 val_main_v33 val_main_v32 val_main_v31 val_main_v30 val_main_v29 val_main_v28 val_main_v27 val_main_v26 val_main_v25 val_main_v24 val_main_v23 val_main_cst_2 val_main_cst_3 val_main_cst_4 rmsnorm
  rfl

theorem v51_eq : val_main_v51 (F := 𝔽) x0 x1 x2 x3 x4 x5 x6 x7 x8 x9 = rmsnorm x9 (val_main_v38 (F := 𝔽) x0 x1 x2 x3 x4 x5 x6 x7 x8) := by
  unfold val_main_v51 val_main_v50 val_main_v49 val_main_v48 val_main_v47 val_main_v46 val_main_v45 val_main_v44 val_main_v43 val_main_v42 val_main_v41 val_main_v40 val_main_v39 val_main_cst_5 val_main_cst_6 val_main_cst_7 rmsnorm
  rfl

theorem v81_eq : val_main_v81 (F := 𝔽) x0 x1 x2 x3 x4 x5 x6 x7 x8 x9 x10 x11 x12 x13 = rmsnorm x13 (val_main_v67 (F := 𝔽) x0 x1 x2 x3 x4 x5 x6 x7 x8 x9 x10 x11 x12) := by
  unfold val_main_v81 val_main_v80 val_main_v79 val_main_v78 val_main_v77 val_main_v76 val_main_v75 val_main_v74 val_main_v73 val_main_v72 val_main_v71 val_main_v70 val_main_v69 val_main_cst_9 val_main_cst_10 val_main_cst_11 rmsnorm
  rfl

theorem v36_at (b : Fin 16) (s : Fin 2048) (k : Fin 1024) : val_main_v36 (F := 𝔽) x5 (ix3 b s k) = x5 (ix3 b 2 k) := by
  pointwise [val_main_v36, val_main_v22]

theorem v38_at (b : Fin 16) (s : Fin 2048) (k : Fin 1024) :
    val_main_v38 (F := 𝔽) x0 x1 x2 x3 x4 x5 x6 x7 x8 (ix3 b s k)
      = resid (fun k => x4 (ix3 b s k)) (fun k => x5 (ix3 b 2 k))
          (mixed (fun g j => (![x0, x1, x2, x3] g) (ix3 b s j)) (fun g j => x6 (ix2 g j)) (fun a k => x7 (ix2 a k)))
          (fun k => x8 (ix1 k)) k := by
  unfold val_main_v38 val_main_v37
  rw [v35_eq]
  show x4 (ix3 b s k) + val_main_v36 (F := 𝔽) x5 (ix3 b s k) * rmsnorm x8 (val_main_v21 (F := 𝔽) x0 x1 x2 x3 x6 x7) (ix3 b s k) = _
  rw [v36_at, rmsnorm_at, funext (v21_at x0 x1 x2 x3 x6 x7 b s)]
  rfl

theorem v55_at (b : Fin 16) (s : Fin 2048) (k : Fin 1024) : val_main_v55 (F := 𝔽) x5 (ix3 b s k) = 1 + x5 (ix3 b 4 k) := by
  pointwise [val_main_v55, val_main_v54, val_main_v53, val_main_v52, val_main_cst_8]

theorem v58_at (b : Fin 16) (s : Fin 2048) (k : Fin 1024) : val_main_v58 (F := 𝔽) x5 (ix3 b s k) = x5 (ix3 b 3 k) := by
  pointwise [val_main_v58, val_main_v57]

theorem v82_at (b : Fin 16) (s : Fin 2048) (k : Fin 1024) : val_main_v82 (F := 𝔽) x5 (ix3 b s k) = x5 (ix3 b 5 k) := by
  pointwise [val_main_v82, val_main_v68]

theorem v59_at (b : Fin 16) (s : Fin 2048) (k : Fin 1024) :
    val_main_v59 (F := 𝔽) x0 x1 x2 x3 x4 x5 x6 x7 x8 x9 (ix3 b s k)
      = hidden (fun k => val_main_v38 (F := 𝔽) x0 x1 x2 x3 x4 x5 x6 x7 x8 (ix3 b s k)) (fun k => x9 (ix1 k))
          (fun k => x5 (ix3 b 3 k)) (fun k => x5 (ix3 b 4 k)) k := by
  unfold val_main_v59 val_main_v56
  rw [v51_eq]
  show rmsnorm x9 (val_main_v38 (F := 𝔽) x0 x1 x2 x3 x4 x5 x6 x7 x8) (ix3 b s k) * val_main_v55 (F := 𝔽) x5 (ix3 b s k)
    + val_main_v58 (F := 𝔽) x5 (ix3 b s k) = _
  rw [v55_at, v58_at, rmsnorm_at]
  rfl

/-- A row of the product of an array of rows and a matrix is the row times the matrix. -/
theorem up_at (A : FVec 𝔽 S16x2048x1024 .f32) (W : FVec 𝔽 S1024x2816 .f32) (b : Fin 16) (s : Fin 2048) (f : Fin 2816) :
    Host.dotGeneral dot_S16x2048x1024_S1024x2816_S16x2048x2816_2_0_01_1_n_n none A W (ix3 b s f)
      = dot (fun k => A (ix3 b s k)) (fun a f => W (ix2 a f)) f := by
  unfold dot
  pointwise

theorem down_at (A : FVec 𝔽 S16x2048x2816 .f32) (W : FVec 𝔽 S2816x1024 .f32) (b : Fin 16) (s : Fin 2048) (k : Fin 1024) :
    Host.dotGeneral dot_S16x2048x2816_S2816x1024_S16x2048x1024_2_0_01_1_n_n none A W (ix3 b s k)
      = dot (fun f => A (ix3 b s f)) (fun f k => W (ix2 f k)) k := by
  unfold dot
  pointwise

/-- The gate, `x / (1 + exp (-x))` as the reference writes it, of an array `G`. -/
def silu (G : FVec 𝔽 S16x2048x2816 .f32) : FVec 𝔽 S16x2048x2816 .f32 :=
  mulf G (Host.divf (broadcastInDim S16x2048x2816 ![] Gen.bcast_S_S16x2048x2816 (constant S_ FTy.f32 0x3F800000#32))
    (addf (broadcastInDim S16x2048x2816 ![] Gen.bcast_S_S16x2048x2816 (constant S_ FTy.f32 0x3F800000#32)) (Host.exp (Host.negf G))))

theorem silu_at (G : FVec 𝔽 S16x2048x2816 .f32) (b : Fin 16) (s : Fin 2048) (f : Fin 2816) :
    silu G (ix3 b s f) = G (ix3 b s f) * Ideal.logistic (G (ix3 b s f)) := by
  unfold Ideal.logistic
  pointwise [silu]

theorem v62_eq : val_main_v62 (F := 𝔽) x0 x1 x2 x3 x4 x5 x6 x7 x8 x9 x10 = silu (val_main_v61 (F := 𝔽) x0 x1 x2 x3 x4 x5 x6 x7 x8 x9 x10) := by
  unfold val_main_v62 val_main_call0_v5 val_main_call0_v4 val_main_call0_v3 val_main_call0_v2 val_main_call0_v1 val_main_call0_v0 val_main_call0_cst val_main_call0_cst_0 silu
  rfl

theorem v61_at (b : Fin 16) (s : Fin 2048) (f : Fin 2816) :
    val_main_v61 (F := 𝔽) x0 x1 x2 x3 x4 x5 x6 x7 x8 x9 x10 (ix3 b s f)
      = dot (fun k => val_main_v59 (F := 𝔽) x0 x1 x2 x3 x4 x5 x6 x7 x8 x9 (ix3 b s k)) (fun a f => x10 (ix2 a f)) f := by
  unfold val_main_v61
  exact up_at _ _ b s f

theorem v64_at (b : Fin 16) (s : Fin 2048) (f : Fin 2816) :
    val_main_v64 (F := 𝔽) x0 x1 x2 x3 x4 x5 x6 x7 x8 x9 x11 (ix3 b s f)
      = dot (fun k => val_main_v59 (F := 𝔽) x0 x1 x2 x3 x4 x5 x6 x7 x8 x9 (ix3 b s k)) (fun a f => x11 (ix2 a f)) f := by
  unfold val_main_v64
  exact up_at _ _ b s f

theorem v65_at (b : Fin 16) (s : Fin 2048) (f : Fin 2816) :
    val_main_v65 (F := 𝔽) x0 x1 x2 x3 x4 x5 x6 x7 x8 x9 x10 x11 (ix3 b s f)
      = gated (fun k => val_main_v59 (F := 𝔽) x0 x1 x2 x3 x4 x5 x6 x7 x8 x9 (ix3 b s k))
          (fun a f => x10 (ix2 a f)) (fun a f => x11 (ix2 a f)) f := by
  unfold val_main_v65
  rw [v62_eq]
  show silu (val_main_v61 (F := 𝔽) x0 x1 x2 x3 x4 x5 x6 x7 x8 x9 x10) (ix3 b s f) * val_main_v64 (F := 𝔽) x0 x1 x2 x3 x4 x5 x6 x7 x8 x9 x11 (ix3 b s f) = _
  rw [silu_at, v61_at, v64_at]
  rfl

theorem v67_at (b : Fin 16) (s : Fin 2048) (k : Fin 1024) :
    val_main_v67 (F := 𝔽) x0 x1 x2 x3 x4 x5 x6 x7 x8 x9 x10 x11 x12 (ix3 b s k)
      = dot (fun f => val_main_v65 (F := 𝔽) x0 x1 x2 x3 x4 x5 x6 x7 x8 x9 x10 x11 (ix3 b s f)) (fun f k => x12 (ix2 f k)) k := by
  unfold val_main_v67
  exact down_at _ _ b s k

theorem v84_resid (b : Fin 16) (s : Fin 2048) (k : Fin 1024) :
    val_main_v84 (F := 𝔽) x0 x1 x2 x3 x4 x5 x6 x7 x8 x9 x10 x11 x12 x13 (ix3 b s k)
      = resid (fun k => val_main_v38 (F := 𝔽) x0 x1 x2 x3 x4 x5 x6 x7 x8 (ix3 b s k)) (fun k => x5 (ix3 b 5 k))
          (dot (fun f => val_main_v65 (F := 𝔽) x0 x1 x2 x3 x4 x5 x6 x7 x8 x9 x10 x11 (ix3 b s f)) (fun f k => x12 (ix2 f k)))
          (fun k => x13 (ix1 k)) k := by
  unfold val_main_v84 val_main_v83
  rw [v81_eq]
  show val_main_v38 (F := 𝔽) x0 x1 x2 x3 x4 x5 x6 x7 x8 (ix3 b s k)
    + val_main_v82 (F := 𝔽) x5 (ix3 b s k) * rmsnorm x13 (val_main_v67 (F := 𝔽) x0 x1 x2 x3 x4 x5 x6 x7 x8 x9 x10 x11 x12) (ix3 b s k) = _
  rw [v82_at, rmsnorm_at, funext (v67_at x0 x1 x2 x3 x4 x5 x6 x7 x8 x9 x10 x11 x12 b s)]
  rfl

/-- The reference's first result, at an index. -/
theorem v84_at (b : Fin 16) (s : Fin 2048) (k : Fin 1024) :
    val_main_v84 (F := 𝔽) x0 x1 x2 x3 x4 x5 x6 x7 x8 x9 x10 x11 x12 x13 (ix3 b s k)
      = outRow (fun g j => (![x0, x1, x2, x3] g) (ix3 b s j)) (fun g j => x6 (ix2 g j)) (fun a k => x7 (ix2 a k)) (fun k => x4 (ix3 b s k))
          (fun q k => x5 (ix3 b q k)) (fun k => x8 (ix1 k)) (fun k => x9 (ix1 k)) (fun a f => x10 (ix2 a f)) (fun a f => x11 (ix2 a f))
          (fun f k => x12 (ix2 f k)) (fun k => x13 (ix1 k)) k := by
  rw [v84_resid, funext (v65_at x0 x1 x2 x3 x4 x5 x6 x7 x8 x9 x10 x11 b s), funext (v59_at x0 x1 x2 x3 x4 x5 x6 x7 x8 x9 b s),
    funext (v38_at x0 x1 x2 x3 x4 x5 x6 x7 x8 b s)]
  rfl

end Cert.Ffn.Ref
end
-- ==== Proof.Ffn.Arrays.lean ====
/-
  The mixing and feed-forward kernel's arrays after its run: every output block at its place in its array.
-/
module

public import proofs.«01_k».proof.Proof.Gen.Kernel2Ideal.Value
public import proofs.«01_k».proof.Proof.Ffn.Block
public import proofs.«01_k».proof.Proof.Ffn.Ref
public import Idealize.ShloMosaic.Lib.Pipeline.ValueKit

@[expose] public section
set_option maxRecDepth 16384
noncomputable section
namespace Cert.Ffn
open Idealize.ShloMosaic Idealize.ShloMosaic.TcCoe Cert.Kernel2Ideal Cert.Kernel2Ideal.Gen

local notation "𝔽" => Ideal
variable (m : (ℓ : Loc nD τ sig) → Buf (Elt 𝔽) ℓ) (c : Dev nD)

/-- Which block each window shows at each grid point. -/
theorem idx : ∀ t : Fin cfg0.N, win0_0.index t = ![t.val / 4, t.val % 4, 0] ∧ win0_1.index t = ![t.val / 4, t.val % 4, 0]
    ∧ win0_2.index t = ![t.val / 4, t.val % 4, 0] ∧ win0_3.index t = ![t.val / 4, t.val % 4, 0] ∧ win0_4.index t = ![t.val / 4, t.val % 4, 0]
    ∧ win0_5.index t = ![t.val / 4, 0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0]
    ∧ win0_13.index t = ![0, 0] ∧ win0_14.index t = ![t.val, 0] ∧ win0_15.index t = ![t.val, 0] ∧ win0_16.index t = ![t.val, 0]
    ∧ win0_17.index t = ![t.val / 4, t.val % 4, 0] ∧ win0_18.index t = ![t.val, 0] ∧ win0_19.index t = ![t.val, 0]
    ∧ win0_20.index t = ![t.val, 0] :=
  (by decide +kernel : ∀ t : Fin grid0.N, _)

/-- The batch entry a grid point works on. -/
def bOf (t : Fin cfg0.N) : Fin 16 := ⟨t.val / 4, by have : t.val < 64 := t.isLt; omega⟩
/-- The token a block row of a grid point is. -/
def rowOf (t : Fin cfg0.N) (r : Fin 512) : Fin 2048 := ⟨t.val % 4 * 512 + r.val, by omega⟩

theorem b0 (t : Fin cfg0.N) (r : Fin 512) (j : Fin 256) :
    iblk m c 0 t (ix3 0 r j) = m ((c.tc : Thread nD τ).loc main_arg0) (ix3 (bOf t) (rowOf t r) j) := by
  unfold bOf rowOf
  blk_ext [iblk, V, idx t]

theorem b1 (t : Fin cfg0.N) (r : Fin 512) (j : Fin 256) :
    iblk m c 1 t (ix3 0 r j) = m ((c.tc : Thread nD τ).loc main_arg1) (ix3 (bOf t) (rowOf t r) j) := by
  unfold bOf rowOf
  blk_ext [iblk, V, idx t]

theorem b2 (t : Fin cfg0.N) (r : Fin 512) (j : Fin 256) :
    iblk m c 2 t (ix3 0 r j) = m ((c.tc : Thread nD τ).loc main_arg2) (ix3 (bOf t) (rowOf t r) j) := by
  unfold bOf rowOf
  blk_ext [iblk, V, idx t]

theorem b3 (t : Fin cfg0.N) (r : Fin 512) (j : Fin 256) :
    iblk m c 3 t (ix3 0 r j) = m ((c.tc : Thread nD τ).loc main_arg3) (ix3 (bOf t) (rowOf t r) j) := by
  unfold bOf rowOf
  blk_ext [iblk, V, idx t]

theorem b4 (t : Fin cfg0.N) (r : Fin 512) (j : Fin 1024) :
    iblk m c 4 t (ix3 0 r j) = m ((c.tc : Thread nD τ).loc main_arg4) (ix3 (bOf t) (rowOf t r) j) := by
  unfold bOf rowOf
  blk_ext [iblk, V, idx t]

theorem b5 (t : Fin cfg0.N) (q : Fin 6) (k : Fin 1024) :
    iblk m c 5 t (ix3 0 q k) = m ((c.tc : Thread nD τ).loc main_arg5) (ix3 (bOf t) q k) := by
  unfold bOf
  blk_ext [iblk, V, idx t]

theorem b6 (t : Fin cfg0.N) (a : Fin 4) (j : Fin 256) :
    iblk m c 6 t (ix2 a j) = m ((c.tc : Thread nD τ).loc main_arg6) (ix2 a j) := by
  blk_ext [iblk, V, idx t]

theorem b7 (t : Fin cfg0.N) (a : Fin 1024) (j : Fin 1024) :
    iblk m c 7 t (ix2 a j) = m ((c.tc : Thread nD τ).loc main_arg7) (ix2 a j) := by
  blk_ext [iblk, V, idx t]

theorem b10 (t : Fin cfg0.N) (a : Fin 1024) (j : Fin 2816) :
    iblk m c 10 t (ix2 a j) = m ((c.tc : Thread nD τ).loc main_arg10) (ix2 a j) := by
  blk_ext [iblk, V, idx t]

theorem b11 (t : Fin cfg0.N) (a : Fin 1024) (j : Fin 2816) :
    iblk m c 11 t (ix2 a j) = m ((c.tc : Thread nD τ).loc main_arg11) (ix2 a j) := by
  blk_ext [iblk, V, idx t]

theorem b12 (t : Fin cfg0.N) (a : Fin 2816) (j : Fin 1024) :
    iblk m c 12 t (ix2 a j) = m ((c.tc : Thread nD τ).loc main_arg12) (ix2 a j) := by
  blk_ext [iblk, V, idx t]

theorem b8 (t : Fin cfg0.N) (k : Fin 1024) :
    iblk m c 8 t (ix2 0 k) = m ((c.tc : Thread nD τ).loc main_arg8) (ix1 k) := by
  have h : V m c main_v0 = shapeCast S1x1024 (m ((c.tc : Thread nD τ).loc main_arg8)) shapeCasts_S1024_S1x1024 := by
    unfold V
    entry_read
    rfl
  have e : iblk m c 8 t = fun y => V m c main_v0 (ix2 0 (y 1)) := by
    funext y
    blk_ext [iblk, idx t]
  rw [e, h]
  pointwise

theorem b9 (t : Fin cfg0.N) (k : Fin 1024) :
    iblk m c 9 t (ix2 0 k) = m ((c.tc : Thread nD τ).loc main_arg9) (ix1 k) := by
  have h : V m c main_v1 = shapeCast S1x1024 (m ((c.tc : Thread nD τ).loc main_arg9)) shapeCasts_S1024_S1x1024 := by
    unfold V
    entry_read
    rfl
  have e : iblk m c 9 t = fun y => V m c main_v1 (ix2 0 (y 1)) := by
    funext y
    blk_ext [iblk, idx t]
  rw [e, h]
  pointwise

theorem b13 (t : Fin cfg0.N) (k : Fin 1024) :
    iblk m c 13 t (ix2 0 k) = m ((c.tc : Thread nD τ).loc main_arg13) (ix1 k) := by
  have h : V m c main_v2 = shapeCast S1x1024 (m ((c.tc : Thread nD τ).loc main_arg13)) shapeCasts_S1024_S1x1024 := by
    unfold V
    entry_read
    rfl
  have e : iblk m c 13 t = fun y => V m c main_v2 (ix2 0 (y 1)) := by
    funext y
    blk_ext [iblk, idx t]
  rw [e, h]
  pointwise

theorem result18 : (dats m 0 c).arrAt 18 cfg0.N = m ((c.tc : Thread nD τ).loc main_arg14) := by
  refine (dats m 0 c).arrAt_eq_of_covers 18 _ (by decide +kernel) fun t hf y => ?_
  rw [after0_18]
  unfold outsAt0
  dsimp only
  rw [out18_eq]
  blk_ext [iblk, V, idx t]

theorem result19 : (dats m 0 c).arrAt 19 cfg0.N = m ((c.tc : Thread nD τ).loc main_arg15) := by
  refine (dats m 0 c).arrAt_eq_of_covers 19 _ (by decide +kernel) fun t hf y => ?_
  rw [after0_19]
  unfold outsAt0
  dsimp only
  rw [out19_eq]
  blk_ext [iblk, V, idx t]

theorem result20 : (dats m 0 c).arrAt 20 cfg0.N = m ((c.tc : Thread nD τ).loc main_arg16) := by
  refine (dats m 0 c).arrAt_eq_of_covers 20 _ (by decide +kernel) fun t hf y => ?_
  rw [after0_20]
  unfold outsAt0
  dsimp only
  rw [out20_eq]
  blk_ext [iblk, V, idx t]

/-- The row function over a grid point's blocks is the reference's first result at the rows the point works on. -/
theorem rows (t : Fin cfg0.N) (r : Fin 512) (k : Fin 1024) :
    outRow (fun g j => (![iblk m c 0 t, iblk m c 1 t, iblk m c 2 t, iblk m c 3 t] g) (ix3 0 r j)) (fun g j => iblk m c 6 t (ix2 g j))
        (fun a k => iblk m c 7 t (ix2 a k)) (fun k => iblk m c 4 t (ix3 0 r k)) (fun q k => iblk m c 5 t (ix3 0 q k))
        (fun k => iblk m c 8 t (ix2 0 k)) (fun k => iblk m c 9 t (ix2 0 k)) (fun a f => iblk m c 10 t (ix2 a f))
        (fun a f => iblk m c 11 t (ix2 a f)) (fun f k => iblk m c 12 t (ix2 f k)) (fun k => iblk m c 13 t (ix2 0 k)) k
      = Cert.Reference2Ideal.Read.val_main_v84 (F := 𝔽) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (ix3 (bOf t) (rowOf t r) k) := by
  have hg : (fun (g : Fin 4) (j : Fin 256) => (![iblk m c 0 t, iblk m c 1 t, iblk m c 2 t, iblk m c 3 t] g) (ix3 0 r j))
      = fun g j => (![(m ((c.tc : Thread nD τ).loc main_arg0)), (m ((c.tc : Thread nD τ).loc main_arg1)), (m ((c.tc : Thread nD τ).loc main_arg2)), (m ((c.tc : Thread nD τ).loc main_arg3))] g) (ix3 (bOf t) (rowOf t r) j) := by
    funext g j
    fin_cases g
    · exact b0 m c t r j
    · exact b1 m c t r j
    · exact b2 m c t r j
    · exact b3 m c t r j
  rw [Ref.v84_at, hg]
  simp only [b4, b5, b6, b7, b8, b9, b10, b11, b12, b13]

theorem at_index (t : Fin cfg0.N) (y : ((cfg0.win 17).xblock (cfg0.grid.coords t)).Idx) :
    ∃ (r : Fin 512) (k : Fin 1024), (cfg0.win 17).xinj (cfg0.grid.coords t) y = (ix3 0 r k : S1x512x1024.Idx)
      ∧ ((cfg0.win 17).blk t).view.emb y = (ix3 (bOf t) (rowOf t r) k : S16x2048x1024.Idx) := by
  have h0 : (y 0).val < 1 := (y 0).isLt
  refine ⟨y 1, y 2, ?_, ?_⟩
  · blk_ext [idx t]
  · unfold bOf rowOf
    blk_ext [idx t]

/-- The first output array is the reference's first result. -/
theorem result17 : (dats m 0 c).arrAt 17 cfg0.N
    = Cert.Reference2Ideal.Read.val_main_v84 (F := 𝔽) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  refine (dats m 0 c).arrAt_eq_of_covers 17 _ (by decide +kernel) fun t hf y => ?_
  rw [after0_17]
  unfold outsAt0
  dsimp only
  obtain ⟨r, k, hy, he⟩ := at_index t y
  rw [hy, he]
  rw [cast_eq, out17_at]
  exact rows m c t r k

end Cert.Ffn
end
-- ==== Proof.Ffn.Claims.lean ====
/- The claims about the mixing projection and dense feed-forward: the kernel's four output arrays are the reference's. -/
module

public import proofs.«01_k».proof.Defs
public import proofs.«01_k».proof.Proof.Gen.Kernel2
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Ffn.Arrays
public import Idealize.ShloMosaic.Adequacy
public import Idealize.ShloMosaic.Init

@[expose] public section

noncomputable section

namespace Cert.Proof

open Idealize.ShloMosaic Idealize.SL.Sem Idealize.ShloMosaic.StableHlo

/-! ## The mixing projection and dense feed-forward -/

theorem frame_kernel2 : Cert.quiescent_Kernel2 := fun m ρ _ => Cert.Kernel2.Gen.frame m ρ

theorem frame_ideal2 : Cert.quiescent_Kernel2Ideal := fun m ρ _ => Cert.Kernel2Ideal.Gen.frame m ρ

theorem frame_refIdeal2 : Cert.quiescent_Reference2Ideal := fun m ρ _ =>
  (θ_run Cert.Reference2Ideal.defs _ _).mono
    (fun r h => ⟨fun c => (h c).2.2.2.2, Idealize.ShloMosaic.sem_eq_zero_of_no_sems (by decide) r.2⟩)
    (Cert.Reference2Ideal.Value.run (F := Ideal) m ρ)

theorem v84_congr {a0 b0 : FVec Ideal Cert.Reference2Ideal.S16x2048x256 .bf16} {a1 b1 : FVec Ideal Cert.Reference2Ideal.S16x2048x256 .bf16} {a2 b2 : FVec Ideal Cert.Reference2Ideal.S16x2048x256 .bf16} {a3 b3 : FVec Ideal Cert.Reference2Ideal.S16x2048x256 .bf16} {a4 b4 : FVec Ideal Cert.Reference2Ideal.S16x2048x1024 .f32} {a5 b5 : FVec Ideal Cert.Reference2Ideal.S16x6x1024 .f32} {a6 b6 : FVec Ideal Cert.Reference2Ideal.S4x256 .f32} {a7 b7 : FVec Ideal Cert.Reference2Ideal.S1024x1024 .bf16} {a8 b8 : FVec Ideal Cert.Reference2Ideal.S1024 .f32} {a9 b9 : FVec Ideal Cert.Reference2Ideal.S1024 .f32} {a10 b10 : FVec Ideal Cert.Reference2Ideal.S1024x2816 .bf16} {a11 b11 : FVec Ideal Cert.Reference2Ideal.S1024x2816 .bf16} {a12 b12 : FVec Ideal Cert.Reference2Ideal.S2816x1024 .bf16} {a13 b13 : FVec Ideal Cert.Reference2Ideal.S1024 .f32}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) :
    Cert.Reference2Ideal.Read.val_main_v84 (F := Ideal) a0 a1 a2 a3 a4 a5 a6 a7 a8 a9 a10 a11 a12 a13
      = Cert.Reference2Ideal.Read.val_main_v84 (F := Ideal) b0 b1 b2 b3 b4 b5 b6 b7 b8 b9 b10 b11 b12 b13 := by
  rw [h0, h1, h2, h3, h4, h5, h6, h7, h8, h9, h10, h11, h12, h13]

/-- The kernel's first output array is the reference's function of the arguments, and the other three are the side weights
    themselves: over the extended reals the cast to the narrower format changes nothing. -/
theorem value_ideal2 : Cert.algebraic_Kernel2Ideal_Reference2Ideal := by
  intro m g m' g' _ hagree
  refine ⟨fun c => Cert.Reference2Ideal.Read.val_main_v84 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)),
    fun c => m ((c.tc : Thread Cert.Kernel2Ideal.nD Cert.Kernel2Ideal.τ).loc Cert.Kernel2Ideal.main_arg14), fun c => m ((c.tc : Thread Cert.Kernel2Ideal.nD Cert.Kernel2Ideal.τ).loc Cert.Kernel2Ideal.main_arg15), fun c => m ((c.tc : Thread Cert.Kernel2Ideal.nD Cert.Kernel2Ideal.τ).loc Cert.Kernel2Ideal.main_arg16), ?_, ?_⟩
  · refine (θ_run Cert.Kernel2Ideal.defs _ _).mono (fun _ h c => ⟨?_, ?_, ?_, ?_, (h c).2.2.2.2⟩)
      (Cert.Kernel2Ideal.Value.run_blocks (F := Ideal) m g)
    · exact (h c).1.trans (Cert.Ffn.result17 m c)
    · exact (h c).2.1.trans (Cert.Ffn.result18 m c)
    · exact (h c).2.2.1.trans (Cert.Ffn.result19 m c)
    · exact (h c).2.2.2.1.trans (Cert.Ffn.result20 m c)
  · refine (θ_run Cert.Reference2Ideal.defs _ _).mono (fun _ h c => ⟨?_, ?_, ?_, ?_, (h c).2.2.2.2⟩)
      (Cert.Reference2Ideal.Value.run (F := Ideal) m' g')
    · obtain ⟨h0, h1, h2, h3, h4, h5, h6, h7, h8, h9, h10, h11, h12, h13, h14, h15, h16⟩ := hagree c
      exact (h c).1.trans ((Cert.Reference2Ideal.Read.val_main_v84_eq (launchContents m' c)).trans
        (v84_congr h0 h1 h2 h3 h4 h5 h6 h7 h8 h9 h10 h11 h12 h13))
    · exact (h c).2.1.trans (hagree c).2.2.2.2.2.2.2.2.2.2.2.2.2.2.1
    · exact (h c).2.2.1.trans (hagree c).2.2.2.2.2.2.2.2.2.2.2.2.2.2.2.1
    · exact (h c).2.2.2.1.trans (hagree c).2.2.2.2.2.2.2.2.2.2.2.2.2.2.2.2

end Cert.Proof

end
-- ==== Proof.Experts.Run.lean ====
/-
  The expert kernel's body at one grid point, over any float values: what it leaves in the output's buffer when the point's
  row tile is in use, and when it is not.
-/
module

public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Experts

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The table of experts, one per row tile, as the body is handed it. -/
abbrev teM : Memref sig .tc .smem S136 .i32 := Memref.whole main_arg1
/-- The one-word table of how many row tiles are in use. -/
abbrev nvM : Memref sig .tc .smem S1 .i32 := Memref.whole main_arg2
/-- The body's copy of the row tile, and its gated hidden activations. -/
abbrev xbM : Memref sig .tc .vmem S512x1024 .bf16 := Memref.whole cc0_scratch0
abbrev actM : Memref sig .tc .vmem S512x3584 .bf16 := Memref.whole cc0_scratch1
/-- One of the output's two buffers: what the body leaves is read through it. -/
abbrev outV : View sig .tc .vmem S512x1024 .bf16 := (Memref.whole cc0_stg4_0 : Memref sig .tc .vmem S512x1024 .bf16).view

/-- The word the body loads from the count's table. -/
abbrev word (T1 : S1.Idx → Elt F .i32) : BitVec 32 :=
  View.readAt (Elt F) nvM.view (Rect.unit (s := S1) ![0] S1.size inb_S1_S1_0).toLoadRect T1 (Shape.Idx.first (numel1_S1.symm ▸ Nat.one_pos))

/-- A table held by the body at half its share. -/
abbrev tab (c : Dev nD) {S : Shape} {e : EltTy} (M : Memref sig .tc .smem S e) (f : Buf (Elt F) (M.view.loc (c : Thread nD τ))) : sProp 𝕄 :=
  M.view.loc (c : Thread nD τ) ↦{fullShare.right} f

set_option maxHeartbeats 4000000 in
/-- A tile in use: the body runs, the inputs and tables are as they were, and the output's buffer ends written by the list found. -/
noncomputable def runUsed (c : Dev nD) (i : grid0.Coords)
    (a3 : Memref sig .tc .vmem S512x512 .i32) (h3 : a3.IsWhole) (a4 : Memref sig .tc .vmem S1x1024x3584 .bf16) (h4 : a4.IsWhole)
    (a5 : Memref sig .tc .vmem S1x1024x3584 .bf16) (h5 : a5.IsWhole) (a6 : Memref sig .tc .vmem S1x3584x1024 .bf16) (h6 : a6.IsWhole)
    (a7 : Memref sig .tc .vmem S512x1024 .bf16) (h7 : a7.IsWhole) (a8 : Memref sig .tc .vmem S512x1024 .bf16) (h8 : a8.IsWhole)
    (a9 : Memref sig .tc .vmem S512x3584 .bf16) (h9 : a9.IsWhole)
    (T0 : S136.Idx → Elt F .i32) (T1 : S1.Idx → Elt F .i32)
    (x0 : Vec F S512x512 .i32) (x1 x2 : Vec F S1x1024x3584 .bf16) (x3 : Vec F S1x3584x1024 .bf16)
    (hyes : k0_cond1 i (word T1) = 1#1) (hno : ¬ k0_cond2 i (word T1) = 1#1) :
    { L : List (View.Piece (Elt F) S512x1024 .bf16) // ∀ (K : PUnit → sProp 𝕄),
        iprop(owns (c : Thread nD τ) a3 fullShare x0 ∗ owns (c : Thread nD τ) a4 fullShare x1 ∗ owns (c : Thread nD τ) a5 fullShare x2
            ∗ owns (c : Thread nD τ) a6 fullShare x3 ∗ tab c teM T0 ∗ tab c nvM T1
            ∗ (∃ d, owns (c : Thread nD τ) a7 fullShare d) ∗ (∃ d, owns (c : Thread nD τ) a8 fullShare d) ∗ (∃ d, owns (c : Thread nD τ) a9 fullShare d)
            ∗ (iprop(owns (c : Thread nD τ) a3 fullShare x0 ∗ owns (c : Thread nD τ) a4 fullShare x1 ∗ owns (c : Thread nD τ) a5 fullShare x2
                ∗ owns (c : Thread nD τ) a6 fullShare x3 ∗ tab c teM T0 ∗ tab c nvM T1
                ∗ (∃ f, a7.view.loc (c : Thread nD τ) ↦[a7.view.set]{fullShare} a7.view.writes (Elt F) f L)
                ∗ (∃ f, a8.view.loc (c : Thread nD τ) ↦[a8.view.set]{fullShare} f) ∗ (∃ f, a9.view.loc (c : Thread nD τ) ↦[a9.view.set]{fullShare} f)) -∗ K ⟨⟩))
          ⊢ wp frame (wpE (defs₀ (F := F)) Variants.none c none) Set.univ
              (cc0_moe_experts i teM (Memref.isWhole_whole _) nvM (Memref.isWhole_whole _) a3 h3 a4 h4 a5 h5 a6 h6 a7 h7 a8 h8 a9 h9) K } := by
  refine ⟨?_, fun K => ?run⟩
  case run =>
    simp only [cc0_moe_experts_eq_skeleton]; unfold cc0_moe_experts_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, HT0, HT1, ⟨%d7, %f7, -, H7⟩, ⟨%d8, %f8, -, H8⟩, ⟨%d9, %f9, -, H9⟩, Hk⟩
    obtain rfl := h3.eq_unread hf0; obtain rfl := h4.eq_unread hf1; obtain rfl := h5.eq_unread hf2; obtain rfl := h6.eq_unread hf3
    have hT0 : teM.IsWhole := Memref.isWhole_whole _
    have hT1 : nvM.IsWhole := Memref.isWhole_whole _
    sl_exec (disch := first | (guard_target = k0_cond1 _ _ = _; exact hyes) | (guard_target = ¬(k0_cond2 _ _ = _); exact hno))
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    isplitl [HT0]; · iexact HT0
    isplitl [HT1]; · iexact HT1
    isplitl [H7]; · iexists _; iexact H7
    isplitl [H8]; · iexists _; iexact H8
    iexists _; iexact H9

set_option maxHeartbeats 4000000 in
/-- A tile not in use: likewise, the output's buffer written by the list found. -/
noncomputable def runSpare (c : Dev nD) (i : grid0.Coords)
    (a3 : Memref sig .tc .vmem S512x512 .i32) (h3 : a3.IsWhole) (a4 : Memref sig .tc .vmem S1x1024x3584 .bf16) (h4 : a4.IsWhole)
    (a5 : Memref sig .tc .vmem S1x1024x3584 .bf16) (h5 : a5.IsWhole) (a6 : Memref sig .tc .vmem S1x3584x1024 .bf16) (h6 : a6.IsWhole)
    (a7 : Memref sig .tc .vmem S512x1024 .bf16) (h7 : a7.IsWhole) (a8 : Memref sig .tc .vmem S512x1024 .bf16) (h8 : a8.IsWhole)
    (a9 : Memref sig .tc .vmem S512x3584 .bf16) (h9 : a9.IsWhole)
    (T1 : S1.Idx → Elt F .i32) (hyes : ¬ k0_cond1 i (word T1) = 1#1) (hno : k0_cond2 i (word T1) = 1#1) :
    { L : List (View.Piece (Elt F) S512x1024 .bf16) // ∀ (K : PUnit → sProp 𝕄),
        iprop(tab c nvM T1 ∗ (∃ d, owns (c : Thread nD τ) a7 fullShare d)
            ∗ (iprop(tab c nvM T1 ∗ (∃ f, a7.view.loc (c : Thread nD τ) ↦[a7.view.set]{fullShare} a7.view.writes (Elt F) f L)) -∗ K ⟨⟩))
          ⊢ wp frame (wpE (defs₀ (F := F)) Variants.none c none) Set.univ
              (cc0_moe_experts i teM (Memref.isWhole_whole _) nvM (Memref.isWhole_whole _) a3 h3 a4 h4 a5 h5 a6 h6 a7 h7 a8 h8 a9 h9) K } := by
  refine ⟨?_, fun K => ?run⟩
  case run =>
    simp only [cc0_moe_experts_eq_skeleton]; unfold cc0_moe_experts_skel
    unfold owns
    iintro ⟨HT1, ⟨%d7, %f7, -, H7⟩, Hk⟩
    have hT1 : nvM.IsWhole := Memref.isWhole_whole _
    sl_exec (disch := first | (guard_target = ¬(k0_cond1 _ _ = _); exact hyes) | (guard_target = k0_cond2 _ _ = _; exact hno))
    sl_step
    iapply Hk
    isplitl [HT1]; · iexact HT1
    iexists _; iexact H7

end Cert.Experts

end
-- ==== Proof.Experts.Launch.lean ====
/-
  The expert kernel's launch, over any float values: its 136 grid points run through, each leaving the output's buffer at the
  contents its tile's run found, so the arguments end unchanged and the result is known block by block.
-/
module

public import proofs.«01_k».proof.Proof.Experts.Run

@[expose] public section

set_option maxRecDepth 16384

noncomputable section

namespace Cert.Experts

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branches exclude each other, and one is taken -/

theorem conds (i : grid0.Coords) (v : BitVec 32) :
    (k0_cond1 i v = 1#1 ∧ ¬ k0_cond2 i v = 1#1) ∨ (¬ k0_cond1 i v = 1#1 ∧ k0_cond2 i v = 1#1) := by
  unfold k0_cond1 k0_cond2
  generalize (BitVec.ofNat 32 (i 0).val : BitVec 32) = a
  by_cases h : BitVec.slt a v = true
  · left; simp [Scalar.cmpi, Scalar.extui, IntOp.cmpi, h, BitVec.sle_eq_not_slt]
  · right; simp [Scalar.cmpi, Scalar.extui, IntOp.cmpi, h, BitVec.sle_eq_not_slt]

theorem never_idle (i : grid0.Coords) (v : BitVec 32) :
    (!(k0_cond1 i v == 1#1) && !(k0_cond2 i v == 1#1)) = false := by
  rcases conds i v with ⟨h, -⟩ | ⟨-, h⟩ <;> simp [h]

/-! ## What a run leaves in the output's buffer -/

section Out
variable (c : Dev nD) (i : grid0.Coords)
    (a3 : Memref sig .tc .vmem S512x512 .i32) (h3 : a3.IsWhole) (a4 : Memref sig .tc .vmem S1x1024x3584 .bf16) (h4 : a4.IsWhole)
    (a5 : Memref sig .tc .vmem S1x1024x3584 .bf16) (h5 : a5.IsWhole) (a6 : Memref sig .tc .vmem S1x3584x1024 .bf16) (h6 : a6.IsWhole)
    (a7 : Memref sig .tc .vmem S512x1024 .bf16) (h7 : a7.IsWhole) (a8 : Memref sig .tc .vmem S512x1024 .bf16) (h8 : a8.IsWhole)
    (a9 : Memref sig .tc .vmem S512x3584 .bf16) (h9 : a9.IsWhole)

theorem cover_used (T0 : S136.Idx → Elt F .i32) (T1 : S1.Idx → Elt F .i32)
    (x0 : Vec F S512x512 .i32) (x1 x2 : Vec F S1x1024x3584 .bf16) (x3 : Vec F S1x3584x1024 .bf16)
    (hy : k0_cond1 i (word T1) = 1#1) (hn : ¬ k0_cond2 i (word T1) = 1#1) (y : S512x1024.Idx) :
    ∃ pc ∈ (runUsed c i a3 h3 a4 h4 a5 h5 a6 h6 a7 h7 a8 h8 a9 h9 T0 T1 x0 x1 x2 x3 hy hn).1, y ∈ pc.1.set :=
  View.cover_of_tiledL (runUsed c i a3 h3 a4 h4 a5 h5 a6 h6 a7 h7 a8 h8 a9 h9 T0 T1 x0 x1 x2 x3 hy hn).1 S512x1024.size (by sl_kernel_rfl) y

def outUsed (T0 : S136.Idx → Elt F .i32) (T1 : S1.Idx → Elt F .i32)
    (x0 : Vec F S512x512 .i32) (x1 x2 : Vec F S1x1024x3584 .bf16) (x3 : Vec F S1x3584x1024 .bf16)
    (hy : k0_cond1 i (word T1) = 1#1) (hn : ¬ k0_cond2 i (word T1) = 1#1) : Vec F S512x1024 .bf16 :=
  outV.read (Elt F) (outV.writes (Elt F) outV.junk (runUsed c i a3 h3 a4 h4 a5 h5 a6 h6 a7 h7 a8 h8 a9 h9 T0 T1 x0 x1 x2 x3 hy hn).1)

theorem cover_spare (T1 : S1.Idx → Elt F .i32) (hy : ¬ k0_cond1 i (word T1) = 1#1) (hn : k0_cond2 i (word T1) = 1#1) (y : S512x1024.Idx) :
    ∃ pc ∈ (runSpare c i a3 h3 a4 h4 a5 h5 a6 h6 a7 h7 a8 h8 a9 h9 T1 hy hn).1, y ∈ pc.1.set :=
  View.cover_of_tiledL (runSpare c i a3 h3 a4 h4 a5 h5 a6 h6 a7 h7 a8 h8 a9 h9 T1 hy hn).1 S512x1024.size (by sl_kernel_rfl) y

def outSpare (T1 : S1.Idx → Elt F .i32) (hy : ¬ k0_cond1 i (word T1) = 1#1) (hn : k0_cond2 i (word T1) = 1#1) : Vec F S512x1024 .bf16 :=
  outV.read (Elt F) (outV.writes (Elt F) outV.junk (runSpare c i a3 h3 a4 h4 a5 h5 a6 h6 a7 h7 a8 h8 a9 h9 T1 hy hn).1)
end Out

/-! ## The launch's set-up -/

variable (m : (ℓ : Loc nD τ sig) → Buf (Elt F) ℓ) (ρ : Dev nD → PrngReg)

/-- The buffers as the region finds them: as launched. -/
abbrev V (c : Dev nD) (b : Ref sig .tc) : Buf (Elt F) ((c : Thread nD τ).loc b) := m ((c : Thread nD τ).loc b)

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The two tables' contents. -/
def tbl : pre0.Contents (Elt F) := fun j => V m (0 : Dev nD) (pre0.ref j)

theorem tbl_at (c : Dev nD) (j : Fin 2) : V m c (pre0.ref j) = tbl m j := by
  obtain rfl : c = 0 := Subsingleton.elim _ _; rfl

/-- Every block the tables' words choose lies in its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

theorem tables_eq (c : Dev nD) : (Pipeline.ΦT pre0 (tbl m) c : sProp 𝕄) = iprop(tab c teM (tbl m 0) ∗ tab c nvM (tbl m 1)) := by
  unfold Pipeline.ΦT Pipeline.prefHeld
  rw [show (Finset.univ : Finset (Fin 2)) = insert (0 : Fin 2) {(1 : Fin 2)} from by decide, bigSep_insert (by decide), bigSep_singleton]
  rfl

theorem scratch_eq (c : Dev nD) :
    (Pipeline.ΦA spec0 c : sProp 𝕄)
      = iprop(iprop((∃ d, owns (c : Thread nD τ) xbM fullShare d) ∗ (∃ d, owns (c : Thread nD τ) actM fullShare d)) ∗ (∃ r, prngReg c r)) := by
  unfold Pipeline.ΦA; rw [scopedRest0_eq]; simp only [xbM, actM, owns_whole]; try rfl

/-- A window's block at a grid point. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- The buffers the body is handed at a grid point. -/
abbrev st (hO : Ok m) (t : Fin (cfgM m hO).N) (w : Fin 5) := ((cfgM m hO).win w).stage ((cfgM m hO).slots t w)

/-- What the output's buffer holds after a grid point. -/
def outAt (hO : Ok m) (c : Dev nD) (t : Fin (cfgM m hO).N) : Vec F S512x1024 .bf16 :=
  if h : k0_cond1 (grid0.coords t) (word (tbl m 1)) = 1#1 ∧ ¬ k0_cond2 (grid0.coords t) (word (tbl m 1)) = 1#1 then
    outUsed c (grid0.coords t) (st m hO t 0) (hstage0_0 (((cfgM m hO).slots t 0).cast nbuf0_0)) (st m hO t 1) (hstage0_1 (((cfgM m hO).slots t 1).cast nbuf0_1))
      (st m hO t 2) (hstage0_2 (((cfgM m hO).slots t 2).cast nbuf0_2)) (st m hO t 3) (hstage0_3 (((cfgM m hO).slots t 3).cast nbuf0_3))
      (st m hO t 4) (hstage0_4 (((cfgM m hO).slots t 4).cast nbuf0_4)) xbM (Memref.isWhole_whole _) actM (Memref.isWhole_whole _)
      (tbl m 0) (tbl m 1) (iblk m hO c 0 t) (iblk m hO c 1 t) (iblk m hO c 2 t) (iblk m hO c 3 t) h.1 h.2
  else
    outSpare c (grid0.coords t) (st m hO t 0) (hstage0_0 (((cfgM m hO).slots t 0).cast nbuf0_0)) (st m hO t 1) (hstage0_1 (((cfgM m hO).slots t 1).cast nbuf0_1))
      (st m hO t 2) (hstage0_2 (((cfgM m hO).slots t 2).cast nbuf0_2)) (st m hO t 3) (hstage0_3 (((cfgM m hO).slots t 3).cast nbuf0_3))
      (st m hO t 4) (hstage0_4 (((cfgM m hO).slots t 4).cast nbuf0_4)) xbM (Memref.isWhole_whole _) actM (Memref.isWhole_whole _)
      (tbl m 1) ((conds (grid0.coords t) (word (tbl m 1))).resolve_left h).1 ((conds (grid0.coords t) (word (tbl m 1))).resolve_left h).2

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outAt m hO c t
    | ⟨_ + 5, h⟩ => absurd h (Nat.not_lt.2 (Nat.le_add_left _ _))
  Φ _ := iprop(Pipeline.ΦA spec0 c ∗ Pipeline.ΦT pre0 (tbl m) c)
  q _ := fullShare
  owed _ := 0

variable (hO : Ok m)

theorem dats_A (c : Dev nD) (w : Fin (cfgM m hO).W) : (dats m hO 0 c).A w = V m c (Pipeline.arrRef spec0 w) := by
  dsimp only [dats]

theorem after_0 (c : Dev nD) (t : Fin (cfgM m hO).N) : (dats m hO 0 c).after 0 t = iblk m hO c 0 t := rfl
theorem after_1 (c : Dev nD) (t : Fin (cfgM m hO).N) : (dats m hO 0 c).after 1 t = iblk m hO c 1 t := rfl
theorem after_2 (c : Dev nD) (t : Fin (cfgM m hO).N) : (dats m hO 0 c).after 2 t = iblk m hO c 2 t := rfl
theorem after_3 (c : Dev nD) (t : Fin (cfgM m hO).N) : (dats m hO 0 c).after 3 t = iblk m hO c 3 t := rfl
theorem after_4 (c : Dev nD) (t : Fin (cfgM m hO).N) : (dats m hO 0 c).after 4 t = outAt m hO c t := rfl

/-- An input's buffer holds its block when the body starts. -/
theorem before_0 (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after_0]; unfold Dat.blockOf iblk; rw [dats_A]; try rfl) t d).trans
    (by unfold Dat.fetched Dat.blockOf iblk; rw [dats_A]; try rfl)
theorem before_1 (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after_1]; unfold Dat.blockOf iblk; rw [dats_A]; try rfl) t d).trans
    (by unfold Dat.fetched Dat.blockOf iblk; rw [dats_A]; try rfl)
theorem before_2 (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after_2]; unfold Dat.blockOf iblk; rw [dats_A]; try rfl) t d).trans
    (by unfold Dat.fetched Dat.blockOf iblk; rw [dats_A]; try rfl)
theorem before_3 (c : Dev nD) (t : Fin (cfgM m hO).N) (d) : (dats m hO 0 c).before 3 t d = iblk m hO c 3 t :=
  ((dats m hO 0 c).before_in_eq_fetched 3 rfl (fun _ => rfl) (fun _ _ _ => rfl) (fun t => by rw [after_3]; unfold Dat.blockOf iblk; rw [dats_A]; try rfl) t d).trans
    (by unfold Dat.fetched Dat.blockOf iblk; rw [dats_A]; try rfl)

/-- The body as the pipeline calls it at a grid point. -/
abbrev bodyAt (t : Fin (cfgM m hO).N) : Prog (TpuEff nD τ sig (Elt F) Λ₀ .tc) PUnit :=
  cc0_moe_experts (grid0.coords t) teM (Memref.isWhole_whole _) nvM (Memref.isWhole_whole _)
    (st m hO t 0) (hstage0_0 (((cfgM m hO).slots t 0).cast nbuf0_0)) (st m hO t 1) (hstage0_1 (((cfgM m hO).slots t 1).cast nbuf0_1))
    (st m hO t 2) (hstage0_2 (((cfgM m hO).slots t 2).cast nbuf0_2)) (st m hO t 3) (hstage0_3 (((cfgM m hO).slots t 3).cast nbuf0_3))
    (st m hO t 4) (hstage0_4 (((cfgM m hO).slots t 4).cast nbuf0_4)) xbM (Memref.isWhole_whole _) actM (Memref.isWhole_whole _)

theorem idle_4 (t : Fin (cfgM m hO).N) : (cfgM m hO).idle (4 : Fin 5) ((cfgM m hO).grid.coords t) = false :=
  never_idle (grid0.coords t) ((tbl m).atD 1 ![0])

def held (c : Dev nD) (t : Fin (cfgM m hO).N) : sProp 𝕄 :=
  iprop((dats m hO 0 c).Φ t.castSucc ∗ (dats m hO 0 c).owesAt () t.castSucc
    ∗ (∃ d, owns (c : Thread nD τ) (st m hO t 0) fullShare ((dats m hO 0 c).before 0 t d))
    ∗ (∃ d, owns (c : Thread nD τ) (st m hO t 1) fullShare ((dats m hO 0 c).before 1 t d))
    ∗ (∃ d, owns (c : Thread nD τ) (st m hO t 2) fullShare ((dats m hO 0 c).before 2 t d))
    ∗ (∃ d, owns (c : Thread nD τ) (st m hO t 3) fullShare ((dats m hO 0 c).before 3 t d))
    ∗ (∃ d, owns (c : Thread nD τ) (st m hO t 4) fullShare ((dats m hO 0 c).before 4 t d)))

def left (c : Dev nD) (t : Fin (cfgM m hO).N) : sProp 𝕄 :=
  iprop((dats m hO 0 c).Φ t.succ ∗ (dats m hO 0 c).owesAt () t.succ
    ∗ owns (c : Thread nD τ) (st m hO t 0) fullShare ((dats m hO 0 c).after 0 t)
    ∗ owns (c : Thread nD τ) (st m hO t 1) fullShare ((dats m hO 0 c).after 1 t)
    ∗ owns (c : Thread nD τ) (st m hO t 2) fullShare ((dats m hO 0 c).after 2 t)
    ∗ owns (c : Thread nD τ) (st m hO t 3) fullShare ((dats m hO 0 c).after 3 t)
    ∗ owns (c : Thread nD τ) (st m hO t 4) fullShare ((dats m hO 0 c).after 4 t))

set_option maxHeartbeats 2400000 in
theorem sound_body (c : Dev nD) (t : Fin (cfgM m hO).N) :
    held m hO c t ⊢ wp frame (wpE (defs₀ (F := F)) Variants.none c none) Set.univ (bodyAt m hO t) (fun _ => left m hO c t) := by
  unfold held left bodyAt
  simp only [before_0, before_1, before_2, before_3]
  rw [show (dats m hO 0 c).Φ t.succ = (dats m hO 0 c).Φ t.castSucc from rfl,
    show (dats m hO 0 c).owesAt () t.succ = (dats m hO 0 c).owesAt () t.castSucc from rfl,
    after_0, after_1, after_2, after_3, after_4]
  rw [show (dats m hO 0 c).Φ t.castSucc = iprop(Pipeline.ΦA spec0 c ∗ Pipeline.ΦT pre0 (tbl m) c) from rfl, scratch_eq, tables_eq]
  unfold outAt
  by_cases h : k0_cond1 (grid0.coords t) (word (tbl m 1)) = 1#1 ∧ ¬ k0_cond2 (grid0.coords t) (word (tbl m 1)) = 1#1
  · rw [dif_pos h]
    unfold outUsed
    iintro ⟨⟨⟨⟨HS0, HS1⟩, Hg⟩, HT0, HT1⟩, Ho, ⟨%d0, H0⟩, ⟨%d1, H1⟩, ⟨%d2, H2⟩, ⟨%d3, H3⟩, ⟨%d4, H4⟩⟩
    iapply ((runUsed c (grid0.coords t) _ _ _ _ _ _ _ _ _ _ _ _ _ _ (tbl m 0) (tbl m 1) (iblk m hO c 0 t) (iblk m hO c 1 t) (iblk m hO c 2 t) (iblk m hO c 3 t) h.1 h.2).2 _)
    isplitl [H0]; · iexact H0
    isplitl [H1]; · iexact H1
    isplitl [H2]; · iexact H2
    isplitl [H3]; · iexact H3
    isplitl [HT0]; · iexact HT0
    isplitl [HT1]; · iexact HT1
    isplitl [H4]; · iexists _; iexact H4
    isplitl [HS0]; · iexact HS0
    isplitl [HS1]; · iexact HS1
    iintro ⟨H0, H1, H2, H3, HT0, HT1, ⟨%e4, H4⟩, ⟨%f0, HS0⟩, ⟨%f1, HS1⟩⟩
    isplitl [HS0 HS1 Hg HT0 HT1]
    · isplitl [HS0 HS1 Hg]
      · isplitl [HS0 HS1]
        · isplitl [HS0]
          · iexists _; unfold owns; iexists _; isplitr
            swap; · iexact HS0
            ipureintro; rfl
          iexists _; unfold owns; iexists _; isplitr
          swap; · iexact HS1
          ipureintro; rfl
        iexact Hg
      isplitl [HT0]; · iexact HT0
      iexact HT1
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover_used c _ _ _ _ _ _ _ _ _ _ _ _ _ _ _ _ _ _ _ _ _ _ _)
  · rw [dif_neg h]
    unfold outSpare
    iintro ⟨⟨HA, HT0, HT1⟩, Ho, ⟨%d0, H0⟩, ⟨%d1, H1⟩, ⟨%d2, H2⟩, ⟨%d3, H3⟩, ⟨%d4, H4⟩⟩
    iapply ((runSpare c (grid0.coords t) _ (hstage0_0 (((cfgM m hO).slots t 0).cast nbuf0_0)) _ (hstage0_1 (((cfgM m hO).slots t 1).cast nbuf0_1)) _ (hstage0_2 (((cfgM m hO).slots t 2).cast nbuf0_2))
      _ (hstage0_3 (((cfgM m hO).slots t 3).cast nbuf0_3)) _ (hstage0_4 (((cfgM m hO).slots t 4).cast nbuf0_4)) _ (Memref.isWhole_whole _) _ (Memref.isWhole_whole _) (tbl m 1)
      ((conds (grid0.coords t) (word (tbl m 1))).resolve_left h).1 ((conds (grid0.coords t) (word (tbl m 1))).resolve_left h).2).2 _)
    isplitl [HT1]; · iexact HT1
    isplitl [H4]; · iexists _; iexact H4
    iintro ⟨HT1, ⟨%e4, H4⟩⟩
    isplitl [HA HT0 HT1]
    · isplitl [HA]; · iexact HA
      isplitl [HT0]; · iexact HT0
      iexact HT1
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover_spare c _ _ _ _ _ _ _ _ _ _ _ _ _ _ _ _ _ _)

theorem body_row (t : Fin (cfgM m hO).N) :
    defs₀ (F := F) .tc (cfgM m hO).body ((cfgM m hO).bodyArgs t ((cfgM m hO).slots t)) = bodyAt m hO t := by
  unfold defs₀; rw [Defs.onTc_tc]

theorem body_obligation (c : Dev nD) : BodyObligation (dats (F := F) m hO 0 c) (defs₀ (F := F)) Variants.none () Set.univ := fun t => by
  rw [bigSep_W0, bigSep_W0, body_row]
  rewrite [idle_4 m hO t]
  exact triple_restated (sound_body m hO c t) rfl .rfl fun _ => .rfl

set_option backward.isDefEq.respectTransparency.types false in
/-- Every execution ends, with every array of the pipeline at what its blocks say, every other buffer as it was, and every
    semaphore at zero. -/
theorem run_main (hO : Ok m) : θ_run defs (onTc (τ := τ) (main (F := F))) (s₀ m ρ)
    (fun r => Pipeline.FramePost (Pipeline.pin pcfgs fun _ => adm m hO) (dats m hO) 0 (V m) r ∧ r.2.sem = fun _ => 0) :=
  Pipeline.θ_run_frameP pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := dats_A m hO) (hpf := tbl_at m) (hΦ := fun _ _ => rfl)
    (Q' := fun r => Pipeline.FramePost (Pipeline.pin pcfgs fun _ => adm m hO) (dats m hO) 0 (V m) r ∧ r.2.sem = fun _ => 0) (hQ' := fun _ h => h)

/-- What an execution leaves: the output array at what its blocks say, the arguments unchanged, every semaphore at zero. -/
theorem leaves (hO : Ok m) : θ_run defs (onTc (τ := τ) (main (F := F))) ⟨m, fun _ => 0, ρ⟩ (fun r => (∀ c : Dev nD,
      r.2.mem ((c.tc : Thread nD τ).loc main_v0) = (dats m hO 0 c).arrAt 4 grid0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c =>
    ⟨(h.1 c).1 4, ((h.1 c).1 0).trans (((dats m hO 0 c).arrAt_in 0 rfl _).trans (dats_A m hO c 0)),
      (h.1 c).2 main_arg1 (by decide : main_arg1 ∈ Pipeline.restRefs sig spec0),
      (h.1 c).2 main_arg2 (by decide : main_arg2 ∈ Pipeline.restRefs sig spec0),
      ((h.1 c).1 1).trans (((dats m hO 0 c).arrAt_in 1 rfl _).trans (dats_A m hO c 1)),
      ((h.1 c).1 2).trans (((dats m hO 0 c).arrAt_in 2 rfl _).trans (dats_A m hO c 2)),
      ((h.1 c).1 3).trans (((dats m hO 0 c).arrAt_in 3 rfl _).trans (dats_A m hO c 3))⟩, h.2⟩) (run_main m ρ hO)

end Cert.Experts

end
-- ==== Proof.Pairs.lean ====
/-
  A row of 1024 numbers carried two to a 32-bit word: the lower 512 in the words' low halves, the upper 512 in the high halves, each
  half the sixteen bits of a number in the narrower format.
-/
module

public import proofs.«01_k».proof.Proof.Ffn.Row

@[expose] public section
noncomputable section
namespace Cert.Pairs
open Idealize.ShloMosaic
open Cert.Ffn (Row)

/-- The lower and the upper half of a row of 1024. -/
def lower (j : Fin 512) : Fin 1024 := ⟨j.val, by omega⟩
def upper (j : Fin 512) : Fin 1024 := ⟨512 + j.val, by omega⟩

theorem sum_halves (f : Fin 1024 → EReal) : ∑ k, f k = (∑ j, f (lower j)) + ∑ j, f (upper j) :=
  Fin.sum_univ_add (a := 512) (b := 512) f

/-- The row the words carry. -/
def row (w : Fin 512 → BitVec 32) : Row 1024 := fun k =>
  if h : k.val < 512 then Ideal.ofBits FTy.bf16 ((w ⟨k.val, h⟩).extractLsb' 0 16)
  else Ideal.ofBits FTy.bf16 ((w ⟨k.val - 512, by omega⟩).extractLsb' 16 16)

theorem row_lower (w : Fin 512 → BitVec 32) (j : Fin 512) : row w (lower j) = Ideal.ofBits FTy.bf16 ((w j).extractLsb' 0 16) := by
  unfold row lower
  rw [dif_pos j.isLt]

theorem row_upper (w : Fin 512 → BitVec 32) (j : Fin 512) : row w (upper j) = Ideal.ofBits FTy.bf16 ((w j).extractLsb' 16 16) := by
  unfold row upper
  rw [dif_neg (by simp)]
  have e : (⟨512 + j.val - 512, by omega⟩ : Fin 512) = j := Fin.ext (Nat.add_sub_cancel_left ..)
  exact congrArg (fun i => Ideal.ofBits FTy.bf16 ((w i).extractLsb' 16 16)) e

/-- Every place of a row is in one of the halves. -/
theorem halves (k : Fin 1024) : (∃ j, k = lower j) ∨ ∃ j, k = upper j := by
  by_cases h : k.val < 512
  · exact .inl ⟨⟨k.val, h⟩, rfl⟩
  · exact .inr ⟨⟨k.val - 512, by omega⟩, Fin.ext (by show k.val = 512 + (k.val - 512); omega)⟩

/-- Sixteen bits followed by sixteen zeros, read as a single-precision number, are the number the sixteen bits are in the narrower
    format: sign and exponent are the same bits, and the fraction is 2¹⁶ times as many of units 2¹⁶ times as small. -/
theorem widen (v : BitVec 32) (h : BitVec 16) (e : v.toNat = h.toNat * 65536) : Ideal.ofBits FTy.f32 v = Ideal.ofBits FTy.bf16 h := by
  have hs : v.extractLsb' (8 + 23) 1 = h.extractLsb' (8 + 7) 1 := by
    apply BitVec.eq_of_toNat_eq
    simp only [BitVec.extractLsb'_toNat, Nat.shiftRight_eq_div_pow, e]
    omega
  have hx : (v.extractLsb' 23 8).toNat = (h.extractLsb' 7 8).toNat := by
    simp only [BitVec.extractLsb'_toNat, Nat.shiftRight_eq_div_pow, e]
    omega
  have hf : (v.extractLsb' 0 23).toNat = (h.extractLsb' 0 7).toNat * 65536 := by
    simp only [BitVec.extractLsb'_toNat, Nat.shiftRight_eq_div_pow, e]
    omega
  show Ideal.ieee 8 23 v = Ideal.ieee 8 7 h
  unfold Ideal.ieee
  simp only [hs, hx, hf]
  generalize (h.extractLsb' 7 8).toNat = x
  generalize (h.extractLsb' 0 7).toNat = f
  generalize (h.extractLsb' (8 + 7) 1 == 1#1) = s
  have hz : (f * 65536 = 0) = (f = 0) := propext ⟨fun h => by omega, fun h => by omega⟩
  simp only [hz]
  have p : ∀ n : ℤ, (65536 : ℝ) * (2 : ℝ) ^ (n - 23) = (2 : ℝ) ^ (n - 7) := fun n => by
    rw [show n - 7 = 16 + (n - 23) by ring, zpow_add₀ (by norm_num)]
    norm_num
  have p0 : (2 : ℝ) ^ (-133 : ℤ) = 65536 * (2 : ℝ) ^ (-149 : ℤ) := by
    have := p (-126)
    norm_num at this ⊢
  split_ifs <;> first
    | rfl
    | (refine congrArg (fun r : ℝ => (r : EReal)) ?_
       push_cast
       first | rw [← p] | rw [p0]
       ring)

theorem low_word (w : BitVec 32) : Ideal.ofBits FTy.f32 (w <<< 16) = Ideal.ofBits FTy.bf16 (w.extractLsb' 0 16) :=
  widen _ _ (by simp only [BitVec.toNat_shiftLeft, BitVec.extractLsb'_toNat, Nat.shiftRight_eq_div_pow, Nat.shiftLeft_eq]; omega)

theorem high_word (w : BitVec 32) : Ideal.ofBits FTy.f32 (w &&& 0xFFFF0000#32) = Ideal.ofBits FTy.bf16 (w.extractLsb' 16 16) := by
  refine widen _ _ ?_
  have e : w &&& 0xFFFF0000#32 = (w >>> 16) <<< 16 := by
    apply BitVec.eq_of_getLsbD_eq
    intro i hi
    interval_cases i <;> simp
  have hw : w.toNat < 2 ^ 32 := w.isLt
  rw [e]
  simp only [BitVec.toNat_shiftLeft, BitVec.toNat_ushiftRight, BitVec.extractLsb'_toNat, Nat.shiftRight_eq_div_pow, Nat.shiftLeft_eq]
  omega

/-- The two ways a vector operation takes a word apart, as numbers. -/
theorem shifted (w : BitVec 32) : Ideal.ofBits FTy.f32 (IntOp.shli .vector w 16#32) = Ideal.ofBits FTy.bf16 (w.extractLsb' 0 16) :=
  low_word w

theorem masked (w : BitVec 32) : Ideal.ofBits FTy.f32 (IntOp.andi w 4294901760#32) = Ideal.ofBits FTy.bf16 (w.extractLsb' 16 16) :=
  high_word w

end Cert.Pairs
end
-- ==== Proof.Experts.Block.lean ====
/-
  What one grid point of the expert kernel leaves in its output block, read at an index: a used tile's rows through the
  expert's gated projections, a spare tile's zeros.
-/
module

public import proofs.«01_k».proof.Proof.Experts.Launch
public import proofs.«01_k».proof.Proof.Ffn.Row
public import proofs.«01_k».proof.Proof.Pairs
public import Idealize.ShloMosaic.Lib.Pointwise
public import Idealize.ShloMosaic.Lib.WholeRead
public import Idealize.ShloMosaic.Lib.Pipeline.Value
public import Idealize.ShloMosaic.Lib.Pipeline.ValueKit.Basic

@[expose] public section
set_option maxRecDepth 16384
noncomputable section
namespace Cert.Experts
open Idealize.ShloMosaic Idealize.ShloMosaic.TcCoe Cert.Kernel3Ideal Cert.Kernel3Ideal.Gen
open Cert.Ffn (Row dot gated)

local notation "𝔽" => Ideal

/-- A row through one expert: its gated hidden row, projected down. -/
def expertRow (x : Row 1024) (wg wu : Fin 1024 → Row 3584) (wd : Fin 3584 → Row 1024) : Row 1024 := dot (gated x wg wu) wd

/-- A load from a whole buffer held at the contents `X` reads `X` at the rectangle. -/
theorem load {sig : RefSig} {κ : Kind} {sp : Space} {s : Shape} {e : EltTy} {m : Memref sig κ sp s e} (h : m.IsWhole)
    (X : s.Idx → Elt 𝔽 e) (r : Rect s) : View.readAt (Elt 𝔽) m.view r.toLoadRect (h.unread X) = View.ld X r :=
  funext fun y => h.readAt_unread X _ y

section Run

variable (c : Dev nD) (i : grid0.Coords)
    (a3 : Memref sig .tc .vmem S512x512 .i32) (h3 : a3.IsWhole) (a4 : Memref sig .tc .vmem S1x1024x3584 .bf16) (h4 : a4.IsWhole)
    (a5 : Memref sig .tc .vmem S1x1024x3584 .bf16) (h5 : a5.IsWhole) (a6 : Memref sig .tc .vmem S1x3584x1024 .bf16) (h6 : a6.IsWhole)
    (a7 : Memref sig .tc .vmem S512x1024 .bf16) (h7 : a7.IsWhole) (a8 : Memref sig .tc .vmem S512x1024 .bf16) (h8 : a8.IsWhole)
    (a9 : Memref sig .tc .vmem S512x3584 .bf16) (h9 : a9.IsWhole)
    (T0 : S136.Idx → Elt 𝔽 .i32) (T1 : S1.Idx → Elt 𝔽 .i32)
    (x0 : Vec 𝔽 S512x512 .i32) (x1 x2 : Vec 𝔽 S1x1024x3584 .bf16) (x3 : Vec 𝔽 S1x3584x1024 .bf16)

/-- The rows a tile's words carry. -/
def unpacked : Vec 𝔽 S512x1024 .bf16 := fun y => Pairs.row (fun j => x0 (ix2 (y 0) j)) (y 1)

theorem low_at (v : Vec 𝔽 S512x512 .i32) (r j : Fin 512) : k0_pay4 v (ix2 r j) = unpacked v (ix2 r (Pairs.lower j)) := by
  refine Eq.trans ?_ (Pairs.row_lower (fun j => v (ix2 r j)) j).symm
  rw [← Pairs.shifted]
  pointwise [k0_pay4]

theorem high_at (v : Vec 𝔽 S512x512 .i32) (r j : Fin 512) : k0_pay5 v (ix2 r j) = unpacked v (ix2 r (Pairs.upper j)) := by
  refine Eq.trans ?_ (Pairs.row_upper (fun j => v (ix2 r j)) j).symm
  rw [← Pairs.masked]
  pointwise [k0_pay5]

/-- The copy of the row tile, written half by half, read back: the rows its words carry. -/
theorem copy_at (r : Fin 512) (k : Fin 1024) : runUsed.sl.v23 c a3 h3 a8 x0 (ix2 r k) = unpacked x0 (ix2 r k) := by
  unfold runUsed.sl.v23 runUsed.sl.H8_2
  simp only [load]
  rw [View.readCov_eq_canon']
  have he : ∀ (R : Rect S512x1024) (x : R.shape.Idx), R.emb x = R.toLoadRect.idx x := fun _ _ => rfl
  refine (View.canon_apply_of_pieces (Val := Elt 𝔽) (unpacked x0) _ ?_ _ ?_).trans ?_
  · simp only [List.forall_mem_cons]
    refine ⟨fun x => ?_, fun x => ?_, fun p hp => absurd hp List.not_mem_nil⟩
    · obtain ⟨a, b, rfl⟩ : ∃ (a : Fin 512) (b : Fin 512), x = ix2 a b := ⟨x 0, x 1, eq_ix2 x⟩
      refine (high_at _ a b).trans ?_
      unfold unpacked Pairs.upper
      simp only [he]
      pointwise
    · obtain ⟨a, b, rfl⟩ : ∃ (a : Fin 512) (b : Fin 512), x = ix2 a b := ⟨x 0, x 1, eq_ix2 x⟩
      refine (low_at _ a b).trans ?_
      unfold unpacked Pairs.lower
      simp only [he]
      pointwise
  · refine View.cover_of_tiledL (s := S512x1024) _ ![512, 512] ?_ _
    sl_kernel_rfl
  · pointwise

/-- The hidden activations, written 256 columns at a time, read back: the gated rows. -/
theorem hidden_at (r : Fin 512) (f : Fin 3584) :
    runUsed.sl.v233 c a3 h3 a4 h4 a5 h5 a8 a9 x0 x1 x2 (ix2 r f)
      = gated (Pairs.row fun j => x0 (ix2 r j)) (fun a f => x1 (ix3 0 a f)) (fun a f => x2 (ix3 0 a f)) f := by
  have hH : ∀ (r : Fin 512) (k : Fin 1024), runUsed.sl.v23 c a3 h3 a8 x0 (ix2 r k) = unpacked x0 (ix2 r k) := fun r k => copy_at ..
  unfold runUsed.sl.v233 runUsed.sl.H9_14
  simp only [load]
  rw [show runUsed.sl.v222 c a3 h3 a8 x0 = runUsed.sl.v23 c a3 h3 a8 x0 from rfl]
  generalize runUsed.sl.v23 c a3 h3 a8 x0 = H at hH ⊢
  rw [show (Pairs.row fun j => x0 (ix2 r j)) = fun k => H (ix2 r k) from funext fun k => (hH r k).symm]
  clear hH
  rw [View.readCov_eq_canon']
  have he : ∀ (R : Rect S512x3584) (x : R.shape.Idx), R.emb x = R.toLoadRect.idx x := fun _ _ => rfl
  refine (View.canon_apply_of_pieces (Val := Elt 𝔽) (fun y : S512x3584.Idx => gated (fun k => H (ix2 (y 0) k)) (fun a f => x1 (ix3 0 a f)) (fun a f => x2 (ix3 0 a f)) (y 1)) _ ?_ _ ?_).trans ?_
  · simp only [List.forall_mem_cons]
    refine ⟨?_, ?_, ?_, ?_, ?_, ?_, ?_, ?_, ?_, ?_, ?_, ?_, ?_, ?_, ?_⟩
    all_goals first
      | exact fun p hp => absurd hp List.not_mem_nil
      | (intro x
         obtain ⟨a, b, rfl⟩ : ∃ (a : Fin 512) (b : Fin 256), x = ix2 a b := ⟨x 0, x 1, eq_ix2 x⟩
         simp only [he]
         unfold gated dot
         pointwise [k0_pay1, k0_pay6, k0_pay7, k0_pay8, k0_pay9, k0_pay10, k0_pay11, k0_pay12, k0_pay13, k0_pay14, k0_pay15, k0_pay16, k0_pay17, k0_pay18])
  · refine View.cover_of_tiledL (s := S512x3584) _ ![512, 256] ?_ _
    sl_kernel_rfl
  · unfold gated dot
    pointwise

theorem down_at (h : Vec 𝔽 S512x3584 .bf16) (w : Vec 𝔽 S1x3584x1024 .bf16) (r : Fin 512) (k : Fin 1024) :
    k0_pay2 h w (ix2 r k) = dot (fun f => h (ix2 r f)) (fun f k => w (ix3 0 f k)) k := by
  unfold dot
  pointwise [k0_pay2]

/-- A used tile's block. -/
theorem used_at (hy : k0_cond1 i (word T1) = 1#1) (hn : ¬ k0_cond2 i (word T1) = 1#1) (r : Fin 512) (k : Fin 1024) :
    outUsed c i a3 h3 a4 h4 a5 h5 a6 h6 a7 h7 a8 h8 a9 h9 T0 T1 x0 x1 x2 x3 hy hn (ix2 r k)
      = expertRow (Pairs.row fun j => x0 (ix2 r j)) (fun a f => x1 (ix3 0 a f)) (fun a f => x2 (ix3 0 a f)) (fun f k => x3 (ix3 0 f k)) k := by
  unfold outUsed runUsed
  dsimp only
  rw [View.read_writes_junk_eq_canon, View.canon_unit_zero (by decide)]
  simp only [load]
  rw [down_at]
  unfold expertRow dot
  refine Finset.sum_congr rfl fun f _ => congrArg₂ (· * ·) (hidden_at ..) ?_
  pointwise

/-- A spare tile's block. -/
theorem spare_at (hy : ¬ k0_cond1 i (word T1) = 1#1) (hn : k0_cond2 i (word T1) = 1#1) (r : Fin 512) (k : Fin 1024) :
    outSpare c i a3 h3 a4 h4 a5 h5 a6 h6 a7 h7 a8 h8 a9 h9 T1 hy hn (ix2 r k) = 0 := by
  unfold outSpare runSpare
  dsimp only
  rw [View.read_writes_junk_eq_canon, View.canon_unit_zero (by decide)]
  pointwise [k0_pay3]

end Run

end Cert.Experts
end
-- ==== Proof.Experts.Ref.lean ====
/-
  The expert reference's result, read at an index: a used tile's row through the expert its tile names, a spare tile's zero.
-/
module

public import proofs.«01_k».proof.Proof.Gen.Reference3Ideal.Read
public import proofs.«01_k».proof.Proof.Experts.Block
public import Idealize.ShloMosaic.Lib.BitcastConvert

@[expose] public section
set_option maxRecDepth 16384
noncomputable section
namespace Cert.Experts.Ref
open Idealize.ShloMosaic Idealize.ShloMosaic.TcCoe Cert.Reference3Ideal Cert.Reference3Ideal.Read
open Cert.Ffn (Row dot gated)

local notation "𝔽" => Ideal

/-! ## One matrix per tile, picked out of the experts' -/

/-- Picking whole matrices by number, read at an index: the matrix the tile's word names. -/
theorem pick_at {α : Type} {N M : ℕ}
    (wf : GatherDims.WF ⟨3, ![8, N, M]⟩ ⟨2, ![136, 1]⟩ ⟨3, ![136, N, M]⟩ [1, 2] [0] [] [0] [] 1 ![1, N, M])
    (X : (⟨3, ![8, N, M]⟩ : Shape).Idx → α) (I : IVec ⟨2, ![136, 1]⟩ 32) (t : Fin 136) (a : Fin N) (f : Fin M) (e : Fin 8)
    (he : (I (ix2 t (0 : Fin 1))).toInt = (e.val : Int)) :
    Host.gather (⟨[1, 2], [0], [], [], [0], 1, ![1, N, M], wf⟩ : GatherDims ⟨3, ![8, N, M]⟩ ⟨2, ![136, 1]⟩ ⟨3, ![136, N, M]⟩) X I (ix3 t a f)
      = X (ix3 e a f) := by
  unfold Host.gather
  generalize hd : (⟨[1, 2], [0], [], [], [0], 1, ![1, N, M], wf⟩ : GatherDims ⟨3, ![8, N, M]⟩ ⟨2, ![136, 1]⟩ ⟨3, ![136, N, M]⟩) = d
  congr 1
  funext b
  refine Fin.ext ?_
  show d.start (ix3 t a f) I b + d.batchCoord (ix3 t a f) b + d.offCoord (ix3 t a f) b = _
  rw [GatherDims.batchCoord_eq_zero _ _ _ (by subst hd; exact List.not_mem_nil)]
  subst hd
  have outside : ∀ b : Fin 3, b ∉ [(0 : Fin 3)] → GatherDims.start (⟨[1, 2], [0], [], [], [0], 1, ![1, N, M], wf⟩ : GatherDims ⟨3, ![8, N, M]⟩ ⟨2, ![136, 1]⟩ ⟨3, ![136, N, M]⟩) (ix3 t a f) I b = 0 :=
    fun b hb => by unfold GatherDims.start; exact dif_neg hb
  have hb : b = (0 : Fin 3) ∨ b = (1 : Fin 3) ∨ b = (2 : Fin 3) := by
    match b with
    | ⟨0, _⟩ => exact Or.inl rfl
    | ⟨1, _⟩ => exact Or.inr (Or.inl rfl)
    | ⟨2, _⟩ => exact Or.inr (Or.inr rfl)
  rcases hb with rfl | rfl | rfl
  · rw [GatherDims.offCoord_eq_zero _ _ _ (fun h => ((GatherDims.mem_sKept _ _).mp h).1 (List.mem_singleton.mpr rfl))]
    have hs : ∀ q, GatherDims.siIdx (⟨[1, 2], [0], [], [], [0], 1, ![1, N, M], wf⟩ : GatherDims ⟨3, ![8, N, M]⟩ ⟨2, ![136, 1]⟩ ⟨3, ![136, N, M]⟩)
        (ix3 t a f) ⟨0, q⟩ = ix2 t (0 : Fin 1) := by
      intro q
      funext c; refine Fin.ext ?_
      match c with
      | ⟨0, _⟩ => rfl
      | ⟨1, _⟩ => rfl
    have h0 : GatherDims.start (⟨[1, 2], [0], [], [], [0], 1, ![1, N, M], wf⟩ : GatherDims ⟨3, ![8, N, M]⟩ ⟨2, ![136, 1]⟩ ⟨3, ![136, N, M]⟩)
        (ix3 t a f) I (0 : Fin 3) = min (I (ix2 t (0 : Fin 1))).toInt.toNat 7 := by
      unfold GatherDims.start
      refine (dif_pos (List.mem_singleton.mpr rfl)).trans ?_
      exact congrArg (fun j => min (I j).toInt.toNat 7) (hs _)
    have := e.isLt
    have hv : ((ix3 e a f : (⟨3, ![8, N, M]⟩ : Shape).Idx) (0 : Fin 3)).val = e.val := rfl
    rw [h0, he, hv]
    omega
  · rw [outside (1 : Fin 3) (by decide), Nat.add_zero, Nat.zero_add]
    rfl
  · rw [outside (2 : Fin 3) (by decide), Nat.add_zero, Nat.zero_add]
    rfl

/-- An expert's number as the reference indexes with it: itself, not being negative. -/
theorem number (v : BitVec 32) (h : v.toNat < 8) :
    (Scalar.select (IntOp.cmpi .slt v 0#32) (IntOp.addi v 8#32) v).toInt = (v.toNat : Int) := by
  have h3 : v.slt 0#32 = false := by
    rw [BitVec.slt_eq_decide, decide_eq_false_iff_not, BitVec.toInt_eq_toNat_cond]
    simp; omega
  rw [show IntOp.cmpi .slt v 0#32 = 0#1 by unfold IntOp.cmpi; simp [h3]]
  show v.toInt = _
  rw [BitVec.toInt_eq_toNat_cond]; omega

variable (x0 : IVec S69632x512 32) (x1 : IVec S136 32) (x2 : IVec S1 32) (x3 x4 : FVec 𝔽 S8x1024x3584 .bf16)
  (x5 : FVec 𝔽 S8x3584x1024 .bf16)

/-- The expert of a tile. -/
def expertOf (h : ∀ j, (x1 j).toNat < 8) (t : Fin 136) : Fin 8 := ⟨(x1 (ix1 t)).toNat, h _⟩
/-- The row of the array a tile's row is. -/
def rowOf (t : Fin 136) (r : Fin 512) : Fin 69632 := ⟨t.val * 512 + r.val, by omega⟩

variable (h : ∀ j, (x1 j).toNat < 8)

theorem bcast_tile (y : IVec S136 32) (t : Fin 136) : broadcastInDim S136x1 ![0] Gen.bcast_S136_S136x1_0 y (ix2 t (0 : Fin 1)) = y (ix1 t) := by
  refine congrArg y ?_
  funext a; apply Fin.ext; rw [Fin.eq_zero a]; rfl

theorem v14_at (t : Fin 136) : (val_main_v14 (F := 𝔽) x1 (ix2 t (0 : Fin 1))).toInt = ((expertOf x1 h t).val : Int) :=
  (congrArg BitVec.toInt (bcast_tile _ t)).trans (number (x1 (ix1 t)) (h _))
theorem v23_at (t : Fin 136) : (val_main_v23 (F := 𝔽) x1 (ix2 t (0 : Fin 1))).toInt = ((expertOf x1 h t).val : Int) :=
  (congrArg BitVec.toInt (bcast_tile _ t)).trans (number (x1 (ix1 t)) (h _))
theorem v34_at (t : Fin 136) : (val_main_v34 (F := 𝔽) x1 (ix2 t (0 : Fin 1))).toInt = ((expertOf x1 h t).val : Int) :=
  (congrArg BitVec.toInt (bcast_tile _ t)).trans (number (x1 (ix1 t)) (h _))

theorem v15_at (t : Fin 136) (a : Fin 1024) (f : Fin 3584) : val_main_v15 (F := 𝔽) x1 x3 (ix3 t a f) = x3 (ix3 (expertOf x1 h t) a f) :=
  pick_at Gen.gather_S8x1024x3584_S136x1_S136x1024x3584_12_0_n_n_0_1_110243584_wf (val_main_v8 (F := 𝔽) x3) (val_main_v14 (F := 𝔽) x1) t a f _ (v14_at x1 h t)
theorem v24_at (t : Fin 136) (a : Fin 1024) (f : Fin 3584) : val_main_v24 (F := 𝔽) x1 x4 (ix3 t a f) = x4 (ix3 (expertOf x1 h t) a f) :=
  pick_at Gen.gather_S8x1024x3584_S136x1_S136x1024x3584_12_0_n_n_0_1_110243584_wf (val_main_v17 (F := 𝔽) x4) (val_main_v23 (F := 𝔽) x1) t a f _ (v23_at x1 h t)
theorem v35_at (t : Fin 136) (f : Fin 3584) (k : Fin 1024) : val_main_v35 (F := 𝔽) x1 x5 (ix3 t f k) = x5 (ix3 (expertOf x1 h t) f k) :=
  pick_at Gen.gather_S8x3584x1024_S136x1_S136x3584x1024_12_0_n_n_0_1_135841024_wf (val_main_v28 (F := 𝔽) x5) (val_main_v34 (F := 𝔽) x1) t f k _ (v34_at x1 h t)

/-! ## The tiles' rows -/

/-- Both parts of a word are read from that word. -/
theorem drop_at (i : Fin 69632) (j : Fin 512) (q : Fin 2) : Gen.splits_S69632x512_w32_S69632x512x2_w16.drop (ix3 i j q) = (ix2 i j : S69632x512.Idx) := by
  funext d
  fin_cases d <;> rfl

/-- The rows the words of the array carry. -/
theorem v5_at (i : Fin 69632) (k : Fin 1024) : val_main_v5 (F := 𝔽) x0 (ix2 i k) = Pairs.row (fun j => x0 (ix2 i j)) k := by
  rcases Pairs.halves k with ⟨j, rfl⟩ | ⟨j, rfl⟩
  · rw [Pairs.row_lower]
    unfold Pairs.lower
    pointwise [val_main_v5, val_main_v4, val_main_v3, val_main_v2, val_main_v1, val_main_v0]
    rw [drop_at]
  · rw [Pairs.row_upper]
    unfold Pairs.upper
    pointwise [val_main_v5, val_main_v4, val_main_v3, val_main_v2, val_main_v1, val_main_v0]
    rw [drop_at]

theorem v7_at (t : Fin 136) (r : Fin 512) (k : Fin 1024) :
    val_main_v7 (F := 𝔽) x0 (ix3 t r k) = Pairs.row (fun j => x0 (ix2 (rowOf t r) j)) k := by
  rw [← v5_at]
  unfold val_main_v7 val_main_v6 rowOf
  generalize val_main_v5 (F := 𝔽) x0 = y
  pointwise

theorem up_at (A : FVec 𝔽 S136x512x1024 .f32) (W : FVec 𝔽 S136x1024x3584 .f32) (t : Fin 136) (r : Fin 512) (f : Fin 3584) :
    Host.dotGeneral dot_S136x512x1024_S136x1024x3584_S136x512x3584_2_1_1_2_0_0 none A W (ix3 t r f)
      = dot (fun k => A (ix3 t r k)) (fun a f => W (ix3 t a f)) f := by
  unfold dot
  pointwise

theorem down_at (A : FVec 𝔽 S136x512x3584 .f32) (W : FVec 𝔽 S136x3584x1024 .f32) (t : Fin 136) (r : Fin 512) (k : Fin 1024) :
    Host.dotGeneral dot_S136x512x3584_S136x3584x1024_S136x512x1024_2_1_1_2_0_0 none A W (ix3 t r k)
      = dot (fun f => A (ix3 t r f)) (fun f k => W (ix3 t f k)) k := by
  unfold dot
  pointwise

/-- The gate, `x / (1 + exp (-x))` as the reference writes it, of an array `G`. -/
def silu (G : FVec 𝔽 S136x512x3584 .f32) : FVec 𝔽 S136x512x3584 .f32 :=
  mulf G (Host.divf (broadcastInDim S136x512x3584 ![] Gen.bcast_S_S136x512x3584 (constant S_ FTy.f32 0x3F800000#32))
    (addf (broadcastInDim S136x512x3584 ![] Gen.bcast_S_S136x512x3584 (constant S_ FTy.f32 0x3F800000#32)) (Host.exp (Host.negf G))))

theorem silu_at (G : FVec 𝔽 S136x512x3584 .f32) (t : Fin 136) (r : Fin 512) (f : Fin 3584) :
    silu G (ix3 t r f) = G (ix3 t r f) * Ideal.logistic (G (ix3 t r f)) := by
  unfold Ideal.logistic
  pointwise [silu]

theorem v26_eq : val_main_v26 (F := 𝔽) x0 x1 x3 = silu (val_main_v16 (F := 𝔽) x0 x1 x3) := by
  unfold val_main_v26 val_main_call0_v5 val_main_call0_v4 val_main_call0_v3 val_main_call0_v2 val_main_call0_v1 val_main_call0_v0 val_main_call0_cst val_main_call0_cst_0 silu
  rfl

theorem v16_at (t : Fin 136) (r : Fin 512) (f : Fin 3584) :
    val_main_v16 (F := 𝔽) x0 x1 x3 (ix3 t r f) = dot (Pairs.row fun j => x0 (ix2 (rowOf t r) j)) (fun a f => x3 (ix3 (expertOf x1 h t) a f)) f := by
  unfold val_main_v16
  rw [up_at, funext (v7_at x0 t r), show (fun a f => val_main_v15 (F := 𝔽) x1 x3 (ix3 t a f)) = _ from funext fun a => funext fun f => v15_at x1 x3 h t a f]

theorem v25_at (t : Fin 136) (r : Fin 512) (f : Fin 3584) :
    val_main_v25 (F := 𝔽) x0 x1 x4 (ix3 t r f) = dot (Pairs.row fun j => x0 (ix2 (rowOf t r) j)) (fun a f => x4 (ix3 (expertOf x1 h t) a f)) f := by
  unfold val_main_v25
  rw [up_at, funext (v7_at x0 t r), show (fun a f => val_main_v24 (F := 𝔽) x1 x4 (ix3 t a f)) = _ from funext fun a => funext fun f => v24_at x1 x4 h t a f]

theorem v27_at (t : Fin 136) (r : Fin 512) (f : Fin 3584) :
    val_main_v27 (F := 𝔽) x0 x1 x3 x4 (ix3 t r f)
      = gated (Pairs.row fun j => x0 (ix2 (rowOf t r) j)) (fun a f => x3 (ix3 (expertOf x1 h t) a f)) (fun a f => x4 (ix3 (expertOf x1 h t) a f)) f := by
  unfold val_main_v27
  rw [v26_eq]
  show silu (val_main_v16 (F := 𝔽) x0 x1 x3) (ix3 t r f) * val_main_v25 (F := 𝔽) x0 x1 x4 (ix3 t r f) = _
  rw [silu_at, v16_at x0 x1 x3 h, v25_at x0 x1 x4 h]
  rfl

theorem v36_at (t : Fin 136) (r : Fin 512) (k : Fin 1024) :
    val_main_v36 (F := 𝔽) x0 x1 x3 x4 x5 (ix3 t r k)
      = expertRow (Pairs.row fun j => x0 (ix2 (rowOf t r) j)) (fun a f => x3 (ix3 (expertOf x1 h t) a f)) (fun a f => x4 (ix3 (expertOf x1 h t) a f))
          (fun f k => x5 (ix3 (expertOf x1 h t) f k)) k := by
  unfold val_main_v36 expertRow
  rw [down_at, funext (v27_at x0 x1 x3 x4 h t r),
    show (fun f k => val_main_v35 (F := 𝔽) x1 x5 (ix3 t f k)) = _ from funext fun f => funext fun k => v35_at x1 x5 h t f k]

/-! ## The result -/

theorem used_flag (t : Fin 136) (r : Fin 512) (k : Fin 1024) :
    val_main_call1_v1 (F := 𝔽) x2 (ix3 t r k) = IntOp.cmpi .slt (BitVec.ofNat 32 t.val) (x2 (ix1 0)) := by
  pointwise [val_main_call1_v1, val_main_v41, val_main_v40, val_main_v39, val_main_v38, val_main_v37]

theorem zero_at (t : Fin 136) (r : Fin 512) (k : Fin 1024) : val_main_call1_v2 (F := 𝔽) (ix3 t r k) = 0 := by
  pointwise [val_main_call1_v2, val_main_call1_v0, val_main_cst, id]

theorem v42_at (t : Fin 136) (r : Fin 512) (k : Fin 1024) :
    val_main_v42 (F := 𝔽) x0 x1 x2 x3 x4 x5 (ix3 t r k)
      = if IntOp.cmpi .slt (BitVec.ofNat 32 t.val) (x2 (ix1 0)) = 1#1 then
          expertRow (Pairs.row fun j => x0 (ix2 (rowOf t r) j)) (fun a f => x3 (ix3 (expertOf x1 h t) a f)) (fun a f => x4 (ix3 (expertOf x1 h t) a f))
            (fun f k => x5 (ix3 (expertOf x1 h t) f k)) k
        else 0 := by
  unfold val_main_v42
  show Scalar.select (val_main_call1_v1 (F := 𝔽) x2 (ix3 t r k)) (val_main_v36 (F := 𝔽) x0 x1 x3 x4 x5 (ix3 t r k)) (val_main_call1_v2 (F := 𝔽) (ix3 t r k)) = _
  rw [used_flag, v36_at x0 x1 x3 x4 x5 h, zero_at]
  rfl

theorem flat_at (Y : FVec 𝔽 S136x512x1024 .f32) (t : Fin 136) (r : Fin 512) (k : Fin 1024) :
    truncf .bf16 (shapeCast S69632x1024 Y Gen.shapeCasts_S136x512x1024_S69632x1024) Gen.bitsLt_bf16_f32 (ix2 (rowOf t r) k) = Y (ix3 t r k) := by
  unfold rowOf
  pointwise

theorem v44_at (t : Fin 136) (r : Fin 512) (k : Fin 1024) :
    val_main_v44 (F := 𝔽) x0 x1 x2 x3 x4 x5 (ix2 (rowOf t r) k)
      = if IntOp.cmpi .slt (BitVec.ofNat 32 t.val) (x2 (ix1 0)) = 1#1 then
          expertRow (Pairs.row fun j => x0 (ix2 (rowOf t r) j)) (fun a f => x3 (ix3 (expertOf x1 h t) a f)) (fun a f => x4 (ix3 (expertOf x1 h t) a f))
            (fun f k => x5 (ix3 (expertOf x1 h t) f k)) k
        else 0 := by
  unfold val_main_v44 val_main_v43
  exact (flat_at _ t r k).trans (v42_at x0 x1 x2 x3 x4 x5 h t r k)

end Cert.Experts.Ref
end
-- ==== Proof.Experts.Arrays.lean ====
/-
  The expert kernel's result after its run: every tile's block at its place in the array.
-/
module

public import proofs.«01_k».proof.Proof.Experts.Block
public import proofs.«01_k».proof.Proof.Experts.Ref
public import proofs.«01_k».proof.Proof.Gen.Pre_experts_exist
public import proofs.«01_k».proof.Proof.Words
public import Idealize.ShloMosaic.Lib.Pipeline.ValueKit

@[expose] public section
set_option maxRecDepth 16384
noncomputable section
namespace Cert.Experts
open Idealize.ShloMosaic Idealize.ShloMosaic.TcCoe Cert.Kernel3Ideal Cert.Kernel3Ideal.Gen

section Tables
variable {F : FTy → Type} [FloatOps F]
variable (m : (ℓ : Loc nD τ sig) → Buf (Elt F) ℓ)

/-- The expert a grid point's index maps read. -/
theorem te_at (i : grid0.Coords) :
    (tbl m).at 0 (Rect.unit (s := S136) ![(Scalar.indexCast (BitVec.ofNat 32 (i 0).val) : Index).toNat] S1.size (k0_off1_inb i)) numel1_S1
      = m (((0 : Dev nD).tc : Thread nD τ).loc main_arg1) (ix1 (i 0)) := by
  refine congrArg (m (((0 : Dev nD).tc : Thread nD τ).loc main_arg1)) (funext fun a => Fin.ext ?_)
  have hi : (i 0).val < 136 := (i 0).isLt
  match a with
  | ⟨0, _⟩ =>
    show (BitVec.ofNat 32 (i 0).val).toNat + 1 * 0 = (i 0).val
    rw [BitVec.toNat_ofNat]
    omega

theorem t1_at (i : grid0.Coords) : cc0_transform_1 k0_off1_inb numel1_S1 (tbl m) i = ![(m (((0 : Dev nD).tc : Thread nD τ).loc main_arg1) (ix1 (i 0))).toNat, 0, 0] := by
  rw [← te_at m i]; rfl
theorem t2_at (i : grid0.Coords) : cc0_transform_2 k0_off1_inb numel1_S1 (tbl m) i = ![(m (((0 : Dev nD).tc : Thread nD τ).loc main_arg1) (ix1 (i 0))).toNat, 0, 0] := by
  rw [← te_at m i]; rfl
theorem t3_at (i : grid0.Coords) : cc0_transform_3 k0_off1_inb numel1_S1 (tbl m) i = ![(m (((0 : Dev nD).tc : Thread nD τ).loc main_arg1) (ix1 (i 0))).toNat, 0, 0] := by
  rw [← te_at m i]; rfl

theorem ok_of_lt (h : ∀ j : S136.Idx, (m (((0 : Dev nD).tc : Thread nD τ).loc main_arg1) j).toNat < 8) : Ok m := by
  refine ⟨fun i => ?_, fun i => ?_, fun i => ?_⟩
  · refine ⟨fun a => ?_, .inr (Affine.block_words_dvd (of_decide_eq_true rfl) (by decide))⟩
    have := h (ix1 (i 0))
    rw [t1_at]
    generalize (m (((0 : Dev nD).tc : Thread nD τ).loc main_arg1) (ix1 (i 0))).toNat = n at this ⊢
    fin_cases a <;> simp <;> omega
  · refine ⟨fun a => ?_, .inr (Affine.block_words_dvd (of_decide_eq_true rfl) (by decide))⟩
    have := h (ix1 (i 0))
    rw [t2_at]
    generalize (m (((0 : Dev nD).tc : Thread nD τ).loc main_arg1) (ix1 (i 0))).toNat = n at this ⊢
    fin_cases a <;> simp <;> omega
  · refine ⟨fun a => ?_, .inr (Affine.block_words_dvd (of_decide_eq_true rfl) (by decide))⟩
    have := h (ix1 (i 0))
    rw [t3_at]
    generalize (m (((0 : Dev nD).tc : Thread nD τ).loc main_arg1) (ix1 (i 0))).toNat = n at this ⊢
    fin_cases a <;> simp <;> omega

/-- An expert's number, by the precondition's two comparisons. -/
theorem exists_word (v : BitVec 32) (e : IntOp.andi (IntOp.cmpi .sge v 0#32) (IntOp.cmpi .slt v 8#32) = 1#1) : v.toNat < 8 := by
  simp only [IntOp.cmpi, Cert.Slots.andi_ofBool, Cert.Slots.ofBool_eq_one, Bool.and_eq_true, BitVec.sle_eq_decide, BitVec.slt_eq_decide, decide_eq_true_eq,
    BitVec.toInt_eq_toNat_cond, BitVec.toNat_ofNat, Nat.reducePow, Nat.reduceMod] at e
  omega

/-- The precondition bounds every tile's expert, over any float values. -/
theorem expert_lt {a0 : IVec Cert.Pre_experts_exist.S69632x512 32} {a1 : IVec Cert.Pre_experts_exist.S136 32} {a2 : IVec Cert.Pre_experts_exist.S1 32}
    {a3 a4 : FVec F Cert.Pre_experts_exist.S8x1024x3584 .bf16} {a5 : FVec F Cert.Pre_experts_exist.S8x3584x1024 .bf16}
    (h : Cert.Pre_experts_exist.fn (F := F) a0 a1 a2 a3 a4 a5 = fun _ => 1#1) (j : Cert.Pre_experts_exist.S136.Idx) : (a1 j).toNat < 8 := by
  have e := congrFun h j
  simp only [Cert.Pre_experts_exist.fn, andi, cmpi, broadcastInDim, constantI] at e
  exact exists_word _ e
end Tables

local notation "𝔽" => Ideal
variable (m : (ℓ : Loc nD τ sig) → Buf (Elt 𝔽) ℓ) (hT : ∀ j : S136.Idx, (m (((0 : Dev nD).tc : Thread nD τ).loc main_arg1) j).toNat < 8) (c : Dev nD)

theorem coord : ∀ t : Fin grid0.N, (grid0.coords t 0).val = t.val := by decide +kernel

/-- The tile of a grid point. -/
def tileOf (t : Fin grid0.N) : Fin 136 := ⟨t.val, t.isLt⟩

theorem coord_eq (t : Fin grid0.N) : grid0.coords t 0 = tileOf t := Fin.ext (coord t)

abbrev ex (t : Fin grid0.N) : Fin 8 := Ref.expertOf (m (((0 : Dev nD).tc : Thread nD τ).loc main_arg1)) hT (tileOf t)

theorem i0 (t : Fin grid0.N) : ((cfgM m (ok_of_lt m hT)).win 0).index t = ![t.val, 0] :=
  (by decide +kernel : ∀ t : Fin grid0.N, cc0_transform_0 (grid0.coords t) = ![t.val, 0]) t
theorem i4 (t : Fin grid0.N) : ((cfgM m (ok_of_lt m hT)).win 4).index t = ![t.val, 0] :=
  (by decide +kernel : ∀ t : Fin grid0.N, cc0_transform_4 (grid0.coords t) = ![t.val, 0]) t
theorem i1 (t : Fin grid0.N) : ((cfgM m (ok_of_lt m hT)).win 1).index t = ![(ex m hT t).val, 0, 0] := by
  refine (t1_at m (grid0.coords t)).trans ?_
  rw [coord_eq]; rfl
theorem i2 (t : Fin grid0.N) : ((cfgM m (ok_of_lt m hT)).win 2).index t = ![(ex m hT t).val, 0, 0] := by
  refine (t2_at m (grid0.coords t)).trans ?_
  rw [coord_eq]; rfl
theorem i3 (t : Fin grid0.N) : ((cfgM m (ok_of_lt m hT)).win 3).index t = ![(ex m hT t).val, 0, 0] := by
  refine (t3_at m (grid0.coords t)).trans ?_
  rw [coord_eq]; rfl

theorem b0 (t : Fin grid0.N) (r k : Fin 512) :
    iblk m (ok_of_lt m hT) c 0 t (ix2 r k) = m ((c.tc : Thread nD τ).loc main_arg0) (ix2 (Ref.rowOf (tileOf t) r) k) := by
  unfold Ref.rowOf tileOf
  blk_ext [iblk, V, i0 m hT t]
theorem b1 (t : Fin grid0.N) (a : Fin 1024) (f : Fin 3584) :
    iblk m (ok_of_lt m hT) c 1 t (ix3 0 a f) = m ((c.tc : Thread nD τ).loc main_arg3) (ix3 (ex m hT t) a f) := by
  blk_ext [iblk, V, i1 m hT t]
theorem b2 (t : Fin grid0.N) (a : Fin 1024) (f : Fin 3584) :
    iblk m (ok_of_lt m hT) c 2 t (ix3 0 a f) = m ((c.tc : Thread nD τ).loc main_arg4) (ix3 (ex m hT t) a f) := by
  blk_ext [iblk, V, i2 m hT t]
theorem b3 (t : Fin grid0.N) (f : Fin 3584) (k : Fin 1024) :
    iblk m (ok_of_lt m hT) c 3 t (ix3 0 f k) = m ((c.tc : Thread nD τ).loc main_arg5) (ix3 (ex m hT t) f k) := by
  blk_ext [iblk, V, i3 m hT t]

theorem at_index (t : Fin grid0.N) (y : (((cfgM m (ok_of_lt m hT)).win 4).xblock ((cfgM m (ok_of_lt m hT)).grid.coords t)).Idx) :
    ∃ (r : Fin 512) (k : Fin 1024), ((cfgM m (ok_of_lt m hT)).win 4).xinj ((cfgM m (ok_of_lt m hT)).grid.coords t) y = (ix2 r k : S512x1024.Idx)
      ∧ (((cfgM m (ok_of_lt m hT)).win 4).blk t).view.emb y = (ix2 (Ref.rowOf (tileOf t) r) k : S69632x1024.Idx) := by
  refine ⟨y (0 : Fin 2), y (1 : Fin 2), ?_, ?_⟩
  · blk_ext [i4 m hT t]
  · unfold Ref.rowOf tileOf
    blk_ext [i4 m hT t]

/-- The number of tiles in use, as the body reads it. -/
theorem word_eq : word (tbl m 1) = m (((0 : Dev nD).tc : Thread nD τ).loc main_arg2) (ix1 0) := by
  refine congrArg (m (((0 : Dev nD).tc : Thread nD τ).loc main_arg2)) (funext fun a => Fin.ext ?_)
  match a with
  | ⟨0, _⟩ => rfl

theorem cond1_iff (i : grid0.Coords) (v : BitVec 32) : k0_cond1 i v = 1#1 ↔ IntOp.cmpi .slt (BitVec.ofNat 32 (i 0).val) v = 1#1 := by
  unfold k0_cond1
  generalize (BitVec.ofNat 32 (i 0).val : BitVec 32) = a
  by_cases h : BitVec.slt a v = true <;> simp [Scalar.cmpi, Scalar.extui, IntOp.cmpi, h]

/-- The reference's result over the launch's arguments. -/
abbrev want := Cert.Reference3Ideal.Read.val_main_v44 (F := 𝔽) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

theorem expertRow_congr {x x' : Cert.Ffn.Row 1024} {g g' u u' : Fin 1024 → Cert.Ffn.Row 3584} {d d' : Fin 3584 → Cert.Ffn.Row 1024}
    (hx : x = x') (hg : g = g') (hu : u = u') (hd : d = d') (k : Fin 1024) : expertRow x g u d k = expertRow x' g' u' d' k := by
  rw [hx, hg, hu, hd]

/-- A grid point's block is the reference's rows of its tile. -/
theorem rows (t : Fin grid0.N) (r : Fin 512) (k : Fin 1024) :
    outAt m (ok_of_lt m hT) c t (ix2 r k) = want m c (ix2 (Ref.rowOf (tileOf t) r) k) := by
  obtain rfl : c = 0 := Subsingleton.elim _ _
  refine Eq.trans ?_ (Ref.v44_at _ _ _ _ _ _ hT (tileOf t) r k).symm
  have hw : (k0_cond1 (grid0.coords t) (word (tbl m 1)) = 1#1) ↔ IntOp.cmpi .slt (BitVec.ofNat 32 (tileOf t).val) (m (((0 : Dev nD).tc : Thread nD τ).loc main_arg2) (ix1 0)) = 1#1 := by
    rw [cond1_iff, word_eq, coord_eq]
  unfold outAt
  by_cases h : k0_cond1 (grid0.coords t) (word (tbl m 1)) = 1#1 ∧ ¬ k0_cond2 (grid0.coords t) (word (tbl m 1)) = 1#1
  · rw [dif_pos h, if_pos (hw.mp h.1)]
    refine (used_at ..).trans ?_
    exact expertRow_congr (congrArg Pairs.row (funext fun k => b0 m hT 0 t r k)) (funext fun a => funext fun f => b1 m hT 0 t a f)
      (funext fun a => funext fun f => b2 m hT 0 t a f) (funext fun f => funext fun k => b3 m hT 0 t f k) k
  · rw [dif_neg h, if_neg (fun e => ((conds (grid0.coords t) (word (tbl m 1))).resolve_left h).1 (hw.mpr e))]
    exact spare_at ..

/-- Every grid point writes its block back. -/
theorem flushes (t : Fin grid0.N) : ((cfgM m (ok_of_lt m hT)).win 4).flush t = true := by
  unfold Pipeline.Window.flush
  by_cases hl : t.val + 1 = grid0.N
  · simp [hl]; rfl
  · have ht := t.isLt
    have hne : ∃ h : t.val + 1 < grid0.N, ((cfgM m (ok_of_lt m hT)).win 4).index ⟨t.val + 1, h⟩ ≠ ((cfgM m (ok_of_lt m hT)).win 4).index t := by
      refine ⟨by omega, ?_⟩
      rw [i4 m hT, i4 m hT]
      intro e
      have := congrFun e (0 : Fin 2)
      simp at this
    rw [decide_eq_true hne, Bool.or_true, Bool.and_true]
    rfl

theorem rows_blocks : ((cfgM m (ok_of_lt m hT)).win 4).nblk (0 : Fin 2) = grid0.N := by
  show (69632 + 512 - 1) / 512 = grid0.N
  decide +kernel
theorem cols_blocks : ((cfgM m (ok_of_lt m hT)).win 4).nblk (1 : Fin 2) = 1 := by
  show (1024 + 1024 - 1) / 1024 = 1
  decide

theorem covers : ((cfgM m (ok_of_lt m hT)).win 4).Covers := by
  refine ⟨fun a => ?_, fun β => ⟨⟨(β (0 : Fin 2)).val, lt_of_lt_of_eq (β (0 : Fin 2)).isLt (rows_blocks m hT)⟩, flushes m hT _, fun a => ⟨?_, ?_⟩⟩⟩
  · match a with
    | ⟨0, _⟩ => exact Nat.lt_of_sub_eq_succ rfl
    | ⟨1, _⟩ => exact Nat.lt_of_sub_eq_succ rfl
  · rw [i4 m hT]
    match a with
    | ⟨0, _⟩ => rfl
    | ⟨1, _⟩ =>
      have h1 : (β (1 : Fin 2)).val < 1 := lt_of_lt_of_eq (β (1 : Fin 2)).isLt (cols_blocks m hT)
      show 0 = (β (1 : Fin 2)).val
      omega
  · left
    match a with
    | ⟨0, _⟩ => rfl
    | ⟨1, _⟩ => rfl

theorem result : (dats m (ok_of_lt m hT) 0 c).arrAt 4 grid0.N = want m c := by
  refine (dats m (ok_of_lt m hT) 0 c).arrAt_eq_of_covers 4 _ (covers m hT) fun t hf y => ?_
  rw [after_4]
  obtain ⟨r, k, hy, he⟩ := at_index m hT t y
  rw [hy, he]
  exact (cast_eq _ _).trans (rows m hT c t r k)

end Cert.Experts
end
-- ==== Proof.Experts.Claims.lean ====
/- The claims about the experts: the kernel's output array is the reference's. -/
module

public import proofs.«01_k».proof.Defs
public import proofs.«01_k».proof.Proof.Gen.Kernel3
public import proofs.«01_k».proof.Proof.Gen.Reference3Ideal
public import proofs.«01_k».proof.Proof.Gen.Reference3Ideal.Run
public import proofs.«01_k».proof.Proof.Gen.Reference3Ideal.Read
public import proofs.«01_k».proof.Proof.Experts.Arrays
public import Idealize.ShloMosaic.Adequacy
public import Idealize.ShloMosaic.Init

@[expose] public section

noncomputable section

namespace Cert.Proof

open Idealize.ShloMosaic Idealize.SL.Sem Idealize.ShloMosaic.StableHlo

/-! ## The experts -/

section Frame
open Cert.Kernel3Ideal
variable {F : FTy → Type} [FloatOps F]

/-- The precondition at a launch's arguments. -/
def Experts.Pre (m : (ℓ : Loc nD τ sig) → Buf (Elt F) ℓ) : Prop := ∀ c : Dev nD,
  Cert.Pre_experts_exist.fn (F := F) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) = fun _ => 1#1

theorem Experts.lt (m : (ℓ : Loc nD τ sig) → Buf (Elt F) ℓ) (h : Experts.Pre m) (j : S136.Idx) :
    (m (((0 : Dev nD).tc : Thread nD τ).loc main_arg1) j).toNat < 8 := Cert.Experts.expert_lt (F := F) (h 0) j

/-- The frame, over any float values. -/
theorem Experts.frame (m : (ℓ : Loc nD τ sig) → Buf (Elt F) ℓ) (ρ : Dev nD → PrngReg) (h : Experts.Pre m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c => (h.1 c).2, h.2⟩) (Cert.Experts.leaves m ρ (Cert.Experts.ok_of_lt m (Experts.lt m h)))

end Frame

theorem frame_ideal3 : Cert.quiescent_Kernel3Ideal := Experts.frame (F := Ideal)

/-! The kernel over bits has the same text as its ideal reading: its bodies agree, so do its tables of
bodies, and its frame is the one above. -/

theorem Experts.same_body : @Cert.Kernel3.cc0_moe_experts Bits _ _ = @Cert.Kernel3Ideal.cc0_moe_experts Bits _ _ := rfl

theorem Experts.same_table : Cert.Kernel3.defs₀ (F := Bits) = Cert.Kernel3Ideal.defs₀ (F := Bits) := by
  unfold Cert.Kernel3.defs₀ Cert.Kernel3Ideal.defs₀
  rw [Experts.same_body]
  congr 1
  funext l x
  match l, x with
  | 0, (_, _) => rfl

theorem Experts.same_defs : Cert.Kernel3.defs (F := Bits) = Cert.Kernel3Ideal.defs (F := Bits) :=
  congrArg (Pipeline.defs (Cert.Kernel3Ideal.pcfgs (F := Bits))) Experts.same_table

theorem frame_kernel3 : Cert.quiescent_Kernel3 := by
  intro m ρ h
  rw [Experts.same_defs]
  exact Experts.frame (F := Bits) m ρ h

theorem frame_refIdeal3 : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

theorem v44_congr {a0 b0 : IVec Cert.Reference3Ideal.S69632x512 32} {a1 b1 : IVec Cert.Reference3Ideal.S136 32} {a2 b2 : IVec Cert.Reference3Ideal.S1 32}
    {a3 b3 a4 b4 : FVec Ideal Cert.Reference3Ideal.S8x1024x3584 .bf16} {a5 b5 : FVec Ideal Cert.Reference3Ideal.S8x3584x1024 .bf16}
    (h0 : a0 = b0) (h1 : a1 = b1) (h2 : a2 = b2) (h3 : a3 = b3) (h4 : a4 = b4) (h5 : a5 = b5) :
    Cert.Reference3Ideal.Read.val_main_v44 (F := Ideal) a0 a1 a2 a3 a4 a5 = Cert.Reference3Ideal.Read.val_main_v44 (F := Ideal) b0 b1 b2 b3 b4 b5 := by
  rw [h0, h1, h2, h3, h4, h5]

/-- The kernel's output array is the reference's function of the arguments. -/
theorem value_ideal3 : Cert.algebraic_Kernel3Ideal_Reference3Ideal := by
  intro m g m' g' hpre hagree
  have hT := Experts.lt (F := Ideal) m hpre
  refine ⟨fun c => Cert.Experts.want m c, ?_, ?_⟩
  · exact (θ_run Cert.Kernel3Ideal.defs _ _).mono (fun _ h c => ⟨(h.1 c).1.trans (Cert.Experts.result m hT c), (h.1 c).2⟩)
      (Cert.Experts.leaves (F := Ideal) m g (Cert.Experts.ok_of_lt m hT))
  · refine (θ_run Cert.Reference3Ideal.defs _ _).mono (fun _ h c => ⟨?_, (h c).2⟩)
      (Cert.Reference3Ideal.Value.run (F := Ideal) m' g')
    obtain ⟨h0, h1, h2, h3, h4, h5⟩ := hagree c
    exact (h c).1.trans ((Cert.Reference3Ideal.Read.val_main_v44_eq m' c).trans (v44_congr h0 h1 h2 h3 h4 h5))

end Cert.Proof

end
-- ==== Proof.Combine.Block.lean ====
/-
  What one grid point of the combining kernel leaves in its output block, read at an index: the token's row of the layer's result.
-/
module

public import proofs.«01_k».proof.Proof.Gen.Kernel4Ideal.Frame
public import proofs.«01_k».proof.Proof.Ffn.Row
public import proofs.«01_k».proof.Proof.Pairs
public import Idealize.ShloMosaic.Lib.Pointwise
public import Idealize.ShloMosaic.Lib.Pipeline.Value

@[expose] public section
set_option maxRecDepth 16384
noncomputable section
namespace Cert.Combine
open Idealize.ShloMosaic Idealize.ShloMosaic.TcCoe Cert.Kernel4Ideal Cert.Kernel4Ideal.Gen Cert.Ffn
open Cert.Pairs (lower upper)

local notation "𝔽" => Ideal

/-- The two experts' rows of a token, each by its gate, and summed. -/
def weighed {n : ℕ} (g0 g1 : EReal) (y0 y1 : Row n) : Row n := fun k => y0 k * g0 + y1 k * g1

/-- The token's row of the result. -/
def outRow (g0 g1 : EReal) (y0 y1 x m5 pg : Row 1024) : Row 1024 := resid x m5 (weighed g0 g1 y0 y1) pg

theorem pay8_at (v0 : Vec 𝔽 S1x512x128 .f32) (v2 v14 : Vec 𝔽 S512x512 .i32) (r j : Fin 512) :
    k0_pay8 v0 v2 v14 (ix2 r j)
      = weighed (v0 (ix3 0 r 0)) (v0 (ix3 0 r 1)) (Pairs.row fun j => v2 (ix2 r j)) (Pairs.row fun j => v14 (ix2 r j)) (lower j) := by
  unfold weighed
  rw [Pairs.row_lower, Pairs.row_lower, ← Pairs.shifted, ← Pairs.shifted, mul_comm _ (v0 (ix3 0 r 0)), mul_comm _ (v0 (ix3 0 r 1))]
  pointwise [k0_pay8, k0_pay7, k0_pay6, k0_pay5]

theorem pay9_at (v0 : Vec 𝔽 S1x512x128 .f32) (v2 v14 : Vec 𝔽 S512x512 .i32) (r j : Fin 512) :
    k0_pay9 v0 v2 v14 (ix2 r j)
      = weighed (v0 (ix3 0 r 0)) (v0 (ix3 0 r 1)) (Pairs.row fun j => v2 (ix2 r j)) (Pairs.row fun j => v14 (ix2 r j)) (upper j) := by
  unfold weighed
  rw [Pairs.row_upper, Pairs.row_upper, ← Pairs.masked, ← Pairs.masked, mul_comm _ (v0 (ix3 0 r 0)), mul_comm _ (v0 (ix3 0 r 1))]
  pointwise [k0_pay9, k0_pay7, k0_pay6, k0_pay5]

theorem pay10_at (v0 : Vec 𝔽 S1x512x128 .f32) (v2 v14 : Vec 𝔽 S512x512 .i32) (r : Fin 512) :
    k0_pay10 v0 v2 v14 (ix2 r 0)
      = Ideal.rsqrt (Ideal.div ((∑ j, k0_pay8 v0 v2 v14 (ix2 r j) * k0_pay8 v0 v2 v14 (ix2 r j))
          + ∑ j, k0_pay9 v0 v2 v14 (ix2 r j) * k0_pay9 v0 v2 v14 (ix2 r j)) (Ideal.ofBits FTy.f32 0x44800000#32)
        + Ideal.ofBits FTy.f32 0x358637BD#32) := by
  unfold k0_pay10
  generalize k0_pay8 v0 v2 v14 = a
  generalize k0_pay9 v0 v2 v14 = b
  pointwise

theorem pay3_at (a : FVec 𝔽 S512x512 .f32) (q : FVec 𝔽 S512x1 .f32) (mo : Vec 𝔽 S1x6x1024 .f32) (pg : Vec 𝔽 S1x1024 .f32)
    (x : Vec 𝔽 S1x512x512 .f32) (r j : Fin 512) :
    k0_pay3 a q mo pg x (ix3 0 r j) = x (ix3 0 r j) + mo (ix3 0 5 (lower j)) * (a (ix2 r j) * q (ix2 r 0) * pg (ix2 0 (lower j))) := by
  unfold Pairs.lower
  pointwise [k0_pay3, k0_pay2, k0_pay1]

theorem pay4_at (a : FVec 𝔽 S512x512 .f32) (q : FVec 𝔽 S512x1 .f32) (mo : Vec 𝔽 S1x6x1024 .f32) (pg : Vec 𝔽 S1x1024 .f32)
    (x : Vec 𝔽 S1x512x512 .f32) (r j : Fin 512) :
    k0_pay4 a q mo pg x (ix3 0 r j) = x (ix3 0 r j) + mo (ix3 0 5 (upper j)) * (a (ix2 r j) * q (ix2 r 0) * pg (ix2 0 (upper j))) := by
  unfold Pairs.upper
  pointwise [k0_pay4, k0_pay2, k0_pay1]

variable (x0 x1 : Vec 𝔽 S512x512 .i32) (x2 : Vec 𝔽 S1x512x128 .f32) (x3 : Vec 𝔽 S1x512x1024 .f32) (x4 : Vec 𝔽 S1x6x1024 .f32)
  (x5 : Vec 𝔽 S1x1024 .f32)

/-- A token's weighed row, of the blocks a grid point works on. -/
def wrow (r : Fin 512) : Row 1024 :=
  weighed (x2 (ix3 0 r 0)) (x2 (ix3 0 r 1)) (Pairs.row fun j => x0 (ix2 r j)) (Pairs.row fun j => x1 (ix2 r j))

theorem weighed_congr {g0 g0' g1 g1' : EReal} {u u' v v' : Fin 512 → BitVec 32} {k : Fin 1024} (h0 : g0 = g0') (h1 : g1 = g1')
    (hu : u = u') (hv : v = v') : weighed g0 g1 (Pairs.row u) (Pairs.row v) k = weighed g0' g1' (Pairs.row u') (Pairs.row v') k := by
  rw [h0, h1, hu, hv]

/-- A load of a whole block of words reads the block. -/
theorem ld_words (x : Vec 𝔽 S512x512 .i32) (r j : Fin 512) : View.ld x r0_1 (ix2 r j) = x (ix2 r j) := by
  pointwise

theorem ld_gates (r : Fin 512) (q : Fin 128) : View.ld x2 r0_0 (ix3 0 r q) = x2 (ix3 0 r q) := by
  pointwise

theorem low_at (r j : Fin 512) :
    k0_pay8 (View.ld x2 r0_0) (View.ld x0 r0_1) (View.ld x1 r0_1) (ix2 r j) = wrow x0 x1 x2 r (lower j) := by
  refine (pay8_at _ _ _ r j).trans ?_
  exact weighed_congr (ld_gates x2 r 0) (ld_gates x2 r 1) (funext (ld_words x0 r)) (funext (ld_words x1 r))

theorem high_at (r j : Fin 512) :
    k0_pay9 (View.ld x2 r0_0) (View.ld x0 r0_1) (View.ld x1 r0_1) (ix2 r j) = wrow x0 x1 x2 r (upper j) := by
  refine (pay9_at _ _ _ r j).trans ?_
  exact weighed_congr (ld_gates x2 r 0) (ld_gates x2 r 1) (funext (ld_words x0 r)) (funext (ld_words x1 r))

/-- The two halves' sums of squares are the whole row's. -/
theorem scale_at (r : Fin 512) :
    k0_pay11 x0 x1 x2 x3 x4 x5 (ix2 r 0)
      = Ideal.rsqrt (Ideal.div (∑ k, wrow x0 x1 x2 r k * wrow x0 x1 x2 r k) (Ideal.ofBits FTy.f32 0x44800000#32)
        + Ideal.ofBits FTy.f32 0x358637BD#32) := by
  unfold k0_pay11
  rw [pay10_at, Pairs.sum_halves]
  simp only [low_at, high_at]

/-- The output block, at an index. -/
theorem out_at (r : Fin 512) (k : Fin 1024) :
    out0_6 x0 x1 x2 x3 x4 x5 (ix3 0 r k)
      = outRow (x2 (ix3 0 r 0)) (x2 (ix3 0 r 1)) (Pairs.row fun j => x0 (ix2 r j)) (Pairs.row fun j => x1 (ix2 r j)) (fun k => x3 (ix3 0 r k))
          (fun k => x4 (ix3 0 5 k)) (fun k => x5 (ix2 0 k)) k := by
  unfold out0_6
  have he : ∀ (R : Rect S1x512x1024) (x : R.shape.Idx), R.emb x = R.toLoadRect.idx x := fun _ _ => rfl
  refine (View.canon_apply_of_pieces (Val := Elt 𝔽) (fun y : S1x512x1024.Idx =>
    resid (fun k => x3 (ix3 0 (y 1) k)) (fun k => x4 (ix3 0 5 k)) (wrow x0 x1 x2 (y 1)) (fun k => x5 (ix2 0 k)) (y 2)) _ ?_ _ (cover0_6 _ _ _)).trans ?_
  · simp only [List.forall_mem_cons]
    refine ⟨fun x => ?_, fun x => ?_, fun p hp => absurd hp List.not_mem_nil⟩
    · obtain ⟨a, b, c, rfl⟩ : ∃ (a : Fin 1) (b c : Fin 512), x = ix3 a b c := ⟨x 0, x 1, x 2, eq_ix3 x⟩
      obtain rfl : a = 0 := Subsingleton.elim _ _
      have e : r0_5.emb (ix3 (0 : Fin 1) b c) = (ix3 0 b (upper c) : S1x512x1024.Idx) := by
        rw [he]
        unfold Pairs.upper
        pointwise
      rw [e]
      refine (pay4_at _ _ _ _ _ b c).trans ?_
      rw [high_at, scale_at]
      unfold resid Ffn.norm Pairs.upper
      pointwise
    · obtain ⟨a, b, c, rfl⟩ : ∃ (a : Fin 1) (b c : Fin 512), x = ix3 a b c := ⟨x 0, x 1, x 2, eq_ix3 x⟩
      obtain rfl : a = 0 := Subsingleton.elim _ _
      have e : r0_4.emb (ix3 (0 : Fin 1) b c) = (ix3 0 b (lower c) : S1x512x1024.Idx) := by
        rw [he]
        unfold Pairs.lower
        pointwise
      rw [e]
      refine (pay3_at _ _ _ _ _ b c).trans ?_
      rw [low_at, scale_at]
      unfold resid Ffn.norm Pairs.lower
      pointwise
  · rfl

end Cert.Combine
end
-- ==== Proof.Combine.Ref.lean ====
/-
  The reference of the combining step, read at an index, is the same function of one token's rows (`Block.lean`).
-/
module

public import proofs.«01_k».proof.Proof.Gen.Reference4Ideal.Read
public import proofs.«01_k».proof.Proof.Ffn.Ref
public import proofs.«01_k».proof.Proof.Combine.Block
public import Idealize.ShloMosaic.Lib.BitcastConvert

@[expose] public section
set_option maxRecDepth 16384
noncomputable section
namespace Cert.Combine.Ref
open Idealize.ShloMosaic Idealize.ShloMosaic.TcCoe Cert.Reference4Ideal Cert.Reference4Ideal.Read Cert.Ffn

local notation "𝔽" => Ideal

/-- The row of the experts' array that holds a token's rows for its first, and for its second, expert. -/
def first (b : Fin 16) (s : Fin 2048) : Fin 65536 := ⟨b.val * 2048 + s.val, by omega⟩
def second (b : Fin 16) (s : Fin 2048) : Fin 65536 := ⟨32768 + b.val * 2048 + s.val, by omega⟩

variable (x0 : IVec S65536x512 32) (x1 : FVec 𝔽 S16x2048x128 .f32) (x2 : FVec 𝔽 S16x2048x1024 .f32)
  (x3 : FVec 𝔽 S16x6x1024 .f32) (x4 : FVec 𝔽 S1024 .f32)

/-- Both parts of a word are read from that word. -/
theorem drop_at (i : Fin 65536) (j : Fin 512) (q : Fin 2) : Gen.splits_S65536x512_w32_S65536x512x2_w16.drop (ix3 i j q) = (ix2 i j : S65536x512.Idx) := by
  funext d
  fin_cases d <;> rfl

/-- The rows the words of the array carry. -/
theorem v5_at (i : Fin 65536) (k : Fin 1024) : val_main_v5 (F := 𝔽) x0 (ix2 i k) = Pairs.row (fun j => x0 (ix2 i j)) k := by
  rcases Pairs.halves k with ⟨j, rfl⟩ | ⟨j, rfl⟩
  · rw [Pairs.row_lower]
    unfold Pairs.lower
    pointwise [val_main_v5, val_main_v4, val_main_v3, val_main_v2, val_main_v1, val_main_v0]
    rw [drop_at]
  · rw [Pairs.row_upper]
    unfold Pairs.upper
    pointwise [val_main_v5, val_main_v4, val_main_v3, val_main_v2, val_main_v1, val_main_v0]
    rw [drop_at]

theorem v7_at (q : Fin 2) (b : Fin 16) (s : Fin 2048) (k : Fin 1024) :
    val_main_v7 (F := 𝔽) x0 (ix4 q b s k) = Pairs.row (fun j => x0 (ix2 ⟨q.val * 32768 + b.val * 2048 + s.val, by omega⟩ j)) k := by
  rw [← v5_at]
  unfold val_main_v7 val_main_v6
  generalize val_main_v5 (F := 𝔽) x0 = y
  pointwise

theorem v8_at (b : Fin 16) (s : Fin 2048) (k : Fin 1024) : val_main_v8 (F := 𝔽) x0 (ix4 0 b s k) = Pairs.row (fun j => x0 (ix2 (first b s) j)) k := by
  have h : (⟨(0 : Fin 2).val * 32768 + b.val * 2048 + s.val, by omega⟩ : Fin 65536) = first b s :=
    Fin.ext (by show (0 : Fin 2).val * 32768 + b.val * 2048 + s.val = b.val * 2048 + s.val; simp)
  rw [← h, ← v7_at x0]
  unfold val_main_v8
  generalize val_main_v7 (F := 𝔽) x0 = y
  pointwise

theorem v9_at (b : Fin 16) (s : Fin 2048) (k : Fin 1024) : val_main_v9 (F := 𝔽) x0 (ix3 b s k) = Pairs.row (fun j => x0 (ix2 (first b s) j)) k := by
  rw [← v8_at x0]
  unfold val_main_v9
  generalize val_main_v8 (F := 𝔽) x0 = y
  pointwise

theorem v13_at (b : Fin 16) (s : Fin 2048) (k : Fin 1024) :
    val_main_v13 (F := 𝔽) x0 (ix4 0 b s k) = Pairs.row (fun j => x0 (ix2 (second b s) j)) k := by
  have h : (⟨(1 : Fin 2).val * 32768 + b.val * 2048 + s.val, by omega⟩ : Fin 65536) = second b s :=
    Fin.ext (by show (1 : Fin 2).val * 32768 + b.val * 2048 + s.val = 32768 + b.val * 2048 + s.val; simp)
  rw [← h, ← v7_at x0]
  unfold val_main_v13
  generalize val_main_v7 (F := 𝔽) x0 = y
  pointwise

theorem v14_at (b : Fin 16) (s : Fin 2048) (k : Fin 1024) :
    val_main_v14 (F := 𝔽) x0 (ix3 b s k) = Pairs.row (fun j => x0 (ix2 (second b s) j)) k := by
  rw [← v13_at x0]
  unfold val_main_v14
  generalize val_main_v13 (F := 𝔽) x0 = y
  pointwise

/-- A token's two gates, laid along its row. -/
theorem v11_at (b : Fin 16) (s : Fin 2048) (k : Fin 1024) : val_main_v11 (F := 𝔽) x1 (ix3 b s k) = x1 (ix3 b s 0) := by
  pointwise [val_main_v11, val_main_v10]

theorem v16_at (b : Fin 16) (s : Fin 2048) (k : Fin 1024) : val_main_v16 (F := 𝔽) x1 (ix3 b s k) = x1 (ix3 b s 1) := by
  pointwise [val_main_v16, val_main_v15]

theorem v18_at (b : Fin 16) (s : Fin 2048) (k : Fin 1024) :
    val_main_v18 (F := 𝔽) x0 x1 (ix3 b s k)
      = weighed (x1 (ix3 b s 0)) (x1 (ix3 b s 1)) (Pairs.row fun j => x0 (ix2 (first b s) j)) (Pairs.row fun j => x0 (ix2 (second b s) j)) k := by
  rw [val_main_v18_apply, val_main_v12_apply, val_main_v17_apply, v9_at, v14_at, v11_at, v16_at]
  generalize Pairs.row (fun j => x0 (ix2 (first b s) j)) = y
  generalize Pairs.row (fun j => x0 (ix2 (second b s) j)) = z
  rfl

theorem v32_eq : val_main_v32 (F := 𝔽) x0 x1 x4 = Ffn.Ref.rmsnorm x4 (val_main_v18 (F := 𝔽) x0 x1) := by
  unfold val_main_v32 val_main_v31 val_main_v30 val_main_v29 val_main_v28 val_main_v27 val_main_v26 val_main_v25 val_main_v24 val_main_v23 val_main_v22 val_main_v21 val_main_v20 val_main_cst val_main_cst_0 val_main_cst_1 Ffn.Ref.rmsnorm
  rfl

theorem v35_at (b : Fin 16) (s : Fin 2048) (k : Fin 1024) :
    val_main_v35 (F := 𝔽) x0 x1 x2 x3 x4 (ix3 b s k)
      = outRow (x1 (ix3 b s 0)) (x1 (ix3 b s 1)) (Pairs.row fun j => x0 (ix2 (first b s) j)) (Pairs.row fun j => x0 (ix2 (second b s) j))
          (fun k => x2 (ix3 b s k)) (fun k => x3 (ix3 b 5 k)) (fun k => x4 (ix1 k)) k := by
  have h : val_main_v32 (F := 𝔽) x0 x1 x4 (ix3 b s k)
      = Ffn.norm 0x44800000#32 (fun k => val_main_v18 (F := 𝔽) x0 x1 (ix3 b s k)) (fun k => x4 (ix1 k)) k := by
    rw [v32_eq]
    exact Ffn.Ref.rmsnorm_at x4 _ b s k
  simp only [v18_at] at h
  unfold outRow resid
  rw [← h]
  pointwise [val_main_v35, val_main_v34, val_main_v33, val_main_v19]

end Cert.Combine.Ref
end
-- ==== Proof.Combine.Arrays.lean ====
/-
  The combining kernel's array after its run: every output block at its place.
-/
module

public import proofs.«01_k».proof.Proof.Gen.Kernel4Ideal.Value
public import proofs.«01_k».proof.Proof.Combine.Ref
public import Idealize.ShloMosaic.Lib.Pipeline.ValueKit

@[expose] public section
set_option maxRecDepth 16384
noncomputable section
namespace Cert.Combine
open Idealize.ShloMosaic Idealize.ShloMosaic.TcCoe Cert.Kernel4Ideal Cert.Kernel4Ideal.Gen Cert.Combine.Ref

local notation "𝔽" => Ideal
variable (m : (ℓ : Loc nD τ sig) → Buf (Elt 𝔽) ℓ) (c : Dev nD)

/-- Which block each window shows at each grid point; the second window is 64 blocks on from the first. -/
theorem idx : ∀ t : Fin cfg0.N, win0_0.index t = ![t.val, 0] ∧ win0_1.index t = ![64 + t.val, 0]
    ∧ win0_2.index t = ![t.val / 4, t.val % 4, 0] ∧ win0_3.index t = ![t.val / 4, t.val % 4, 0]
    ∧ win0_4.index t = ![t.val / 4, 0, 0] ∧ win0_5.index t = ![0, 0] ∧ win0_6.index t = ![t.val / 4, t.val % 4, 0] :=
  (by decide +kernel : ∀ t : Fin grid0.N, _)

/-- The batch entry a grid point works on, and the token its block row is. -/
def bOf (t : Fin cfg0.N) : Fin 16 := ⟨t.val / 4, by have : t.val < 64 := t.isLt; omega⟩
def rowOf (t : Fin cfg0.N) (r : Fin 512) : Fin 2048 := ⟨t.val % 4 * 512 + r.val, by omega⟩

theorem b0 (t : Fin cfg0.N) (r k : Fin 512) :
    iblk m c 0 t (ix2 r k) = m ((c.tc : Thread nD τ).loc main_arg0) (ix2 (first (bOf t) (rowOf t r)) k) := by
  unfold first bOf rowOf
  blk_ext [iblk, V, idx t]

theorem b1 (t : Fin cfg0.N) (r k : Fin 512) :
    iblk m c 1 t (ix2 r k) = m ((c.tc : Thread nD τ).loc main_arg0) (ix2 (second (bOf t) (rowOf t r)) k) := by
  unfold second bOf rowOf
  blk_ext [iblk, V, idx t]

theorem b2 (t : Fin cfg0.N) (r : Fin 512) (k : Fin 128) :
    iblk m c 2 t (ix3 0 r k) = m ((c.tc : Thread nD τ).loc main_arg1) (ix3 (bOf t) (rowOf t r) k) := by
  unfold bOf rowOf
  blk_ext [iblk, V, idx t]

theorem b3 (t : Fin cfg0.N) (r : Fin 512) (k : Fin 1024) :
    iblk m c 3 t (ix3 0 r k) = m ((c.tc : Thread nD τ).loc main_arg2) (ix3 (bOf t) (rowOf t r) k) := by
  unfold bOf rowOf
  blk_ext [iblk, V, idx t]

theorem b4 (t : Fin cfg0.N) (q : Fin 6) (k : Fin 1024) :
    iblk m c 4 t (ix3 0 q k) = m ((c.tc : Thread nD τ).loc main_arg3) (ix3 (bOf t) q k) := by
  unfold bOf
  blk_ext [iblk, V, idx t]

/-- The gain is read through its copy as a one-row array. -/
theorem b5 (t : Fin cfg0.N) (k : Fin 1024) :
    iblk m c 5 t (ix2 0 k) = m ((c.tc : Thread nD τ).loc main_arg4) (ix1 k) := by
  have h : V m c main_v0 = shapeCast S1x1024 (m ((c.tc : Thread nD τ).loc main_arg4)) shapeCasts_S1024_S1x1024 := by
    unfold V
    entry_read
    rfl
  have e : iblk m c 5 t = fun y => V m c main_v0 (ix2 0 (y 1)) := by
    funext y
    blk_ext [iblk, idx t]
  rw [e, h]
  pointwise

theorem at_index (t : Fin cfg0.N) (y : ((cfg0.win 6).xblock (cfg0.grid.coords t)).Idx) :
    ∃ (r : Fin 512) (k : Fin 1024), (cfg0.win 6).xinj (cfg0.grid.coords t) y = (ix3 0 r k : S1x512x1024.Idx)
      ∧ ((cfg0.win 6).blk t).view.emb y = (ix3 (bOf t) (rowOf t r) k : S16x2048x1024.Idx) := by
  have h0 : (y 0).val < 1 := (y 0).isLt
  refine ⟨y 1, y 2, ?_, ?_⟩
  · blk_ext [idx t]
  · unfold bOf rowOf
    blk_ext [idx t]

/-- The output array is the reference's result. -/
theorem result6 : (dats m 0 c).arrAt 6 cfg0.N
    = Cert.Reference4Ideal.Read.val_main_v35 (F := 𝔽) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) := by
  refine (dats m 0 c).arrAt_eq_of_covers 6 _ (by decide +kernel) fun t hf y => ?_
  rw [after0_6]
  obtain ⟨r, k, hy, he⟩ := at_index t y
  rw [hy, he]
  rw [cast_eq, out_at, v35_at]
  simp only [b0, b1, b2, b3, b4, b5]

end Cert.Combine
end
-- ==== Proof.Combine.Claims.lean ====
/- The claims about the combining step: the kernel's output array, the layer stack's result, is the reference's. -/
module

public import proofs.«01_k».proof.Defs
public import proofs.«01_k».proof.Proof.Gen.Kernel4
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Combine.Arrays
public import Idealize.ShloMosaic.Adequacy
public import Idealize.ShloMosaic.Init

@[expose] public section

noncomputable section

namespace Cert.Proof

open Idealize.ShloMosaic Idealize.SL.Sem Idealize.ShloMosaic.StableHlo

/-! ## The combining step -/

theorem frame_kernel4 : Cert.quiescent_Kernel4 := fun m ρ _ => Cert.Kernel4.Gen.frame m ρ

theorem frame_ideal4 : Cert.quiescent_Kernel4Ideal := fun m ρ _ => Cert.Kernel4Ideal.Gen.frame m ρ

theorem frame_refIdeal4 : Cert.quiescent_Reference4Ideal := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)

theorem v35_congr {a0 b0 : IVec Cert.Reference4Ideal.S65536x512 32} {a1 b1 : FVec Ideal Cert.Reference4Ideal.S16x2048x128 .f32}
    {a2 b2 : FVec Ideal Cert.Reference4Ideal.S16x2048x1024 .f32} {a3 b3 : FVec Ideal Cert.Reference4Ideal.S16x6x1024 .f32}
    {a4 b4 : FVec Ideal Cert.Reference4Ideal.S1024 .f32} (h0 : a0 = b0) (h1 : a1 = b1) (h2 : a2 = b2) (h3 : a3 = b3) (h4 : a4 = b4) :
    Cert.Reference4Ideal.Read.val_main_v35 (F := Ideal) a0 a1 a2 a3 a4 = Cert.Reference4Ideal.Read.val_main_v35 (F := Ideal) b0 b1 b2 b3 b4 := by
  rw [h0, h1, h2, h3, h4]

theorem value_ideal4 : Cert.algebraic_Kernel4Ideal_Reference4Ideal := by
  intro m g m' g' _ hagree
  refine ⟨_, (θ_run Cert.Kernel4Ideal.defs _ _).mono (fun _ h c => ⟨(h c).1.trans (Cert.Combine.result6 m c), (h c).2⟩)
    (Cert.Kernel4Ideal.Value.run_blocks (F := Ideal) m g), ?_⟩
  refine (θ_run Cert.Reference4Ideal.defs _ _).mono (fun _ h c => ⟨?_, (h c).2⟩) (Cert.Reference4Ideal.Value.run (F := Ideal) m' g')
  obtain ⟨h0, h1, h2, h3, h4⟩ := hagree c
  exact (h c).1.trans ((Cert.Reference4Ideal.Read.val_main_v35_eq m' c).trans (v35_congr h0 h1 h2 h3 h4))

end Cert.Proof

end
-- ==== Proof.InProj.Row.lean ====
/-
  The input projection on ONE ROW of tokens, written over the extended reals: what both the kernel's block and the
  reference's arrays are shown to hold, row by row.
-/
module

public import proofs.«01_k».proof.Proof.Ffn.Row

@[expose] public section
noncomputable section
namespace Cert.InProj
open Idealize.ShloMosaic
open Cert.Ffn (Row)

/-- `x / 2 · (1 + tanh (√(2/π) (x + 0.044715 x³)))`, its constants as their single-precision words name them. -/
def gelu (x : EReal) : EReal :=
  Ideal.ofBits FTy.f32 0x3F000000#32 * x
    * (1 + Ideal.tanh (Ideal.ofBits FTy.f32 0x3F4C422A#32 * (x + Ideal.ofBits FTy.f32 0x3D372713#32 * (x * x * x))))

/-- The lane a lane's rotated partner stands in: the other half of its head of 64. -/
def other {n : ℕ} (h : 64 ∣ n) (l : Fin n) : Fin n :=
  if hl : l.val % 64 < 32 then ⟨l.val + 32, by obtain ⟨q, rfl⟩ := h; have := l.isLt; omega⟩ else ⟨l.val - 32, by omega⟩

theorem other_val {n : ℕ} (h : 64 ∣ n) (l : Fin n) : (other h l).val = if l.val % 64 < 32 then l.val + 32 else l.val - 32 := by
  unfold other
  split <;> rfl

/-- Four heads of 64 turned by the tables of two. -/
def turn (y : Row 256) (c s : Row 128) : Row 256 := fun l =>
  y l * c ⟨l.val % 128, by omega⟩ + y (other (by decide) l) * s ⟨l.val % 128, by omega⟩

/-- One of the ten slices of the projected row. -/
def cut (y : Row 2560) (g : Fin 10) : Row 256 := fun l => y ⟨256 * g.val + l.val, by omega⟩

/-- The eight slices of the result. -/
def part (y : Row 2560) (c s : Row 128) : Fin 8 → Row 256 :=
  ![turn (cut y 0) c s, turn (cut y 1) c s, cut y 2, turn (cut y 3) c s, turn (cut y 4) c s, cut y 5,
    fun l => gelu (cut y 6 l), fun l => gelu (cut y 7 l)]

/-- The whole row. -/
def inRow (y : Row 2560) (c s : Row 128) : Row 2048 := fun k => part y c s ⟨k.val / 256, by omega⟩ ⟨k.val % 256, by omega⟩

/-- A lane of one slice of the row. -/
theorem inRow_at (y : Row 2560) (c s : Row 128) (g : Fin 8) (l : Fin 256) (k : Fin 2048) (hk : k.val = 256 * g.val + l.val) :
    inRow y c s k = part y c s g l := by
  have e1 : (⟨k.val / 256, by omega⟩ : Fin 8) = g := Fin.ext (by show k.val / 256 = g.val; omega)
  have e2 : (⟨k.val % 256, by omega⟩ : Fin 256) = l := Fin.ext (by show k.val % 256 = l.val; omega)
  show part y c s ⟨k.val / 256, by omega⟩ ⟨k.val % 256, by omega⟩ = _
  rw [e1, e2]

end Cert.InProj
end
-- ==== Proof.InProj.Pay.lean ====
/-
  The kernel's slices, read at an index.
-/
module

public import proofs.«01_k».proof.Proof.Gen.Kernel5Ideal.Skeleton
public import proofs.«01_k».proof.Proof.InProj.Row
public import Idealize.ShloMosaic.Lib.Pointwise

@[expose] public section
set_option maxRecDepth 16384
noncomputable section
namespace Cert.InProj
open Idealize.ShloMosaic Idealize.ShloMosaic.TcCoe Cert.Kernel5Ideal Cert.Kernel5Ideal.Gen
open Cert.Ffn (Row dot)

local notation "𝔽" => Ideal

/-- The mask of the lanes whose partner stands 32 lanes on. -/
abbrev mask : IVec S512x128 1 := k0_pay5 (iota .tc S512x128 32 [1] iota_S512x128_d1_w32) 64#32 0#32

theorem mask_at (r : Fin 512) (l : Fin 128) : mask (ix2 r l) = if l.val % 64 < 32 then 1#1 else 0#1 := by
  unfold mask
  pointwise [k0_pay5]
  revert l
  decide +kernel

theorem pay2_at (x : Vec 𝔽 S1x512x1024 .f32) (mod : Vec 𝔽 S1x6x1024 .f32) (g : Vec 𝔽 S1x1024 .f32) (r : Fin 512) (k : Fin 1024) :
    k0_pay2 mod x g (ix2 r k)
      = Ffn.hidden (fun k => x (ix3 0 r k)) (fun k => g (ix2 0 k)) (fun k => mod (ix3 0 0 k)) (fun k => mod (ix3 0 1 k)) k := by
  pointwise [k0_pay2]
  unfold Ffn.hidden Ffn.norm
  rfl

/-- Two heads turned, as the kernel turns them. -/
def half (t c s : FVec 𝔽 S512x128 .f32) (m : IVec S512x128 1) : FVec 𝔽 S512x128 .f32 :=
  addf (mulf t c) (mulf (select m (dynamicRotate 1 96#32 none t rotates_S512x128_d1) (dynamicRotate 1 32#32 none t rotates_S512x128_d1)) s)

theorem half_at (t c s : FVec 𝔽 S512x128 .f32) (r : Fin 512) (l : Fin 128) :
    half t c s mask (ix2 r l) = t (ix2 r l) * c (ix2 r l) + t (ix2 r (other (by decide) l)) * s (ix2 r l) := by
  have h := mask_at r l
  unfold half
  show t (ix2 r l) * c (ix2 r l) + (if mask (ix2 r l) = 1#1 then dynamicRotate 1 96#32 none t rotates_S512x128_d1 (ix2 r l) else dynamicRotate 1 32#32 none t rotates_S512x128_d1 (ix2 r l)) * s (ix2 r l) = _
  rw [h]
  unfold other
  by_cases hl : l.val % 64 < 32
  · rw [if_pos hl, dif_pos hl, if_pos rfl]
    pointwise
    refine congrArg (fun n => _ + t (ix2 r n) * _) (Fin.ext ?_)
    show (l.val + 128 - 96) % 128 = l.val + 32
    omega
  · rw [if_neg hl, dif_neg hl, if_neg (by decide)]
    pointwise
    refine congrArg (fun n => _ + t (ix2 r n) * _) (Fin.ext ?_)
    show (l.val + 128 - 32) % 128 = l.val - 32
    omega

/-- Four heads turned, as the kernel turns them. -/
def turned (T : FVec 𝔽 S512x256 .f32) (c s : FVec 𝔽 S512x128 .f32) (m : IVec S512x128 1) : FVec 𝔽 S512x256 .f32 :=
  concatenate S512x256 1 [⟨S512x128, half (extractStridedSlice S512x128 ![0, 0] T slices_S512x256_o0_0_S512x128) c s m⟩,
    ⟨S512x128, half (extractStridedSlice S512x128 ![0, 128] T slices_S512x256_o0_128_S512x128) c s m⟩] concatenates_S512x128_S512x128_S512x256_d1

theorem turned_at (T : FVec 𝔽 S512x256 .f32) (c s : FVec 𝔽 S512x128 .f32) (r : Fin 512) (l : Fin 256) :
    turned T c s mask (ix2 r l) = turn (fun l => T (ix2 r l)) (fun l => c (ix2 r l)) (fun l => s (ix2 r l)) l := by
  have h0 := half_at (extractStridedSlice S512x128 ![0, 0] T slices_S512x256_o0_0_S512x128) c s r
  have h1 := half_at (extractStridedSlice S512x128 ![0, 128] T slices_S512x256_o0_128_S512x128) c s r
  unfold turned turn
  generalize half (extractStridedSlice S512x128 ![0, 0] T slices_S512x256_o0_0_S512x128) c s mask = A at h0 ⊢
  generalize half (extractStridedSlice S512x128 ![0, 128] T slices_S512x256_o0_128_S512x128) c s mask = B at h1 ⊢
  by_cases hl : l.val < 128
  · have e : concatenate S512x256 1 [⟨S512x128, A⟩, ⟨S512x128, B⟩] concatenates_S512x128_S512x128_S512x256_d1 (ix2 r l) = A (ix2 r ⟨l.val, hl⟩) := by
      pointwise
      exact dif_pos hl
    rw [e, h0]
    pointwise
    refine congrArg₂ (· + ·) (congrArg₂ (· * ·) (congrArg T (congrArg (ix2 r) (Fin.ext ?_))) (congrArg c (congrArg (ix2 r) (Fin.ext ?_))))
      (congrArg₂ (· * ·) (congrArg T (congrArg (ix2 r) (Fin.ext ?_))) (congrArg s (congrArg (ix2 r) (Fin.ext ?_)))) <;>
      (simp only [other_val] <;> (try split) <;> (try split) <;> omega)
  · have e : concatenate S512x256 1 [⟨S512x128, A⟩, ⟨S512x128, B⟩] concatenates_S512x128_S512x128_S512x256_d1 (ix2 r l) = B (ix2 r ⟨l.val - 128, by omega⟩) := by
      pointwise
      exact dif_neg hl
    rw [e, h1]
    pointwise
    refine congrArg₂ (· + ·) (congrArg₂ (· * ·) (congrArg T (congrArg (ix2 r) (Fin.ext ?_))) (congrArg c (congrArg (ix2 r) (Fin.ext ?_))))
      (congrArg₂ (· * ·) (congrArg T (congrArg (ix2 r) (Fin.ext ?_))) (congrArg s (congrArg (ix2 r) (Fin.ext ?_)))) <;>
      (simp only [other_val] <;> (try split) <;> (try split) <;> omega)

/-- The rows times one slice of the matrix. -/
abbrev times (H : FVec 𝔽 S512x1024 .bf16) (w : FVec 𝔽 S1024x256 .bf16) : FVec 𝔽 S512x256 .f32 :=
  matmul dot_S512x1024_S1024x256_S512x256_1_0_0_1_n_n none H w (constant S512x256 .f32 0x00000000#32)

theorem times_at (H : FVec 𝔽 S512x1024 .bf16) (w : FVec 𝔽 S1024x256 .bf16) (r : Fin 512) (l : Fin 256) :
    times H w (ix2 r l) = dot (fun k => H (ix2 r k)) (fun k l => w (ix2 k l)) l := by
  unfold dot
  pointwise

section Slices
variable (c s : FVec 𝔽 S512x128 .f32) (H : FVec 𝔽 S512x1024 .bf16) (w : FVec 𝔽 S1024x256 .bf16) (r : Fin 512) (l : Fin 256)

theorem stored (T : FVec 𝔽 S512x256 .f32) :
    shapeCast S1x512x256 (truncf .bf16 T bitsLt_bf16_f32 : FVec 𝔽 S512x256 .bf16) shapeCasts_S512x256_S1x512x256 (ix3 0 r l) = T (ix2 r l) := by
  pointwise

/-- The row's slice, turned. -/
theorem stored_turned : shapeCast S1x512x256 (truncf .bf16 (turned (times H w) c s mask) bitsLt_bf16_f32 : FVec 𝔽 S512x256 .bf16) shapeCasts_S512x256_S1x512x256 (ix3 0 r l)
      = turn (dot (fun k => H (ix2 r k)) (fun k l => w (ix2 k l))) (fun l => c (ix2 r l)) (fun l => s (ix2 r l)) l := by
  rw [stored, turned_at]
  exact congrArg (fun y => turn y _ _ l) (funext fun l => times_at H w r l)

theorem pay10_at : k0_pay10 (F := 𝔽) c s mask H w (ix3 0 r l)
    = turn (dot (fun k => H (ix2 r k)) (fun k l => w (ix2 k l))) (fun l => c (ix2 r l)) (fun l => s (ix2 r l)) l :=
  (congrFun (by rfl) _).trans (stored_turned c s H w r l)
theorem pay14_at : k0_pay14 (F := 𝔽) c s mask (k0_pay12 c s mask H w) (k0_pay13 H w) (ix3 0 r l)
    = turn (dot (fun k => H (ix2 r k)) (fun k l => w (ix2 k l))) (fun l => c (ix2 r l)) (fun l => s (ix2 r l)) l :=
  (congrFun (by rfl) _).trans (stored_turned c s H w r l)
theorem pay17_at : k0_pay17 (F := 𝔽) (k0_pay16 c s mask H w) (ix3 0 r l)
    = turn (dot (fun k => H (ix2 r k)) (fun k l => w (ix2 k l))) (fun l => c (ix2 r l)) (fun l => s (ix2 r l)) l :=
  (congrFun (by rfl) _).trans (stored_turned c s H w r l)
theorem pay18_at : k0_pay18 (F := 𝔽) c s mask H w (ix3 0 r l)
    = turn (dot (fun k => H (ix2 r k)) (fun k l => w (ix2 k l))) (fun l => c (ix2 r l)) (fun l => s (ix2 r l)) l :=
  (congrFun (by rfl) _).trans (stored_turned c s H w r l)

theorem pay15_at : k0_pay15 (F := 𝔽) H w (ix3 0 r l) = dot (fun k => H (ix2 r k)) (fun k l => w (ix2 k l)) l :=
  (congrFun (by rfl) _).trans ((stored r l (times H w)).trans (times_at H w r l))
theorem pay19_at : k0_pay19 (F := 𝔽) H w (ix3 0 r l) = dot (fun k => H (ix2 r k)) (fun k l => w (ix2 k l)) l :=
  (congrFun (by rfl) _).trans ((stored r l (times H w)).trans (times_at H w r l))

/-- The gate's function of a slice, as the kernel writes it. -/
def gelus (T : FVec 𝔽 S512x256 .f32) : FVec 𝔽 S512x256 .f32 :=
  mulf (mulf (broadcast S512x256 (Scalar.ofBits .f32 0x3F000000#32)) T)
    (addf (broadcast S512x256 (Scalar.ofBits .f32 0x3F800000#32))
      (tanh (mulf (broadcast S512x256 (Scalar.ofBits .f32 0x3F4C422A#32))
        (addf T (mulf (broadcast S512x256 (Scalar.ofBits .f32 0x3D372713#32)) (mulf (mulf T T) T))))))

theorem gelus_at (T : FVec 𝔽 S512x256 .f32) : gelus T (ix2 r l) = gelu (T (ix2 r l)) := by
  unfold gelu
  pointwise [gelus]

theorem pay20_at : k0_pay20 (F := 𝔽) H w (ix3 0 r l) = gelu (dot (fun k => H (ix2 r k)) (fun k l => w (ix2 k l)) l) :=
  (congrFun (by rfl) _).trans ((stored r l (gelus (times H w))).trans ((gelus_at r l _).trans (congrArg gelu (times_at H w r l))))
theorem pay22_at : k0_pay22 (F := 𝔽) (k0_pay21 H w) (ix3 0 r l) = gelu (dot (fun k => H (ix2 r k)) (fun k l => w (ix2 k l)) l) :=
  (congrFun (by rfl) _).trans ((stored r l (gelus (times H w))).trans ((gelus_at r l _).trans (congrArg gelu (times_at H w r l))))
end Slices

end Cert.InProj
end
-- ==== Proof.InProj.Block.lean ====
/-
  What one grid point of the input projection leaves in its first output block, read at an index.
-/
module

public import proofs.«01_k».proof.Proof.Gen.Kernel5Ideal.Frame
public import proofs.«01_k».proof.Proof.InProj.Pay
public import Idealize.ShloMosaic.Lib.Pointwise
public import Idealize.ShloMosaic.Lib.WholeRead
public import Idealize.ShloMosaic.Lib.Pipeline.Value
public import Idealize.ShloMosaic.Lib.Pipeline.ValueKit.Basic

@[expose] public section
set_option maxRecDepth 16384
noncomputable section
namespace Cert.InProj
open Idealize.ShloMosaic Idealize.ShloMosaic.TcCoe Cert.Kernel5Ideal Cert.Kernel5Ideal.Gen
open Cert.Ffn (Row dot)

local notation "𝔽" => Ideal

/-- A load from a whole buffer held at the contents `X` reads `X` at the rectangle. -/
theorem load {sig : RefSig} {κ : Kind} {sp : Space} {s : Shape} {e : EltTy} {m : Memref sig κ sp s e} (h : m.IsWhole)
    (X : s.Idx → Elt 𝔽 e) (r : Rect s) : View.readAt (Elt 𝔽) m.view r.toLoadRect (h.unread X) = View.ld X r :=
  funext fun y => h.readAt_unread X _ y

theorem at_piece (x : (⟨3, ![1, 512, 256]⟩ : Shape).Idx) : ∃ (a : Fin 512) (b : Fin 256), x = ix3 0 a b := by
  refine ⟨x 1, x 2, (eq_ix3 x).trans ?_⟩
  exact congrArg (fun q : Fin 1 => (ix3 q (x 1) (x 2) : (⟨3, ![1, 512, 256]⟩ : Shape).Idx)) (Subsingleton.elim (α := Fin 1) _ _)

theorem row_congr (H : FVec 𝔽 S512x1024 .bf16) (c s : FVec 𝔽 S512x128 .f32) (x3 : Vec 𝔽 S1024x2560 .bf16) {a a' : Fin 512} (ha : a = a') {k : Fin 2048} {z : EReal}
    (h : inRow (dot (fun k => H (ix2 a k)) fun k f => x3 (ix2 k f)) (fun l => c (ix2 a l)) (fun l => s (ix2 a l)) k = z) :
    z = inRow (dot (fun k => H (ix2 a' k)) fun k f => x3 (ix2 k f)) (fun l => c (ix2 a' l)) (fun l => s (ix2 a' l)) k := by
  subst ha
  exact h.symm

/-- The block's eight slices, as they are stored. -/
def slices (H : FVec 𝔽 S512x1024 .bf16) (c s : FVec 𝔽 S512x128 .f32) (x3 : Vec 𝔽 S1024x2560 .bf16) :
    List ((R : Rect S1x512x2048) × (R.shape.Idx → Elt 𝔽 .bf16)) :=
  [⟨Rect.unit ![0, 0, 1792] ![1, 512, 256] inb_S1x512x2048_S1x512x256_0_0_1792, k0_pay22 (k0_pay21 H (View.ld x3 (Rect.unit ![0, 1792] ![1024, 256] inb_S1024x2560_S1024x256_0_1792)))⟩,
    ⟨Rect.unit ![0, 0, 1536] ![1, 512, 256] inb_S1x512x2048_S1x512x256_0_0_1536, k0_pay20 H (View.ld x3 (Rect.unit ![0, 1536] ![1024, 256] inb_S1024x2560_S1024x256_0_1536))⟩,
    ⟨Rect.unit ![0, 0, 1280] ![1, 512, 256] inb_S1x512x2048_S1x512x256_0_0_1280, k0_pay19 H (View.ld x3 (Rect.unit ![0, 1280] ![1024, 256] inb_S1024x2560_S1024x256_0_1280))⟩,
    ⟨Rect.unit ![0, 0, 1024] ![1, 512, 256] inb_S1x512x2048_S1x512x256_0_0_1024, k0_pay18 c s mask H (View.ld x3 (Rect.unit ![0, 1024] ![1024, 256] inb_S1024x2560_S1024x256_0_1024))⟩,
    ⟨Rect.unit ![0, 0, 768] ![1, 512, 256] inb_S1x512x2048_S1x512x256_0_0_768, k0_pay17 (k0_pay16 c s mask H (View.ld x3 (Rect.unit ![0, 768] ![1024, 256] inb_S1024x2560_S1024x256_0_768)))⟩,
    ⟨Rect.unit ![0, 0, 512] ![1, 512, 256] inb_S1x512x2048_S1x512x256_0_0_512, k0_pay15 H (View.ld x3 (Rect.unit ![0, 512] ![1024, 256] inb_S1024x2560_S1024x256_0_512))⟩,
    ⟨Rect.unit ![0, 0, 256] ![1, 512, 256] inb_S1x512x2048_S1x512x256_0_0_256, k0_pay14 c s mask (k0_pay12 c s mask H (View.ld x3 (Rect.unit ![0, 256] ![1024, 256] inb_S1024x2560_S1024x256_0_256))) (k0_pay13 H (View.ld x3 (Rect.unit ![0, 256] ![1024, 256] inb_S1024x2560_S1024x256_0_256)))⟩,
    ⟨Rect.unit ![0, 0, 0] ![1, 512, 256] inb_S1x512x2048_S1x512x256_0_0_0, k0_pay10 c s mask H (View.ld x3 (Rect.unit ![0, 0] ![1024, 256] inb_S1024x2560_S1024x256_0_0))⟩]

theorem w_at (x3 : Vec 𝔽 S1024x2560 .bf16) (H : Row 1024) (g : Fin 10) (o : ℕ) (ho : o = 256 * g.val) (inb) (l : Fin 256) :
    dot H (fun k l => View.ld x3 (Rect.unit (s := S1024x2560) ![0, o] ![1024, 256] inb) (ix2 k l)) l = cut (dot H fun k f => x3 (ix2 k f)) g l := by
  subst ho
  unfold dot cut
  pointwise

/-- The slices together are the row. -/
theorem slices_at (H : FVec 𝔽 S512x1024 .bf16) (c s : FVec 𝔽 S512x128 .f32) (x3 : Vec 𝔽 S1024x2560 .bf16) (r : Fin 512) (k : Fin 2048) :
    View.canon (slices H c s x3) (ix3 0 r k)
      = inRow (dot (fun k => H (ix2 r k)) fun k f => x3 (ix2 k f)) (fun l => c (ix2 r l)) (fun l => s (ix2 r l)) k := by
  have he : ∀ (R : Rect S1x512x2048) (x : R.shape.Idx), R.emb x = R.toLoadRect.idx x := fun _ _ => rfl
  refine (View.canon_apply_of_pieces (Val := Elt 𝔽) (fun y : S1x512x2048.Idx => inRow (dot (fun k => H (ix2 (y 1) k)) fun k f => x3 (ix2 k f)) (fun l => c (ix2 (y 1) l)) (fun l => s (ix2 (y 1) l)) (y 2)) _ ?_ _ ?_).trans rfl
  · unfold slices
    simp only [List.forall_mem_cons]
    refine ⟨?_, ?_, ?_, ?_, ?_, ?_, ?_, ?_, fun p hp => absurd hp List.not_mem_nil⟩
    · intro x
      obtain ⟨a, b, rfl⟩ := at_piece x
      refine (pay22_at ..).trans ((congrArg gelu (w_at x3 _ 7 1792 rfl _ b)).trans ?_)
      exact row_congr (a := a) H c s x3 (Fin.ext (by show a.val = 0 + 1 * a.val; omega)) (inRow_at _ _ _ 7 b _ (by show 1792 + 1 * b.val = _; simp))
    · intro x
      obtain ⟨a, b, rfl⟩ := at_piece x
      refine (pay20_at ..).trans ((congrArg gelu (w_at x3 _ 6 1536 rfl _ b)).trans ?_)
      exact row_congr (a := a) H c s x3 (Fin.ext (by show a.val = 0 + 1 * a.val; omega)) (inRow_at _ _ _ 6 b _ (by show 1536 + 1 * b.val = _; simp))
    · intro x
      obtain ⟨a, b, rfl⟩ := at_piece x
      refine (pay19_at ..).trans ((w_at x3 _ 5 1280 rfl _ b).trans ?_)
      exact row_congr (a := a) H c s x3 (Fin.ext (by show a.val = 0 + 1 * a.val; omega)) (inRow_at _ _ _ 5 b _ (by show 1280 + 1 * b.val = _; simp))
    · intro x
      obtain ⟨a, b, rfl⟩ := at_piece x
      refine (pay18_at ..).trans ((congrArg (fun y => turn y _ _ b) (funext fun b => w_at x3 _ 4 1024 rfl _ b)).trans ?_)
      exact row_congr (a := a) H c s x3 (Fin.ext (by show a.val = 0 + 1 * a.val; omega)) (inRow_at _ _ _ 4 b _ (by show 1024 + 1 * b.val = _; simp))
    · intro x
      obtain ⟨a, b, rfl⟩ := at_piece x
      refine (pay17_at ..).trans ((congrArg (fun y => turn y _ _ b) (funext fun b => w_at x3 _ 3 768 rfl _ b)).trans ?_)
      exact row_congr (a := a) H c s x3 (Fin.ext (by show a.val = 0 + 1 * a.val; omega)) (inRow_at _ _ _ 3 b _ (by show 768 + 1 * b.val = _; simp))
    · intro x
      obtain ⟨a, b, rfl⟩ := at_piece x
      refine (pay15_at ..).trans ((w_at x3 _ 2 512 rfl _ b).trans ?_)
      exact row_congr (a := a) H c s x3 (Fin.ext (by show a.val = 0 + 1 * a.val; omega)) (inRow_at _ _ _ 2 b _ (by show 512 + 1 * b.val = _; simp))
    · intro x
      obtain ⟨a, b, rfl⟩ := at_piece x
      refine (pay14_at ..).trans ((congrArg (fun y => turn y _ _ b) (funext fun b => w_at x3 _ 1 256 rfl _ b)).trans ?_)
      exact row_congr (a := a) H c s x3 (Fin.ext (by show a.val = 0 + 1 * a.val; omega)) (inRow_at _ _ _ 1 b _ (by show 256 + 1 * b.val = _; simp))
    · intro x
      obtain ⟨a, b, rfl⟩ := at_piece x
      refine (pay10_at ..).trans ((congrArg (fun y => turn y _ _ b) (funext fun b => w_at x3 _ 0 0 rfl _ b)).trans ?_)
      exact row_congr (a := a) H c s x3 (Fin.ext (by show a.val = 0 + 1 * a.val; omega)) (inRow_at _ _ _ 0 b _ (by show 0 + 1 * b.val = _; simp))
  · refine View.cover_of_tiledL (s := S1x512x2048) _ ![1, 512, 256] ?_ _
    unfold slices
    sl_kernel_rfl

section Run

variable (c : Dev nD) (i : grid0.Coords) (arg2 : Memref sig .tc .vmem S1x512x1024 .f32) (harg2 : arg2.IsWhole) (arg3 : Memref sig .tc .vmem S1x6x1024 .f32) (harg3 : arg3.IsWhole) (arg4 : Memref sig .tc .vmem S1x1024 .f32) (harg4 : arg4.IsWhole) (arg5 : Memref sig .tc .vmem S1024x2560 .bf16) (harg5 : arg5.IsWhole) (arg6 : Memref sig .tc .vmem S1x512x128 .f32) (harg6 : arg6.IsWhole) (arg7 : Memref sig .tc .vmem S1x512x128 .f32) (harg7 : arg7.IsWhole) (arg8 : Memref sig .tc .vmem S31x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x512x2048 .bf16) (harg12 : arg12.IsWhole) (arg13 : Memref sig .tc .vmem S1x512x256 .bf16) (harg13 : arg13.IsWhole) (arg14 : Memref sig .tc .vmem S512x1024 .bf16) (harg14 : arg14.IsWhole) (arg15 : Memref sig .tc .vmem S552x256 .f32) (harg15 : arg15.IsWhole)
    (x0 : Vec 𝔽 S1x512x1024 .f32) (x1 : Vec 𝔽 S1x6x1024 .f32) (x2 : Vec 𝔽 S1x1024 .f32) (x3 : Vec 𝔽 S1024x2560 .bf16) (x4 : Vec 𝔽 S1x512x128 .f32) (x5 : Vec 𝔽 S1x512x128 .f32) (x6 : Vec 𝔽 S31x256 .f32) (x7 : Vec 𝔽 S1x256 .f32) (x8 : Vec 𝔽 S1x256 .f32) (x9 : Vec 𝔽 S1x256 .f32) (xs1 : Vec 𝔽 S552x256 .f32)

theorem rowsA (r : Fin 512) (k : Fin 1024) :
    kernelRun0_A.sl.v59 c arg2 harg2 arg3 harg3 arg4 harg4 arg14 x0 x1 x2 (ix2 r k)
      = Ffn.hidden (fun k => x0 (ix3 0 r k)) (fun k => x2 (ix2 0 k)) (fun k => x1 (ix3 0 0 k)) (fun k => x1 (ix3 0 1 k)) k := by
  unfold kernelRun0_A.sl.v59 kernelRun0_A.sl.HS0_1
  rw [View.readCov_unit_zero _ (by decide)]
  simp only [load]
  refine (pay2_at ..).trans ?_
  pointwise

theorem firstA (hc0 : cond0_0 i) (hc1 : ¬cond0_1 i) (r : Fin 512) (k : Fin 2048) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 (ix3 0 r k)
      = inRow (dot (Ffn.hidden (fun k => x0 (ix3 0 r k)) (fun k => x2 (ix2 0 k)) (fun k => x1 (ix3 0 0 k)) (fun k => x1 (ix3 0 1 k))) fun k f => x3 (ix2 k f))
          (fun l => x4 (ix3 0 r l)) (fun l => x5 (ix3 0 r l)) k := by
  unfold out0_A_10 kernelRun0_A
  dsimp only
  rw [View.read_writes_junk_eq_canon]
  simp only [kernelRun0_A.sl.r, kernelRun0_A.sl.r_1, kernelRun0_A.sl.r_2, kernelRun0_A.sl.r_3, kernelRun0_A.sl.r_4, kernelRun0_A.sl.r_5, kernelRun0_A.sl.r_6, load]
  refine (slices_at (kernelRun0_A.sl.v59 c arg2 harg2 arg3 harg3 arg4 harg4 arg14 x0 x1 x2) _ _ x3 r k).trans ?_
  rw [funext (rowsA c arg2 harg2 arg3 harg3 arg4 harg4 arg14 x0 x1 x2 r)]
  congr 1 <;> funext l <;> pointwise [k0_pay3, k0_pay4]

theorem rowsB (r : Fin 512) (k : Fin 1024) :
    kernelRun0_B.sl.v59 c arg2 harg2 arg3 harg3 arg4 harg4 arg14 x0 x1 x2 (ix2 r k)
      = Ffn.hidden (fun k => x0 (ix3 0 r k)) (fun k => x2 (ix2 0 k)) (fun k => x1 (ix3 0 0 k)) (fun k => x1 (ix3 0 1 k)) k := by
  unfold kernelRun0_B.sl.v59 kernelRun0_B.sl.HS0_1
  rw [View.readCov_unit_zero _ (by decide)]
  simp only [load]
  refine (pay2_at ..).trans ?_
  pointwise

theorem firstB (hc0 : ¬cond0_0 i) (hc1 : cond0_1 i) (r : Fin 512) (k : Fin 2048) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs1 (ix3 0 r k)
      = inRow (dot (Ffn.hidden (fun k => x0 (ix3 0 r k)) (fun k => x2 (ix2 0 k)) (fun k => x1 (ix3 0 0 k)) (fun k => x1 (ix3 0 1 k))) fun k f => x3 (ix2 k f))
          (fun l => x4 (ix3 0 r l)) (fun l => x5 (ix3 0 r l)) k := by
  unfold out0_B_10 kernelRun0_B
  dsimp only
  rw [View.read_writes_junk_eq_canon]
  simp only [kernelRun0_B.sl.r, kernelRun0_B.sl.r_1, kernelRun0_B.sl.r_2, kernelRun0_B.sl.r_3, kernelRun0_B.sl.r_4, kernelRun0_B.sl.r_5, kernelRun0_B.sl.r_6, load]
  refine (slices_at (kernelRun0_B.sl.v59 c arg2 harg2 arg3 harg3 arg4 harg4 arg14 x0 x1 x2) _ _ x3 r k).trans ?_
  rw [funext (rowsB c arg2 harg2 arg3 harg3 arg4 harg4 arg14 x0 x1 x2 r)]
  congr 1 <;> funext l <;> pointwise [k0_pay3, k0_pay4]

end Run
end Cert.InProj
end
-- ==== Proof.InProj.Ref.lean ====
/-
  The reference's input projection, read at an index, is the same function of one row of tokens (`Row.lean`).
-/
module

public import proofs.«01_k».proof.Proof.Gen.Reference5Ideal.Read
public import proofs.«01_k».proof.Proof.Ffn.Ref
public import proofs.«01_k».proof.Proof.InProj.Row
public import Idealize.ShloMosaic.Lib.Pointwise

@[expose] public section
set_option maxRecDepth 16384
noncomputable section
namespace Cert.InProj.Ref
open Idealize.ShloMosaic Idealize.ShloMosaic.TcCoe Cert.Reference5Ideal Cert.Reference5Ideal.Read
open Cert.Ffn (Row dot)

local notation "𝔽" => Ideal

/-- Four heads turned, as the reference turns them. -/
def turned (T : FVec 𝔽 S16x2048x256 .f32) (c s : FVec 𝔽 S16x2048x128 .f32) : FVec 𝔽 S16x2048x256 .f32 :=
  shapeCast _
    (addf (mulf (shapeCast S16x2048x4x64 T Gen.shapeCasts_S16x2048x256_S16x2048x4x64) (val_main_v38 (F := 𝔽) c))
      (mulf
        (concatenate S16x2048x4x64 3
          [⟨S16x2048x4x32, extractStridedSlice S16x2048x4x32 ![0, 0, 0, 32] (shapeCast S16x2048x4x64 T Gen.shapeCasts_S16x2048x256_S16x2048x4x64) Gen.slices_S16x2048x4x64_S16x2048x4x32_0_0_0_32⟩,
            ⟨S16x2048x4x32, extractStridedSlice S16x2048x4x32 ![0, 0, 0, 0] (shapeCast S16x2048x4x64 T Gen.shapeCasts_S16x2048x256_S16x2048x4x64) Gen.slices_S16x2048x4x64_S16x2048x4x32_0_0_0_0⟩]
          Gen.concatenates_S16x2048x4x32_S16x2048x4x32_S16x2048x4x64_d3)
        (val_main_v40 (F := 𝔽) s))) Gen.shapeCasts_S16x2048x4x64_S16x2048x256

theorem table_at (c : FVec 𝔽 S16x2048x128 .f32) (b : Fin 16) (p : Fin 2048) (g : Fin 4) (j : Fin 64) :
    val_main_v38 (F := 𝔽) c (ix4 b p g j) = c (ix3 b p ⟨(64 * g.val + j.val) % 128, by omega⟩) := by
  have e : ∀ l : Fin 256, val_main_v37 (F := 𝔽) c (ix3 b p l) = c (ix3 b p ⟨l.val % 128, by omega⟩) := fun l => by
    by_cases hl : l.val < 128
    · pointwise [val_main_v37]
      refine (dif_pos hl).trans (congrArg c (congrArg (ix3 b p) (Fin.ext ?_)))
      show l.val = l.val % 128
      omega
    · pointwise [val_main_v37]
      refine (dif_neg hl).trans (congrArg c (congrArg (ix3 b p) (Fin.ext ?_)))
      show l.val - 128 = l.val % 128
      omega
  pointwise [val_main_v38]
  rw [e]
  refine congrArg c (congrArg (ix3 b p) (Fin.ext ?_))
  show (g.val * 64 + j.val) % 128 = (64 * g.val + j.val) % 128
  omega

theorem turned_at (T : FVec 𝔽 S16x2048x256 .f32) (c s : FVec 𝔽 S16x2048x128 .f32) (b : Fin 16) (p : Fin 2048) (l : Fin 256) :
    turned T c s (ix3 b p l) = turn (fun l => T (ix3 b p l)) (fun l => c (ix3 b p l)) (fun l => s (ix3 b p l)) l := by
  have hc := table_at c b p
  have hs : ∀ g j, val_main_v40 (F := 𝔽) s (ix4 b p g j) = _ := table_at s b p
  unfold turned turn
  generalize val_main_v38 (F := 𝔽) c = C at hc ⊢
  generalize val_main_v40 (F := 𝔽) s = S at hs ⊢
  pointwise
  rw [hc, hs]
  have e : ∀ h, (⟨(64 * (l.val / 64) + l.val % 64) % 128, h⟩ : Fin 128) = ⟨l.val % 128, by omega⟩ := fun h => Fin.ext (by show (64 * (l.val / 64) + l.val % 64) % 128 = l.val % 128; omega)
  simp only [e]
  refine congrArg (fun z : EReal => T (ix3 b p l) * c (ix3 b p ⟨l.val % 128, by omega⟩) + z * s (ix3 b p ⟨l.val % 128, by omega⟩)) ?_
  by_cases hl : l.val % 64 < 32
  · refine (dif_pos hl).trans (congrArg T (congrArg (ix3 b p) (Fin.ext ?_)))
    rw [other_val, if_pos hl]
    show l.val / 64 * 64 + (32 + l.val % 64) = _
    omega
  · refine (dif_neg hl).trans (congrArg T (congrArg (ix3 b p) (Fin.ext ?_)))
    rw [other_val, if_neg hl]
    show l.val / 64 * 64 + (l.val % 64 - 32) = _
    omega

theorem v44_eq (x0 : FVec 𝔽 S16x2048x1024 .f32) (x1 : FVec 𝔽 S16x6x1024 .f32) (x2 : FVec 𝔽 S1024 .f32) (x3 : FVec 𝔽 S1024x2560 .bf16) (x4 x5 : FVec 𝔽 S16x2048x128 .f32) :
    val_main_v44 (F := 𝔽) x0 x1 x2 x3 x4 x5 = turned (val_main_v23 (F := 𝔽) x0 x1 x2 x3) x4 x5 := by
  unfold val_main_v44 val_main_v43 val_main_v42 val_main_v41 val_main_v36 val_main_v35 val_main_v34 val_main_v33 turned
  rfl

theorem v56_eq (x0 : FVec 𝔽 S16x2048x1024 .f32) (x1 : FVec 𝔽 S16x6x1024 .f32) (x2 : FVec 𝔽 S1024 .f32) (x3 : FVec 𝔽 S1024x2560 .bf16) (x4 x5 : FVec 𝔽 S16x2048x128 .f32) :
    val_main_v56 (F := 𝔽) x0 x1 x2 x3 x4 x5 = turned (val_main_v24 (F := 𝔽) x0 x1 x2 x3) x4 x5 := by
  unfold val_main_v56 val_main_v55 val_main_v54 val_main_v53 val_main_v52 val_main_v51 val_main_v50 val_main_v49 val_main_v48 val_main_v47 val_main_v46 val_main_v45 turned val_main_v38 val_main_v37 val_main_v40 val_main_v39
  rfl

theorem v68_eq (x0 : FVec 𝔽 S16x2048x1024 .f32) (x1 : FVec 𝔽 S16x6x1024 .f32) (x2 : FVec 𝔽 S1024 .f32) (x3 : FVec 𝔽 S1024x2560 .bf16) (x4 x5 : FVec 𝔽 S16x2048x128 .f32) :
    val_main_v68 (F := 𝔽) x0 x1 x2 x3 x4 x5 = turned (val_main_v26 (F := 𝔽) x0 x1 x2 x3) x4 x5 := by
  unfold val_main_v68 val_main_v67 val_main_v66 val_main_v65 val_main_v64 val_main_v63 val_main_v62 val_main_v61 val_main_v60 val_main_v59 val_main_v58 val_main_v57 turned val_main_v38 val_main_v37 val_main_v40 val_main_v39
  rfl

theorem v80_eq (x0 : FVec 𝔽 S16x2048x1024 .f32) (x1 : FVec 𝔽 S16x6x1024 .f32) (x2 : FVec 𝔽 S1024 .f32) (x3 : FVec 𝔽 S1024x2560 .bf16) (x4 x5 : FVec 𝔽 S16x2048x128 .f32) :
    val_main_v80 (F := 𝔽) x0 x1 x2 x3 x4 x5 = turned (val_main_v27 (F := 𝔽) x0 x1 x2 x3) x4 x5 := by
  unfold val_main_v80 val_main_v79 val_main_v78 val_main_v77 val_main_v76 val_main_v75 val_main_v74 val_main_v73 val_main_v72 val_main_v71 val_main_v70 val_main_v69 turned val_main_v38 val_main_v37 val_main_v40 val_main_v39
  rfl

/-- The gate's function of an array, as the reference writes it. -/
def gelus (T : FVec 𝔽 S16x2048x256 .f32) : FVec 𝔽 S16x2048x256 .f32 :=
  mulf T (mulf (val_main_v91 (F := 𝔽)) (addf (val_main_v89 (F := 𝔽)) (Host.tanh (mulf (val_main_v86 (F := 𝔽))
    (addf T (mulf (val_main_v83 (F := 𝔽)) (mulf (mulf T T) T)))))))

theorem gelus_at (T : FVec 𝔽 S16x2048x256 .f32) (b : Fin 16) (p : Fin 2048) (l : Fin 256) : gelus T (ix3 b p l) = gelu (T (ix3 b p l)) := by
  unfold gelu
  pointwise [gelus, val_main_v91, val_main_v89, val_main_v86, val_main_v83, val_main_cst_3, val_main_cst_4, val_main_cst_5, val_main_cst_6]
  rw [← mul_assoc, mul_comm (T _) (Ideal.ofBits FTy.f32 0x3F000000#32)]

section Arrays
variable (x0 : FVec 𝔽 S16x2048x1024 .f32) (x1 : FVec 𝔽 S16x6x1024 .f32) (x2 : FVec 𝔽 S1024 .f32) (x3 : FVec 𝔽 S1024x2560 .bf16)
  (x4 x5 : FVec 𝔽 S16x2048x128 .f32)

theorem v93_eq : val_main_v93 (F := 𝔽) x0 x1 x2 x3 = gelus (val_main_v29 (F := 𝔽) x0 x1 x2 x3) := by
  unfold val_main_v93 val_main_v92 val_main_v90 val_main_v88 val_main_v87 val_main_v85 val_main_v84 val_main_v82 val_main_v81 gelus
  rfl
theorem v106_eq : val_main_v106 (F := 𝔽) x0 x1 x2 x3 = gelus (val_main_v30 (F := 𝔽) x0 x1 x2 x3) := by
  unfold val_main_v106 val_main_v105 val_main_v103 val_main_v101 val_main_v100 val_main_v98 val_main_v97 val_main_v95 val_main_v94 gelus
  rfl

theorem v12_eq : val_main_v12 (F := 𝔽) x0 x2 = Cert.Ffn.Ref.rmsnorm x2 x0 := by
  unfold val_main_v12 val_main_v11 val_main_v10 val_main_v9 val_main_v8 val_main_v7 val_main_v6 val_main_v5 val_main_v4 val_main_v3 val_main_v2 val_main_v1 val_main_v0 val_main_cst val_main_cst_0 val_main_cst_1 Cert.Ffn.Ref.rmsnorm
  rfl

theorem v16_at (b : Fin 16) (p : Fin 2048) (k : Fin 1024) : val_main_v16 (F := 𝔽) x1 (ix3 b p k) = 1 + x1 (ix3 b 1 k) := by
  pointwise [val_main_v16, val_main_v15, val_main_v14, val_main_v13, val_main_cst_2]
theorem v19_at (b : Fin 16) (p : Fin 2048) (k : Fin 1024) : val_main_v19 (F := 𝔽) x1 (ix3 b p k) = x1 (ix3 b 0 k) := by
  pointwise [val_main_v19, val_main_v18]

theorem v20_at (b : Fin 16) (p : Fin 2048) (k : Fin 1024) :
    val_main_v20 (F := 𝔽) x0 x1 x2 (ix3 b p k)
      = Ffn.hidden (fun k => x0 (ix3 b p k)) (fun k => x2 (ix1 k)) (fun k => x1 (ix3 b 0 k)) (fun k => x1 (ix3 b 1 k)) k := by
  rw [val_main_v20_apply, val_main_v17_apply, v12_eq, v16_at, v19_at]
  rw [Cert.Ffn.Ref.rmsnorm_at]
  rfl

/-- The projected row. -/
abbrev row (b : Fin 16) (p : Fin 2048) : Row 2560 :=
  dot (Ffn.hidden (fun k => x0 (ix3 b p k)) (fun k => x2 (ix1 k)) (fun k => x1 (ix3 b 0 k)) (fun k => x1 (ix3 b 1 k))) fun k f => x3 (ix2 k f)

theorem v22_at (b : Fin 16) (p : Fin 2048) (f : Fin 2560) : val_main_v22 (F := 𝔽) x0 x1 x2 x3 (ix3 b p f) = row x0 x1 x2 x3 b p f := by
  have h := v20_at x0 x1 x2 b p
  unfold row dot
  simp only [← h]
  unfold val_main_v22
  generalize val_main_v20 (F := 𝔽) x0 x1 x2 = H
  pointwise [val_main_v21]

theorem v23_at (b : Fin 16) (p : Fin 2048) (l : Fin 256) : val_main_v23 (F := 𝔽) x0 x1 x2 x3 (ix3 b p l) = cut (row x0 x1 x2 x3 b p) 0 l := by
  unfold cut val_main_v23
  rw [← v22_at]
  generalize val_main_v22 (F := 𝔽) x0 x1 x2 x3 = H
  pointwise

theorem v24_at (b : Fin 16) (p : Fin 2048) (l : Fin 256) : val_main_v24 (F := 𝔽) x0 x1 x2 x3 (ix3 b p l) = cut (row x0 x1 x2 x3 b p) 1 l := by
  unfold cut val_main_v24
  rw [← v22_at]
  generalize val_main_v22 (F := 𝔽) x0 x1 x2 x3 = H
  pointwise

theorem v25_at (b : Fin 16) (p : Fin 2048) (l : Fin 256) : val_main_v25 (F := 𝔽) x0 x1 x2 x3 (ix3 b p l) = cut (row x0 x1 x2 x3 b p) 2 l := by
  unfold cut val_main_v25
  rw [← v22_at]
  generalize val_main_v22 (F := 𝔽) x0 x1 x2 x3 = H
  pointwise

theorem v26_at (b : Fin 16) (p : Fin 2048) (l : Fin 256) : val_main_v26 (F := 𝔽) x0 x1 x2 x3 (ix3 b p l) = cut (row x0 x1 x2 x3 b p) 3 l := by
  unfold cut val_main_v26
  rw [← v22_at]
  generalize val_main_v22 (F := 𝔽) x0 x1 x2 x3 = H
  pointwise

theorem v27_at (b : Fin 16) (p : Fin 2048) (l : Fin 256) : val_main_v27 (F := 𝔽) x0 x1 x2 x3 (ix3 b p l) = cut (row x0 x1 x2 x3 b p) 4 l := by
  unfold cut val_main_v27
  rw [← v22_at]
  generalize val_main_v22 (F := 𝔽) x0 x1 x2 x3 = H
  pointwise

theorem v28_at (b : Fin 16) (p : Fin 2048) (l : Fin 256) : val_main_v28 (F := 𝔽) x0 x1 x2 x3 (ix3 b p l) = cut (row x0 x1 x2 x3 b p) 5 l := by
  unfold cut val_main_v28
  rw [← v22_at]
  generalize val_main_v22 (F := 𝔽) x0 x1 x2 x3 = H
  pointwise

theorem v29_at (b : Fin 16) (p : Fin 2048) (l : Fin 256) : val_main_v29 (F := 𝔽) x0 x1 x2 x3 (ix3 b p l) = cut (row x0 x1 x2 x3 b p) 6 l := by
  unfold cut val_main_v29
  rw [← v22_at]
  generalize val_main_v22 (F := 𝔽) x0 x1 x2 x3 = H
  pointwise

theorem v30_at (b : Fin 16) (p : Fin 2048) (l : Fin 256) : val_main_v30 (F := 𝔽) x0 x1 x2 x3 (ix3 b p l) = cut (row x0 x1 x2 x3 b p) 7 l := by
  unfold cut val_main_v30
  rw [← v22_at]
  generalize val_main_v22 (F := 𝔽) x0 x1 x2 x3 = H
  pointwise

/-- The eight slices of the result. -/
def slices : Fin 8 → FVec 𝔽 S16x2048x256 .f32 :=
  ![(val_main_v44 (F := 𝔽) x0 x1 x2 x3 x4 x5), (val_main_v56 (F := 𝔽) x0 x1 x2 x3 x4 x5), (val_main_v25 (F := 𝔽) x0 x1 x2 x3), (val_main_v68 (F := 𝔽) x0 x1 x2 x3 x4 x5), (val_main_v80 (F := 𝔽) x0 x1 x2 x3 x4 x5), (val_main_v28 (F := 𝔽) x0 x1 x2 x3), (val_main_v93 (F := 𝔽) x0 x1 x2 x3), (val_main_v106 (F := 𝔽) x0 x1 x2 x3)]

theorem slices_at (g : Fin 8) (b : Fin 16) (p : Fin 2048) (l : Fin 256) :
    slices x0 x1 x2 x3 x4 x5 g (ix3 b p l) = part (row x0 x1 x2 x3 b p) (fun l => x4 (ix3 b p l)) (fun l => x5 (ix3 b p l)) g l := by
  match g with
  | 0 =>
    show val_main_v44 (F := 𝔽) x0 x1 x2 x3 x4 x5 (ix3 b p l) = turn (cut (row x0 x1 x2 x3 b p) 0) (fun l => x4 (ix3 b p l)) (fun l => x5 (ix3 b p l)) l
    rw [v44_eq, turned_at, funext (v23_at x0 x1 x2 x3 b p)]
  | 1 =>
    show val_main_v56 (F := 𝔽) x0 x1 x2 x3 x4 x5 (ix3 b p l) = turn (cut (row x0 x1 x2 x3 b p) 1) (fun l => x4 (ix3 b p l)) (fun l => x5 (ix3 b p l)) l
    rw [v56_eq, turned_at, funext (v24_at x0 x1 x2 x3 b p)]
  | 2 =>
    show val_main_v25 (F := 𝔽) x0 x1 x2 x3 (ix3 b p l) = cut (row x0 x1 x2 x3 b p) 2 l
    rw [v25_at]
  | 3 =>
    show val_main_v68 (F := 𝔽) x0 x1 x2 x3 x4 x5 (ix3 b p l) = turn (cut (row x0 x1 x2 x3 b p) 3) (fun l => x4 (ix3 b p l)) (fun l => x5 (ix3 b p l)) l
    rw [v68_eq, turned_at, funext (v26_at x0 x1 x2 x3 b p)]
  | 4 =>
    show val_main_v80 (F := 𝔽) x0 x1 x2 x3 x4 x5 (ix3 b p l) = turn (cut (row x0 x1 x2 x3 b p) 4) (fun l => x4 (ix3 b p l)) (fun l => x5 (ix3 b p l)) l
    rw [v80_eq, turned_at, funext (v27_at x0 x1 x2 x3 b p)]
  | 5 =>
    show val_main_v28 (F := 𝔽) x0 x1 x2 x3 (ix3 b p l) = cut (row x0 x1 x2 x3 b p) 5 l
    rw [v28_at]
  | 6 =>
    show val_main_v93 (F := 𝔽) x0 x1 x2 x3 (ix3 b p l) = gelu (cut (row x0 x1 x2 x3 b p) 6 l)
    rw [v93_eq, gelus_at, v29_at]
  | 7 =>
    show val_main_v106 (F := 𝔽) x0 x1 x2 x3 (ix3 b p l) = gelu (cut (row x0 x1 x2 x3 b p) 7 l)
    rw [v106_eq, gelus_at, v30_at]

theorem v107_slice (b : Fin 16) (p : Fin 2048) (k : Fin 2048) :
    val_main_v107 (F := 𝔽) x0 x1 x2 x3 x4 x5 (ix3 b p k) = slices x0 x1 x2 x3 x4 x5 ⟨k.val / 256, by omega⟩ (ix3 b p ⟨k.val % 256, by omega⟩) := by
  unfold val_main_v107 slices
  generalize (val_main_v44 (F := 𝔽) x0 x1 x2 x3 x4 x5) = A0
  generalize (val_main_v56 (F := 𝔽) x0 x1 x2 x3 x4 x5) = A1
  generalize (val_main_v25 (F := 𝔽) x0 x1 x2 x3) = A2
  generalize (val_main_v68 (F := 𝔽) x0 x1 x2 x3 x4 x5) = A3
  generalize (val_main_v80 (F := 𝔽) x0 x1 x2 x3 x4 x5) = A4
  generalize (val_main_v28 (F := 𝔽) x0 x1 x2 x3) = A5
  generalize (val_main_v93 (F := 𝔽) x0 x1 x2 x3) = A6
  generalize (val_main_v106 (F := 𝔽) x0 x1 x2 x3) = A7
  pointwise
  by_cases h0 : k.val < 256
  · refine (dif_pos h0).trans ?_
    rw [show (⟨k.val / 256, by omega⟩ : Fin 8) = 0 from Fin.ext (by show k.val / 256 = 0; omega)]
    refine congrArg A0 (congrArg (ix3 b p) (Fin.ext ?_))
    show k.val = k.val % 256
    omega
  refine (dif_neg h0).trans ?_
  by_cases h1 : k.val - 256 < 256
  · refine (dif_pos h1).trans ?_
    rw [show (⟨k.val / 256, by omega⟩ : Fin 8) = 1 from Fin.ext (by show k.val / 256 = 1; omega)]
    refine congrArg A1 (congrArg (ix3 b p) (Fin.ext ?_))
    show k.val - 256 = k.val % 256
    omega
  refine (dif_neg h1).trans ?_
  by_cases h2 : k.val - 256 - 256 < 256
  · refine (dif_pos h2).trans ?_
    rw [show (⟨k.val / 256, by omega⟩ : Fin 8) = 2 from Fin.ext (by show k.val / 256 = 2; omega)]
    refine congrArg A2 (congrArg (ix3 b p) (Fin.ext ?_))
    show k.val - 256 - 256 = k.val % 256
    omega
  refine (dif_neg h2).trans ?_
  by_cases h3 : k.val - 256 - 256 - 256 < 256
  · refine (dif_pos h3).trans ?_
    rw [show (⟨k.val / 256, by omega⟩ : Fin 8) = 3 from Fin.ext (by show k.val / 256 = 3; omega)]
    refine congrArg A3 (congrArg (ix3 b p) (Fin.ext ?_))
    show k.val - 256 - 256 - 256 = k.val % 256
    omega
  refine (dif_neg h3).trans ?_
  by_cases h4 : k.val - 256 - 256 - 256 - 256 < 256
  · refine (dif_pos h4).trans ?_
    rw [show (⟨k.val / 256, by omega⟩ : Fin 8) = 4 from Fin.ext (by show k.val / 256 = 4; omega)]
    refine congrArg A4 (congrArg (ix3 b p) (Fin.ext ?_))
    show k.val - 256 - 256 - 256 - 256 = k.val % 256
    omega
  refine (dif_neg h4).trans ?_
  by_cases h5 : k.val - 256 - 256 - 256 - 256 - 256 < 256
  · refine (dif_pos h5).trans ?_
    rw [show (⟨k.val / 256, by omega⟩ : Fin 8) = 5 from Fin.ext (by show k.val / 256 = 5; omega)]
    refine congrArg A5 (congrArg (ix3 b p) (Fin.ext ?_))
    show k.val - 256 - 256 - 256 - 256 - 256 = k.val % 256
    omega
  refine (dif_neg h5).trans ?_
  by_cases h6 : k.val - 256 - 256 - 256 - 256 - 256 - 256 < 256
  · refine (dif_pos h6).trans ?_
    rw [show (⟨k.val / 256, by omega⟩ : Fin 8) = 6 from Fin.ext (by show k.val / 256 = 6; omega)]
    refine congrArg A6 (congrArg (ix3 b p) (Fin.ext ?_))
    show k.val - 256 - 256 - 256 - 256 - 256 - 256 = k.val % 256
    omega
  refine (dif_neg h6).trans ?_
  rw [show (⟨k.val / 256, by omega⟩ : Fin 8) = 7 from Fin.ext (by show k.val / 256 = 7; omega)]
  refine congrArg A7 (congrArg (ix3 b p) (Fin.ext ?_))
  show k.val - 256 - 256 - 256 - 256 - 256 - 256 - 256 = k.val % 256
  omega

theorem v108_at (b : Fin 16) (p : Fin 2048) (k : Fin 2048) :
    val_main_v108 (F := 𝔽) x0 x1 x2 x3 x4 x5 (ix3 b p k)
      = inRow (row x0 x1 x2 x3 b p) (fun l => x4 (ix3 b p l)) (fun l => x5 (ix3 b p l)) k := by
  rw [val_main_v108_apply]
  refine (v107_slice x0 x1 x2 x3 x4 x5 b p k).trans ?_
  rw [slices_at]
  rfl
end Arrays

end Cert.InProj.Ref
end
-- ==== Proof.InProj.Arrays.lean ====
/-
  The input projection's first array after its run: every output block at its place.
-/
module

public import proofs.«01_k».proof.Proof.Gen.Kernel5Ideal.Value
public import proofs.«01_k».proof.Proof.InProj.Block
public import proofs.«01_k».proof.Proof.InProj.Ref
public import Idealize.ShloMosaic.Lib.Pipeline.ValueKit

@[expose] public section
set_option maxRecDepth 16384
noncomputable section
namespace Cert.InProj
open Idealize.ShloMosaic Idealize.ShloMosaic.TcCoe Cert.Kernel5Ideal Cert.Kernel5Ideal.Gen
open Cert.Ffn (Row dot)

local notation "𝔽" => Ideal
variable (m : (ℓ : Loc nD τ sig) → Buf (Elt 𝔽) ℓ) (c : Dev nD)

/-- Which block each window shows at each grid point. -/
theorem idx : ∀ t : Fin cfg0.N, win0_0.index t = ![t.val / 4, t.val % 4, 0] ∧ win0_1.index t = ![t.val / 4, 0, 0]
    ∧ win0_2.index t = ![0, 0] ∧ win0_3.index t = ![0, 0]
    ∧ win0_4.index t = ![t.val / 4, t.val % 4, 0] ∧ win0_5.index t = ![t.val / 4, t.val % 4, 0] ∧ win0_10.index t = ![t.val / 4, t.val % 4, 0] :=
  (by decide +kernel : ∀ t : Fin grid0.N, _)

/-- The batch entry a grid point works on, and the token its block row is. -/
def bOf (t : Fin cfg0.N) : Fin 16 := ⟨t.val / 4, by have : t.val < 64 := t.isLt; omega⟩
def rowOf (t : Fin cfg0.N) (r : Fin 512) : Fin 2048 := ⟨t.val % 4 * 512 + r.val, by omega⟩

theorem b0 (t : Fin cfg0.N) (r : Fin 512) (k : Fin 1024) :
    iblk m c 0 t (ix3 0 r k) = m ((c.tc : Thread nD τ).loc main_arg0) (ix3 (bOf t) (rowOf t r) k) := by
  unfold bOf rowOf
  blk_ext [iblk, V, idx t]

theorem b1 (t : Fin cfg0.N) (q : Fin 6) (k : Fin 1024) :
    iblk m c 1 t (ix3 0 q k) = m ((c.tc : Thread nD τ).loc main_arg1) (ix3 (bOf t) q k) := by
  unfold bOf
  blk_ext [iblk, V, idx t]

/-- The gain is read through its copy as a one-row array. -/
theorem b2 (t : Fin cfg0.N) (k : Fin 1024) :
    iblk m c 2 t (ix2 0 k) = m ((c.tc : Thread nD τ).loc main_arg2) (ix1 k) := by
  have h : V m c main_v0 = shapeCast S1x1024 (m ((c.tc : Thread nD τ).loc main_arg2)) shapeCasts_S1024_S1x1024 := by
    unfold V
    entry_read
    rfl
  have e : iblk m c 2 t = fun y => V m c main_v0 (ix2 0 (y 1)) := by
    funext y
    blk_ext [iblk, idx t]
  rw [e, h]
  pointwise

theorem b3 (t : Fin cfg0.N) (k : Fin 1024) (f : Fin 2560) :
    iblk m c 3 t (ix2 k f) = m ((c.tc : Thread nD τ).loc main_arg3) (ix2 k f) := by
  blk_ext [iblk, V, idx t]

theorem b4 (t : Fin cfg0.N) (r : Fin 512) (k : Fin 128) :
    iblk m c 4 t (ix3 0 r k) = m ((c.tc : Thread nD τ).loc main_arg4) (ix3 (bOf t) (rowOf t r) k) := by
  unfold bOf rowOf
  blk_ext [iblk, V, idx t]

theorem b5 (t : Fin cfg0.N) (r : Fin 512) (k : Fin 128) :
    iblk m c 5 t (ix3 0 r k) = m ((c.tc : Thread nD τ).loc main_arg5) (ix3 (bOf t) (rowOf t r) k) := by
  unfold bOf rowOf
  blk_ext [iblk, V, idx t]

theorem at_index (t : Fin cfg0.N) (y : ((cfg0.win 10).xblock (cfg0.grid.coords t)).Idx) :
    ∃ (r : Fin 512) (k : Fin 2048), (cfg0.win 10).xinj (cfg0.grid.coords t) y = (ix3 0 r k : S1x512x2048.Idx)
      ∧ ((cfg0.win 10).blk t).view.emb y = (ix3 (bOf t) (rowOf t r) k : S16x2048x2048.Idx) := by
  have h0 : (y 0).val < 1 := (y 0).isLt
  refine ⟨y 1, y 2, ?_, ?_⟩
  · blk_ext [idx t]
  · unfold bOf rowOf
    blk_ext [idx t]

/-- What a grid point leaves in its first output block, first tile of a batch entry or not. -/
theorem out_at (t : Fin cfg0.N) (r : Fin 512) (k : Fin 2048) :
    (outsAt0 m c t.val t.isLt).1 (ix3 0 r k)
      = inRow (dot (Ffn.hidden (fun k => iblk m c 0 t (ix3 0 r k)) (fun k => iblk m c 2 t (ix2 0 k)) (fun k => iblk m c 1 t (ix3 0 0 k)) (fun k => iblk m c 1 t (ix3 0 1 k)))
            fun k f => iblk m c 3 t (ix2 k f))
          (fun l => iblk m c 4 t (ix3 0 r l)) (fun l => iblk m c 5 t (ix3 0 r l)) k := by
  by_cases h0 : t.val % 4 = 0
  · rw [outsAt0_A m c t h0 (by omega)]
    dsimp only
    rw [firstA]
  · rw [outsAt0_B m c t h0 (by omega)]
    dsimp only
    rw [firstB]

/-- The output array is the reference's result. -/
theorem result10 : (dats m 0 c).arrAt 10 cfg0.N
    = Cert.Reference5Ideal.Read.val_main_v108 (F := 𝔽) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 10 _ (by decide +kernel) fun t hf y => ?_
  rw [after0_10]
  obtain ⟨r, k, hy, he⟩ := at_index t y
  rw [hy, he]
  rw [cast_eq, out_at, Ref.v108_at]
  simp only [b0, b1, b2, b3, b4, b5]

end Cert.InProj
end
-- ==== Proof.InProj.Claims.lean ====
/- The claims about the input projection: the kernel's first output array is the reference's. -/
module

public import proofs.«01_k».proof.Defs
public import proofs.«01_k».proof.Proof.Gen.Kernel5
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.InProj.Arrays
public import Idealize.ShloMosaic.Adequacy
public import Idealize.ShloMosaic.Init

@[expose] public section

noncomputable section

namespace Cert.Proof

open Idealize.ShloMosaic Idealize.SL.Sem Idealize.ShloMosaic.StableHlo

/-! ## The input projection -/

theorem frame_kernel5 : Cert.quiescent_Kernel5 := fun m ρ _ => Cert.Kernel5.Gen.frame m ρ

theorem frame_ideal5 : Cert.quiescent_Kernel5Ideal := fun m ρ _ => Cert.Kernel5Ideal.Gen.frame m ρ

theorem frame_refIdeal5 : Cert.quiescent_Reference5Ideal := fun m ρ _ =>
  (θ_run Cert.Reference5Ideal.defs _ _).mono
    (fun r h => ⟨fun c => (h c).2, Idealize.ShloMosaic.sem_eq_zero_of_no_sems (by decide) r.2⟩)
    (Cert.Reference5Ideal.Value.run (F := Ideal) m ρ)

theorem v108_congr {a0 b0 : FVec Ideal Cert.Reference5Ideal.S16x2048x1024 .f32} {a1 b1 : FVec Ideal Cert.Reference5Ideal.S16x6x1024 .f32} {a2 b2 : FVec Ideal Cert.Reference5Ideal.S1024 .f32} {a3 b3 : FVec Ideal Cert.Reference5Ideal.S1024x2560 .bf16} {a4 b4 : FVec Ideal Cert.Reference5Ideal.S16x2048x128 .f32} {a5 b5 : FVec Ideal Cert.Reference5Ideal.S16x2048x128 .f32}
    (h0 : a0 = b0) (h1 : a1 = b1) (h2 : a2 = b2) (h3 : a3 = b3) (h4 : a4 = b4) (h5 : a5 = b5) :
    Cert.Reference5Ideal.Read.val_main_v108 (F := Ideal) a0 a1 a2 a3 a4 a5 = Cert.Reference5Ideal.Read.val_main_v108 (F := Ideal) b0 b1 b2 b3 b4 b5 := by
  rw [h0, h1, h2, h3, h4, h5]

theorem value_ideal5 : Cert.algebraic_Kernel5Ideal_Reference5Ideal := by
  intro m g m' g' _ hagree
  refine ⟨_, (θ_run Cert.Kernel5Ideal.defs _ _).mono (fun _ h c => ⟨(h c).1.trans (Cert.InProj.result10 m c), (h c).2.2⟩)
    (Cert.Kernel5Ideal.Value.run_blocks (F := Ideal) m g), ?_⟩
  refine (θ_run Cert.Reference5Ideal.defs _ _).mono (fun _ h c => ⟨?_, (h c).2⟩) (Cert.Reference5Ideal.Value.run (F := Ideal) m' g')
  obtain ⟨h0, h1, h2, h3, h4, h5, _⟩ := hagree c
  exact (h c).1.trans ((Cert.Reference5Ideal.Read.val_main_v108_eq m' c).trans (v108_congr h0 h1 h2 h3 h4 h5))

end Cert.Proof

end
-- ==== Proof.Router.Block.lean ====
/-
  What one grid point of the routing layer's mixing kernel leaves in its first two output blocks, read at an index: the row
  after the mixing residual, and the modulated, normalised row the experts read.
-/
module

public import proofs.«01_k».proof.Proof.Gen.Kernel6Ideal.Frame
public import proofs.«01_k».proof.Proof.Ffn.Row
public import Idealize.ShloMosaic.Lib.Pointwise
public import Idealize.ShloMosaic.Lib.WholeRead
public import Idealize.ShloMosaic.Lib.Pipeline.Value
public import Idealize.ShloMosaic.Lib.Pipeline.ValueKit.Basic

@[expose] public section
set_option maxRecDepth 16384
noncomputable section
namespace Cert.Router
open Idealize.ShloMosaic Idealize.ShloMosaic.TcCoe Cert.Kernel6Ideal Cert.Kernel6Ideal.Gen Cert.Ffn

local notation "𝔽" => Ideal

/-- A group's row of a block, normalised without its weights. -/
def plain (o : Vec 𝔽 S1x512x256 .bf16) (r : Fin 512) : Row 256 := fun j =>
  o (ix3 0 r j) * Ideal.rsqrt (Ideal.div (∑ j, o (ix3 0 r j) * o (ix3 0 r j)) (Ideal.ofBits FTy.f32 0x43800000#32)
    + Ideal.ofBits FTy.f32 0x358637BD#32)

theorem pay4_at (o : Vec 𝔽 S1x512x256 .bf16) (r : Fin 512) (j : Fin 256) : k0_pay4 o (ix2 r j) = plain o r j := by
  unfold plain
  pointwise [k0_pay4]

theorem pay7_at (o : Vec 𝔽 S1x512x256 .bf16) (r : Fin 512) (j : Fin 256) : k0_pay7 o (ix2 r j) = plain o r j := by
  unfold plain
  pointwise [k0_pay7]

theorem pay5_at (g : Vec 𝔽 S1x256 .f32) (r : Fin 512) (j : Fin 256) : k0_pay5 g (ix2 r j) = g (ix2 0 j) := by
  pointwise [k0_pay5]

theorem pay3_at (o : Vec 𝔽 S1x512x256 .bf16) (g : Vec 𝔽 S1x256 .f32) (w : Vec 𝔽 S256x1024 .bf16) (r : Fin 512) (k : Fin 1024) :
    k0_pay3 o g w (ix2 r k) = ∑ j, plain o r j * g (ix2 0 j) * w (ix2 j k) := by
  unfold plain
  pointwise [k0_pay3]

theorem pay6_at (a : FVec 𝔽 S512x1024 .f32) (n g : FVec 𝔽 S512x256 .f32) (w : Vec 𝔽 S256x1024 .bf16) (o : Vec 𝔽 S1x512x256 .bf16)
    (g' : Vec 𝔽 S1x256 .f32) (w' : Vec 𝔽 S256x1024 .bf16) (r : Fin 512) (k : Fin 1024) :
    k0_pay6 a n g w o g' w' (ix2 r k)
      = a (ix2 r k) + (∑ j, n (ix2 r j) * g (ix2 r j) * w (ix2 j k)) + ∑ j, plain o r j * g' (ix2 0 j) * w' (ix2 j k) := by
  unfold plain
  pointwise [k0_pay6]

theorem pay8_at (a : FVec 𝔽 S512x1024 .f32) (n : FVec 𝔽 S512x256 .f32) (g : Vec 𝔽 S1x256 .f32) (w : Vec 𝔽 S256x1024 .bf16)
    (x : Vec 𝔽 S1x512x1024 .f32) (mo : Vec 𝔽 S1x6x1024 .f32) (pg : Vec 𝔽 S1x1024 .f32) (r : Fin 512) (k : Fin 1024) :
    k0_pay8 a n g w x mo pg (ix2 r k)
      = resid (fun k => x (ix3 0 r k)) (fun k => mo (ix3 0 2 k))
          (fun k => a (ix2 r k) + ∑ j, n (ix2 r j) * g (ix2 0 j) * w (ix2 j k)) (fun k => pg (ix2 0 k)) k := by
  unfold resid Ffn.norm
  pointwise [k0_pay8]

theorem pay10_at (a : FVec 𝔽 S512x1024 .f32) (n : FVec 𝔽 S512x256 .f32) (g : Vec 𝔽 S1x256 .f32) (w : Vec 𝔽 S256x1024 .bf16)
    (x : Vec 𝔽 S1x512x1024 .f32) (mo : Vec 𝔽 S1x6x1024 .f32) (pg : Vec 𝔽 S1x1024 .f32) (r : Fin 512) :
    k0_pay10 a n g w x mo pg (ix2 r 0)
      = Ideal.div (∑ k, k0_pay8 a n g w x mo pg (ix2 r k) * k0_pay8 a n g w x mo pg (ix2 r k)) (Ideal.ofBits FTy.f32 0x44800000#32)
        + Ideal.ofBits FTy.f32 0x358637BD#32 := by
  unfold k0_pay10
  generalize k0_pay8 a n g w x mo pg = y
  pointwise

theorem pay12_at (mo : FVec 𝔽 S6x1024 .f32) (y : FVec 𝔽 S512x1024 .f32) (q : FVec 𝔽 S512x1 .f32) (g : Vec 𝔽 S1x1024 .f32)
    (r : Fin 512) (k : Fin 1024) :
    k0_pay12 mo y q g (ix3 0 r k)
      = y (ix2 r k) * Ideal.rsqrt (q (ix2 r 0)) * g (ix2 0 k) * (1 + mo (ix2 4 k)) + mo (ix2 3 k) := by
  pointwise [k0_pay12, k0_pay11]

variable (x0 x1 x2 x3 : Vec 𝔽 S1x512x256 .bf16) (x4 : Vec 𝔽 S1x512x1024 .f32) (x5 : Vec 𝔽 S1x6x1024 .f32) (x6 : Vec 𝔽 S4x256 .f32)
  (x7 : Vec 𝔽 S1024x1024 .bf16) (x8 x9 : Vec 𝔽 S1x1024 .f32) (x10 : Vec 𝔽 S1024x128 .f32) (x11 : Vec 𝔽 S1x128 .f32)

/-- A block's row after the mixing residual. -/
def rowRes (r : Fin 512) : Row 1024 :=
  resid (fun k => x4 (ix3 0 r k)) (fun k => x5 (ix3 0 2 k))
    (mixed (fun g j => (![x0, x1, x2, x3] g) (ix3 0 r j)) (fun g j => x6 (ix2 g j)) (fun a k => x7 (ix2 a k))) (fun k => x8 (ix2 0 k))

theorem row_congr {x x' m m' y y' p p' : Row 1024} (hx : ∀ k, x k = x' k) (hm : ∀ k, m k = m' k) (hy : ∀ k, y k = y' k)
    (hp : ∀ k, p k = p' k) (k : Fin 1024) : resid x m y p k = resid x' m' y' p' k := by
  rw [funext hx, funext hm, funext hy, funext hp]

theorem pay28_at (r : Fin 512) (k : Fin 1024) :
    k0_pay28 x0 x1 x2 x3 x4 x5 x6 x7 x8 x9 x10 x11 (ix2 r k) = rowRes x0 x1 x2 x3 x4 x5 x6 x7 x8 r k := by
  unfold k0_pay28 k0_pay26 k0_pay27 rowRes
  refine (pay8_at _ _ _ _ _ _ _ r k).trans (row_congr (fun k => ?_) (fun k => ?_) (fun k => ?_) (fun k => ?_) k)
  · pointwise
  · pointwise
  · rw [pay6_at, pay3_at]
    simp only [pay4_at, pay5_at, pay7_at]
    unfold mixed Ffn.norm plain
    rw [Fin.sum_univ_four]
    pointwise
  · pointwise

/-- The first output block, at an index. -/
theorem out12_at (r : Fin 512) (k : Fin 1024) :
    out0_12 x0 x1 x2 x3 x4 x5 x6 x7 x8 x9 x10 x11 (ix3 0 r k) = rowRes x0 x1 x2 x3 x4 x5 x6 x7 x8 r k := by
  rw [← pay28_at x0 x1 x2 x3 x4 x5 x6 x7 x8 x9 x10 x11]
  unfold out0_12 k0_pay28
  rw [View.canon_unit_zero (by decide)]
  unfold k0_pay9
  generalize k0_pay8 (F := 𝔽) _ _ _ _ _ _ _ = y
  pointwise

/-- The second output block, at an index. -/
theorem out13_at (r : Fin 512) (k : Fin 1024) :
    out0_13 x0 x1 x2 x3 x4 x5 x6 x7 x8 x9 x10 x11 (ix3 0 r k)
      = Ffn.hidden (rowRes x0 x1 x2 x3 x4 x5 x6 x7 x8 r) (fun k => x9 (ix2 0 k)) (fun k => x5 (ix3 0 3 k)) (fun k => x5 (ix3 0 4 k)) k := by
  unfold out0_13
  rw [View.canon_unit_zero (by decide)]
  refine (pay12_at _ _ _ _ r k).trans ?_
  have h : k0_pay29 x0 x1 x2 x3 x4 x5 x6 x7 x8 x9 x10 x11 (ix2 r 0) = _ := pay10_at _ _ _ _ _ _ _ r
  have e : ∀ k, k0_pay8 (k0_pay26 x0 x1 x2 x3 x4 x5 x6 x7 x8 x9 x10 x11) (k0_pay27 x0 x1 x2 x3 x4 x5 x6 x7 x8 x9 x10 x11)
      (View.ld x6 r0_8) (View.ld x7 r0_9) (View.ld x4 r0_10) (View.ld x5 r0_0) (View.ld x8 r0_11) (ix2 r k)
        = rowRes x0 x1 x2 x3 x4 x5 x6 x7 x8 r k := pay28_at x0 x1 x2 x3 x4 x5 x6 x7 x8 x9 x10 x11 r
  rw [h, pay28_at]
  simp only [e]
  unfold Ffn.hidden Ffn.norm k0_pay25
  generalize rowRes x0 x1 x2 x3 x4 x5 x6 x7 x8 r = z
  pointwise [k0_pay2]

end Cert.Router
end
-- ==== Proof.Router.Ref.lean ====
/- The routing layer's reference takes the same first steps as the feed-forward layer's, so its arrays are the same functions of one row. -/
module

public import proofs.«01_k».proof.Proof.Gen.Reference6Ideal.Read
public import proofs.«01_k».proof.Proof.Ffn.Ref

@[expose] public section
set_option maxRecDepth 16384
noncomputable section
namespace Cert.Router.Ref
open Idealize.ShloMosaic Idealize.ShloMosaic.TcCoe Cert.Reference6Ideal Cert.Reference6Ideal.Read Cert.Ffn

local notation "𝔽" => Ideal

variable (x0 x1 x2 x3 : FVec 𝔽 S16x2048x256 .bf16) (x4 : FVec 𝔽 S16x2048x1024 .f32) (x5 : FVec 𝔽 S16x6x1024 .f32)
  (x6 : FVec 𝔽 S4x256 .f32) (x7 : FVec 𝔽 S1024x1024 .bf16) (x8 x9 : FVec 𝔽 S1024 .f32)

theorem v38_eq : val_main_v38 (F := 𝔽) x0 x1 x2 x3 x4 x5 x6 x7 x8
    = Cert.Reference2Ideal.Read.val_main_v38 (F := 𝔽) x0 x1 x2 x3 x4 x5 x6 x7 x8 := rfl

theorem v59_eq : val_main_v59 (F := 𝔽) x0 x1 x2 x3 x4 x5 x6 x7 x8 x9
    = Cert.Reference2Ideal.Read.val_main_v59 (F := 𝔽) x0 x1 x2 x3 x4 x5 x6 x7 x8 x9 := rfl

theorem v60_eq : val_main_v60 (F := 𝔽) x0 x1 x2 x3 x4 x5 x6 x7 x8 x9
    = val_main_v59 (F := 𝔽) x0 x1 x2 x3 x4 x5 x6 x7 x8 x9 := by
  unfold val_main_v60
  rfl

end Cert.Router.Ref
end
-- ==== Proof.Router.Arrays.lean ====
/-
  The routing layer's mixing kernel's first two arrays after its run: every output block at its place in its array.
-/
module

public import proofs.«01_k».proof.Proof.Router.Block
public import proofs.«01_k».proof.Proof.Router.Ref
public import Idealize.ShloMosaic.Lib.Pipeline.ValueKit

@[expose] public section
set_option maxRecDepth 16384
noncomputable section
namespace Cert.Router
open Idealize.ShloMosaic Idealize.ShloMosaic.TcCoe Cert.Kernel6Ideal Cert.Kernel6Ideal.Gen

local notation "𝔽" => Ideal
variable (m : (ℓ : Loc nD τ sig) → Buf (Elt 𝔽) ℓ) (c : Dev nD)

/-- Which block each window shows at each grid point. -/
theorem idx : ∀ t : Fin cfg0.N, win0_0.index t = ![t.val / 4, t.val % 4, 0] ∧ win0_1.index t = ![t.val / 4, t.val % 4, 0]
    ∧ win0_2.index t = ![t.val / 4, t.val % 4, 0] ∧ win0_3.index t = ![t.val / 4, t.val % 4, 0] ∧ win0_4.index t = ![t.val / 4, t.val % 4, 0]
    ∧ win0_5.index t = ![t.val / 4, 0, 0] ∧ win0_6.index t = ![0, 0] ∧ win0_7.index t = ![0, 0] ∧ win0_8.index t = ![0, 0]
    ∧ win0_9.index t = ![0, 0] ∧ win0_12.index t = ![t.val / 4, t.val % 4, 0] ∧ win0_13.index t = ![t.val / 4, t.val % 4, 0] :=
  (by decide +kernel : ∀ t : Fin grid0.N, _)

/-- The batch entry a grid point works on. -/
def bOf (t : Fin cfg0.N) : Fin 16 := ⟨t.val / 4, by have : t.val < 64 := t.isLt; omega⟩
/-- The token a block row of a grid point is. -/
def rowOf (t : Fin cfg0.N) (r : Fin 512) : Fin 2048 := ⟨t.val % 4 * 512 + r.val, by omega⟩

theorem b0 (t : Fin cfg0.N) (r : Fin 512) (j : Fin 256) :
    iblk m c 0 t (ix3 0 r j) = m ((c.tc : Thread nD τ).loc main_arg0) (ix3 (bOf t) (rowOf t r) j) := by
  rw [← V_main_arg0 m c]
  unfold bOf rowOf
  blk_ext [iblk, idx t]

theorem b1 (t : Fin cfg0.N) (r : Fin 512) (j : Fin 256) :
    iblk m c 1 t (ix3 0 r j) = m ((c.tc : Thread nD τ).loc main_arg1) (ix3 (bOf t) (rowOf t r) j) := by
  rw [← V_main_arg1 m c]
  unfold bOf rowOf
  blk_ext [iblk, idx t]

theorem b2 (t : Fin cfg0.N) (r : Fin 512) (j : Fin 256) :
    iblk m c 2 t (ix3 0 r j) = m ((c.tc : Thread nD τ).loc main_arg2) (ix3 (bOf t) (rowOf t r) j) := by
  rw [← V_main_arg2 m c]
  unfold bOf rowOf
  blk_ext [iblk, idx t]

theorem b3 (t : Fin cfg0.N) (r : Fin 512) (j : Fin 256) :
    iblk m c 3 t (ix3 0 r j) = m ((c.tc : Thread nD τ).loc main_arg3) (ix3 (bOf t) (rowOf t r) j) := by
  rw [← V_main_arg3 m c]
  unfold bOf rowOf
  blk_ext [iblk, idx t]

theorem b4 (t : Fin cfg0.N) (r : Fin 512) (j : Fin 1024) :
    iblk m c 4 t (ix3 0 r j) = m ((c.tc : Thread nD τ).loc main_arg4) (ix3 (bOf t) (rowOf t r) j) := by
  rw [← V_main_arg4 m c]
  unfold bOf rowOf
  blk_ext [iblk, idx t]

theorem b5 (t : Fin cfg0.N) (q : Fin 6) (k : Fin 1024) :
    iblk m c 5 t (ix3 0 q k) = m ((c.tc : Thread nD τ).loc main_arg5) (ix3 (bOf t) q k) := by
  rw [← V_main_arg5 m c]
  unfold bOf
  blk_ext [iblk, idx t]

theorem b6 (t : Fin cfg0.N) (a : Fin 4) (j : Fin 256) :
    iblk m c 6 t (ix2 a j) = m ((c.tc : Thread nD τ).loc main_arg6) (ix2 a j) := by
  rw [← V_main_arg6 m c]
  blk_ext [iblk, idx t]

theorem b7 (t : Fin cfg0.N) (a : Fin 1024) (j : Fin 1024) :
    iblk m c 7 t (ix2 a j) = m ((c.tc : Thread nD τ).loc main_arg7) (ix2 a j) := by
  rw [← V_main_arg7 m c]
  blk_ext [iblk, idx t]

theorem b8 (t : Fin cfg0.N) (k : Fin 1024) :
    iblk m c 8 t (ix2 0 k) = m ((c.tc : Thread nD τ).loc main_arg8) (ix1 k) := by
  have h : V m c main_v3 = shapeCast S1x1024 (m ((c.tc : Thread nD τ).loc main_arg8)) shapeCasts_S1024_S1x1024 := by
    unfold V
    entry_read
    rfl
  have e : iblk m c 8 t = fun y => V m c main_v3 (ix2 0 (y 1)) := by
    funext y
    blk_ext [iblk, idx t]
  rw [e, h]
  pointwise

theorem b9 (t : Fin cfg0.N) (k : Fin 1024) :
    iblk m c 9 t (ix2 0 k) = m ((c.tc : Thread nD τ).loc main_arg9) (ix1 k) := by
  have h : V m c main_v4 = shapeCast S1x1024 (m ((c.tc : Thread nD τ).loc main_arg9)) shapeCasts_S1024_S1x1024 := by
    unfold V
    entry_read
    rfl
  have e : iblk m c 9 t = fun y => V m c main_v4 (ix2 0 (y 1)) := by
    funext y
    blk_ext [iblk, idx t]
  rw [e, h]
  pointwise

/-- A grid point's rows after the residual are the reference's first result at the rows the point works on. -/
theorem rows (t : Fin cfg0.N) (r : Fin 512) (k : Fin 1024) :
    rowRes (iblk m c 0 t) (iblk m c 1 t) (iblk m c 2 t) (iblk m c 3 t) (iblk m c 4 t) (iblk m c 5 t) (iblk m c 6 t) (iblk m c 7 t)
        (iblk m c 8 t) r k
      = Cert.Reference6Ideal.Read.val_main_v38 (F := 𝔽) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (ix3 (bOf t) (rowOf t r) k) := by
  have hg : (fun (g : Fin 4) (j : Fin 256) => (![iblk m c 0 t, iblk m c 1 t, iblk m c 2 t, iblk m c 3 t] g) (ix3 0 r j))
      = fun g j => (![(m ((c.tc : Thread nD τ).loc main_arg0)), (m ((c.tc : Thread nD τ).loc main_arg1)), (m ((c.tc : Thread nD τ).loc main_arg2)), (m ((c.tc : Thread nD τ).loc main_arg3))] g) (ix3 (bOf t) (rowOf t r) j) := by
    funext g j
    fin_cases g
    · exact b0 m c t r j
    · exact b1 m c t r j
    · exact b2 m c t r j
    · exact b3 m c t r j
  unfold rowRes
  rw [Ref.v38_eq, Ffn.Ref.v38_at, hg]
  simp only [b4, b5, b6, b7, b8]

/-- The same for the normalised rows and the second result. -/
theorem rows' (t : Fin cfg0.N) (r : Fin 512) (k : Fin 1024) :
    Ffn.hidden (rowRes (iblk m c 0 t) (iblk m c 1 t) (iblk m c 2 t) (iblk m c 3 t) (iblk m c 4 t) (iblk m c 5 t) (iblk m c 6 t)
        (iblk m c 7 t) (iblk m c 8 t) r) (fun k => iblk m c 9 t (ix2 0 k)) (fun k => iblk m c 5 t (ix3 0 3 k))
        (fun k => iblk m c 5 t (ix3 0 4 k)) k
      = Cert.Reference6Ideal.Read.val_main_v60 (F := 𝔽) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (ix3 (bOf t) (rowOf t r) k) := by
  rw [Ref.v60_eq, Ref.v59_eq, Ffn.Ref.v59_at, ← Ref.v38_eq, funext (rows m c t r)]
  simp only [b5, b9]

theorem at_index12 (t : Fin cfg0.N) (y : ((cfg0.win 12).xblock (cfg0.grid.coords t)).Idx) :
    ∃ (r : Fin 512) (k : Fin 1024), (cfg0.win 12).xinj (cfg0.grid.coords t) y = (ix3 0 r k : S1x512x1024.Idx)
      ∧ ((cfg0.win 12).blk t).view.emb y = (ix3 (bOf t) (rowOf t r) k : S16x2048x1024.Idx) := by
  have h0 : (y 0).val < 1 := (y 0).isLt
  refine ⟨y 1, y 2, ?_, ?_⟩
  · blk_ext [idx t]
  · unfold bOf rowOf
    blk_ext [idx t]

/-- The first output array is the reference's first result. -/
theorem result12 : (dats m 0 c).arrAt 12 cfg0.N
    = Cert.Reference6Ideal.Read.val_main_v38 (F := 𝔽) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (dats m 0 c).arrAt_eq_of_covers 12 _ (by decide +kernel) fun t hf y => ?_
  rw [after0_12]
  obtain ⟨r, k, hy, he⟩ := at_index12 t y
  rw [hy, he]
  rw [cast_eq, out12_at]
  exact rows m c t r k

theorem at_index13 (t : Fin cfg0.N) (y : ((cfg0.win 13).xblock (cfg0.grid.coords t)).Idx) :
    ∃ (r : Fin 512) (k : Fin 1024), (cfg0.win 13).xinj (cfg0.grid.coords t) y = (ix3 0 r k : S1x512x1024.Idx)
      ∧ ((cfg0.win 13).blk t).view.emb y = (ix3 (bOf t) (rowOf t r) k : S16x2048x1024.Idx) := by
  have h0 : (y 0).val < 1 := (y 0).isLt
  refine ⟨y 1, y 2, ?_, ?_⟩
  · blk_ext [idx t]
  · unfold bOf rowOf
    blk_ext [idx t]

/-- The second output array is the reference's second result. -/
theorem result13 : (dats m 0 c).arrAt 13 cfg0.N
    = Cert.Reference6Ideal.Read.val_main_v60 (F := 𝔽) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (dats m 0 c).arrAt_eq_of_covers 13 _ (by decide +kernel) fun t hf y => ?_
  rw [after0_13]
  obtain ⟨r, k, hy, he⟩ := at_index13 t y
  rw [hy, he]
  rw [cast_eq, out13_at]
  exact rows' m c t r k

end Cert.Router
end
-- ==== Proof.Router.Claims.lean ====
/- The claims about the routing layer's mixing step: the kernel's first two output arrays are the reference's. -/
module

public import proofs.«01_k».proof.Defs
public import proofs.«01_k».proof.Proof.Gen.Kernel6
public import proofs.«01_k».proof.Proof.Gen.Kernel6.Frame
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Router.Arrays
public import Idealize.ShloMosaic.Adequacy
public import Idealize.ShloMosaic.Init

@[expose] public section

noncomputable section

namespace Cert.Proof

open Idealize.ShloMosaic Idealize.SL.Sem Idealize.ShloMosaic.StableHlo

/-! ## The routing layer's mixing step -/

theorem frame_kernel6 : Cert.quiescent_Kernel6 := fun m ρ _ => Cert.Kernel6.Gen.frame m ρ

theorem frame_ideal6 : Cert.quiescent_Kernel6Ideal := fun m ρ _ => Cert.Kernel6Ideal.Gen.frame m ρ

theorem frame_refIdeal6 : Cert.quiescent_Reference6Ideal := fun m ρ _ =>
  (θ_run Cert.Reference6Ideal.defs _ _).mono
    (fun r h => ⟨fun c => (h c).2.2, Idealize.ShloMosaic.sem_eq_zero_of_no_sems (by decide) r.2⟩)
    (Cert.Reference6Ideal.Value.run (F := Ideal) m ρ)

theorem mix38_congr {a0 b0 : FVec Ideal Cert.Reference6Ideal.S16x2048x256 .bf16} {a1 b1 : FVec Ideal Cert.Reference6Ideal.S16x2048x256 .bf16} {a2 b2 : FVec Ideal Cert.Reference6Ideal.S16x2048x256 .bf16} {a3 b3 : FVec Ideal Cert.Reference6Ideal.S16x2048x256 .bf16} {a4 b4 : FVec Ideal Cert.Reference6Ideal.S16x2048x1024 .f32} {a5 b5 : FVec Ideal Cert.Reference6Ideal.S16x6x1024 .f32} {a6 b6 : FVec Ideal Cert.Reference6Ideal.S4x256 .f32} {a7 b7 : FVec Ideal Cert.Reference6Ideal.S1024x1024 .bf16} {a8 b8 : FVec Ideal Cert.Reference6Ideal.S1024 .f32}
    (h0 : a0 = b0) (h1 : a1 = b1) (h2 : a2 = b2) (h3 : a3 = b3) (h4 : a4 = b4) (h5 : a5 = b5) (h6 : a6 = b6) (h7 : a7 = b7) (h8 : a8 = b8) :
    Cert.Reference6Ideal.Read.val_main_v38 (F := Ideal) a0 a1 a2 a3 a4 a5 a6 a7 a8
      = Cert.Reference6Ideal.Read.val_main_v38 (F := Ideal) b0 b1 b2 b3 b4 b5 b6 b7 b8 := by
  rw [h0, h1, h2, h3, h4, h5, h6, h7, h8]

theorem mix60_congr {a0 b0 : FVec Ideal Cert.Reference6Ideal.S16x2048x256 .bf16} {a1 b1 : FVec Ideal Cert.Reference6Ideal.S16x2048x256 .bf16} {a2 b2 : FVec Ideal Cert.Reference6Ideal.S16x2048x256 .bf16} {a3 b3 : FVec Ideal Cert.Reference6Ideal.S16x2048x256 .bf16} {a4 b4 : FVec Ideal Cert.Reference6Ideal.S16x2048x1024 .f32} {a5 b5 : FVec Ideal Cert.Reference6Ideal.S16x6x1024 .f32} {a6 b6 : FVec Ideal Cert.Reference6Ideal.S4x256 .f32} {a7 b7 : FVec Ideal Cert.Reference6Ideal.S1024x1024 .bf16} {a8 b8 : FVec Ideal Cert.Reference6Ideal.S1024 .f32} {a9 b9 : FVec Ideal Cert.Reference6Ideal.S1024 .f32}
    (h0 : a0 = b0) (h1 : a1 = b1) (h2 : a2 = b2) (h3 : a3 = b3) (h4 : a4 = b4) (h5 : a5 = b5) (h6 : a6 = b6) (h7 : a7 = b7) (h8 : a8 = b8) (h9 : a9 = b9) :
    Cert.Reference6Ideal.Read.val_main_v60 (F := Ideal) a0 a1 a2 a3 a4 a5 a6 a7 a8 a9
      = Cert.Reference6Ideal.Read.val_main_v60 (F := Ideal) b0 b1 b2 b3 b4 b5 b6 b7 b8 b9 := by
  rw [h0, h1, h2, h3, h4, h5, h6, h7, h8, h9]

theorem value_ideal6 : Cert.algebraic_Kernel6Ideal_Reference6Ideal := by
  intro m g m' g' _ hagree
  refine ⟨_, _, (θ_run Cert.Kernel6Ideal.defs _ _).mono
    (fun _ h c => ⟨((h.1 c).1 12).trans (Cert.Router.result12 m c), ((h.1 c).1 13).trans (Cert.Router.result13 m c), h.2 c⟩)
    (θ_run_and (Cert.Kernel6Ideal.Gen.run_main (F := Ideal) m g) (Cert.Kernel6Ideal.Gen.unchanged (F := Ideal) m g)), ?_⟩
  refine (θ_run Cert.Reference6Ideal.defs _ _).mono (fun _ h c => ⟨?_, ?_, (h c).2.2⟩) (Cert.Reference6Ideal.Value.run (F := Ideal) m' g')
  · obtain ⟨h0, h1, h2, h3, h4, h5, h6, h7, h8, h9, h10, h11⟩ := hagree c
    exact (h c).1.trans ((Cert.Reference6Ideal.Read.val_main_v38_eq m' c).trans (mix38_congr h0 h1 h2 h3 h4 h5 h6 h7 h8))
  · obtain ⟨h0, h1, h2, h3, h4, h5, h6, h7, h8, h9, h10, h11⟩ := hagree c
    exact (h c).2.1.trans ((Cert.Reference6Ideal.Read.val_main_v60_eq m' c).trans (mix60_congr h0 h1 h2 h3 h4 h5 h6 h7 h8 h9))

end Cert.Proof

end
-- ==== Proof.lean ====
/- The claims about the slot table, each from one run of the kernel (`Slot.run_main`, at any float values) and one of
   the reference; both end at the same scatter of the assignments over the same fill words. -/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Reference.Run
public import proofs.«01_k».proof.Proof.Gen.Reference
public import proofs.«01_k».proof.Proof.Gen.Pre_rows_in_table
public import proofs.«01_k».proof.Proof.Gen.Kernel2
public import proofs.«01_k».proof.Proof.Gen.Kernel2.Skeleton
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Claims
public import proofs.«01_k».proof.Proof.Ffn.Claims
public import proofs.«01_k».proof.Proof.Experts.Claims
public import proofs.«01_k».proof.Proof.Combine.Claims
public import proofs.«01_k».proof.Proof.InProj.Claims
public import proofs.«01_k».proof.Proof.Router.Claims
public import Idealize.ShloMosaic.Adequacy
public import Idealize.ShloMosaic.Init

@[expose] public section

noncomputable section

namespace Cert.Proof

open Idealize.ShloMosaic Idealize.SL.Sem

/-! ## The precondition, as the run takes it -/

theorem ok_kernel (m : (ℓ : Loc Cert.Kernel.nD Cert.Kernel.τ Cert.Kernel.sig) → Buf (Elt Bits) ℓ) (h : Cert.Pre_Kernel m) :
    Slot.PreOK (F := Bits) m := fun d j => Slots.row_lt (F := Bits) _ (h d) j

theorem ok_ideal (m : (ℓ : Loc Cert.KernelIdeal.nD Cert.KernelIdeal.τ Cert.KernelIdeal.sig) → Buf (Elt Ideal) ℓ) (h : Cert.Pre_KernelIdeal m) :
    Slot.PreOK (F := Ideal) m := fun d j => Slots.row_lt (F := Ideal) _ (h d) j

/-! ## The frames -/

theorem frame_kernel : Cert.quiescent_Kernel := fun m ρ h =>
  (θ_run Cert.KernelIdeal.defs _ _).mono (fun _ h => ⟨fun c => (h.1 c).2, h.2⟩) (Slot.run_main (F := Bits) m ρ (ok_kernel m h))

theorem frame_ideal : Cert.quiescent_KernelIdeal := fun m ρ h =>
  (θ_run Cert.KernelIdeal.defs _ _).mono (fun _ h => ⟨fun c => (h.1 c).2, h.2⟩) (Slot.run_main (F := Ideal) m ρ (ok_ideal m h))

theorem frame_refIdeal : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem frame_ref : Cert.quiescent_Reference := fun m ρ _ =>
  (θ_run Cert.Reference.defs _ _).mono (fun r h => ⟨fun c => (h c).2, Idealize.ShloMosaic.sem_eq_zero_of_no_sems (by decide) r.2⟩)
    (Cert.Reference.Value.run (F := Bits) m ρ)

/-! ## The values -/

theorem value_bits : Cert.bitexact_Kernel_Reference := by
  intro m g m' g' hpre hagree
  have hok := ok_kernel m hpre
  refine ⟨fun c => Slot.Tn m (Slot.fills m) c 65536,
    (θ_run Cert.KernelIdeal.defs _ _).mono (fun _ h => h.1) (Slot.run_main (F := Bits) m g hok), ?_⟩
  refine (θ_run Cert.Reference.defs _ _).mono (fun _ h c => ⟨?_, (h c).2⟩)
    (Cert.Reference.Value.run (F := Bits) m' g')
  refine (h c).1.trans ?_
  rw [hagree c]
  exact Slot.scatter_eq m hok c

theorem value_ideal : Cert.algebraic_KernelIdeal_ReferenceIdeal := by
  intro m g m' g' hpre hagree
  have hok := ok_ideal m hpre
  refine ⟨fun c => Slot.Tn m (Slot.fills m) c 65536,
    (θ_run Cert.KernelIdeal.defs _ _).mono (fun _ h => h.1) (Slot.run_main (F := Ideal) m g hok), ?_⟩
  refine (θ_run Cert.ReferenceIdeal.defs _ _).mono (fun _ h c => ⟨?_, (h c).2⟩)
    (Cert.ReferenceIdeal.Value.run (F := Ideal) m' g')
  refine (h c).1.trans ?_
  rw [hagree c]
  exact Slot.scatter_eq m hok c

theorem claim : Cert.Claim := ⟨Cert.Kernel.Gen.facts, Cert.KernelIdeal.Gen.facts, Cert.ReferenceIdeal.Gen.facts, Cert.Reference.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Pre_rows_in_table.Gen.facts, Cert.Pre_experts_exist.Gen.facts,
  frame_kernel, frame_ideal, frame_refIdeal, fun m ρ _ => frame_refIdeal m ρ trivial, frame_ref,
  frame_kernel2, frame_ideal2, frame_refIdeal2, frame_kernel3, frame_ideal3, frame_refIdeal3, fun m ρ _ => frame_refIdeal3 m ρ trivial,
  frame_kernel4, frame_ideal4, frame_refIdeal4, frame_kernel5, frame_ideal5, frame_refIdeal5,
  frame_kernel6, frame_ideal6, frame_refIdeal6,
  trivial, value_bits, value_ideal, trivial, value_ideal2, trivial, value_ideal3,
  trivial, value_ideal4, trivial, value_ideal5, trivial, value_ideal6⟩

end Cert.Proof

end
